-- ==== Defs.lean ====
def Pre_Kernel [hPre_blocks_sorted : Cert.Pre_blocks_sorted.Facts] (m : (ℓ : Loc Cert.Kernel.nD Cert.Kernel.τ Cert.Kernel.sig) → Buf (Elt Bits) ℓ) : Prop :=
  ∀ c : Dev Cert.Kernel.nD,
    (Cert.Pre_blocks_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_blocks_sorted : Cert.Pre_blocks_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_blocks_sorted : Cert.Pre_blocks_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_blocks_sorted : Cert.Pre_blocks_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_blocks_sorted : Cert.Pre_blocks_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_blocks_sorted : Cert.Pre_blocks_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_blocks_sorted : Cert.Pre_blocks_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_3)) (v2 : (c : Dev Cert.Kernel2Ideal.nD) → Buf (Elt Ideal) ((c.tc : Thread Cert.Kernel2Ideal.nD Cert.Kernel2Ideal.τ).loc Cert.Kernel2Ideal.main_v0_4)) (v3 : (c : Dev Cert.Kernel2Ideal.nD) → Buf (Elt Ideal) ((c.tc : Thread Cert.Kernel2Ideal.nD Cert.Kernel2Ideal.τ).loc Cert.Kernel2Ideal.main_v0_5)) (v4 : (c : Dev Cert.Kernel2Ideal.nD) → Buf (Elt Ideal) ((c.tc : Thread Cert.Kernel2Ideal.nD Cert.Kernel2Ideal.τ).loc Cert.Kernel2Ideal.main_v0_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_3) = v1 c
          ∧ r.2.mem ((c.tc : Thread Cert.Kernel2Ideal.nD Cert.Kernel2Ideal.τ).loc Cert.Kernel2Ideal.main_v0_4) = v2 c
          ∧ r.2.mem ((c.tc : Thread Cert.Kernel2Ideal.nD Cert.Kernel2Ideal.τ).loc Cert.Kernel2Ideal.main_v0_5) = v3 c
          ∧ r.2.mem ((c.tc : Thread Cert.Kernel2Ideal.nD Cert.Kernel2Ideal.τ).loc Cert.Kernel2Ideal.main_v0_6) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_v60) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_blocks_sorted : Cert.Pre_blocks_sorted.Facts),
    quiescent_Kernel (hKernel := hKernel) (hPre_blocks_sorted := hPre_blocks_sorted)
    ∧ quiescent_KernelIdeal (hKernelIdeal := hKernelIdeal) (hPre_blocks_sorted := hPre_blocks_sorted)
    ∧ quiescent_ReferenceIdeal (hReferenceIdeal := hReferenceIdeal) (hPre_blocks_sorted := hPre_blocks_sorted)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_blocks_sorted := hPre_blocks_sorted)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_blocks_sorted.lean ====
abbrev S288 : Shape := ⟨1, ![288]⟩
abbrev S1 : Shape := ⟨1, ![1]⟩
abbrev S589824x128 : Shape := ⟨2, ![589824, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S287 : Shape := ⟨1, ![287]⟩

class Facts : Prop where
  bcast_S_S288 : S_.BroadcastsInDim S288 (![] : Fin 0 → Fin S288.rank)
  reducesTo_S288_S_d0 : S288.ReducesTo [0] S_
  h_S_ : 0 < S_.numel
  slices_S288_S287_1 : S288.Slices ![1] S287
  slices_S288_S287_0 : S288.Slices ![0] S287
  reducesTo_S287_S_d0 : S287.ReducesTo [0] S_
  shapeCasts_S1_S_ : S1.ShapeCasts S_

variable [Facts]

def fn_part1 {F : FTy → Type} [FloatOps F] (main_v14 : IVec S_ 1) (main_v16 : IVec S_ 1) : IVec S_ 1 :=
  let main_v17 : IVec S_ 1 := andi main_v14 main_v16
  main_v17

def fn {F : FTy → Type} [FloatOps F] (main_arg0 : IVec S288 32) (main_arg1 : IVec S1 32) (main_arg2 : FVec F S589824x128 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg0 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  let main_v7 : IVec S287 32 := (extractStridedSlice S287 ![1] · slices_S288_S287_1) main_arg0
  let main_v8 : IVec S287 32 := (extractStridedSlice S287 ![0] · slices_S288_S287_0) main_arg0
  let main_v9 : IVec S287 1 := cmpi .sge main_v7 main_v8
  let main_c_3 : IVec S_ 1 := constantI S_ 1 1#1
  let main_v10 : IVec S_ 1 := (fun x v => Host.reduce IntOp.andi x v reducesTo_S287_S_d0 h_S_) main_v9 main_c_3
  let main_v11 : IVec S_ 1 := andi main_v6 main_v10
  let main_v12 : IVec S_ 32 := shapeCast S_ main_arg1 shapeCasts_S1_S_
  let main_c_4 : IVec S_ 32 := constantI S_ 32 1#32
  let main_v13 : IVec S_ 1 := cmpi .sge main_v12 main_c_4
  let main_v14 : IVec S_ 1 := andi main_v11 main_v13
  let main_v15 : IVec S_ 32 := shapeCast S_ main_arg1 shapeCasts_S1_S_
  let main_c_5 : IVec S_ 32 := constantI S_ 32 288#32
  let main_v16 : IVec S_ 1 := cmpi .sle main_v15 main_c_5
  fn_part1 (F := F) main_v14 main_v16
-- ==== Kernel.lean ====
abbrev S288 : Shape := ⟨1, ![288]⟩
abbrev S1 : Shape := ⟨1, ![1]⟩
abbrev S589824x128 : Shape := ⟨2, ![589824, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x288 : Shape := ⟨2, ![1, 288]⟩
abbrev S288x1 : Shape := ⟨2, ![288, 1]⟩
abbrev S288x288 : Shape := ⟨2, ![288, 288]⟩
abbrev S_ : Shape := ⟨0, ![]⟩
abbrev S32x1x2048 : Shape := ⟨3, ![32, 1, 2048]⟩
abbrev S32x1x1024 : Shape := ⟨3, ![32, 1, 1024]⟩
abbrev S2048x128 : Shape := ⟨2, ![2048, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2 : Shape := ⟨1, ![2]⟩
abbrev S2x2 : Shape := ⟨2, ![2, 2]⟩
abbrev S1x1 : Shape := ⟨2, ![1, 1]⟩
abbrev S1x1024x2048 : Shape := ⟨3, ![1, 1024, 2048]⟩
abbrev S1x1024x1024 : Shape := ⟨3, ![1, 1024, 1024]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 34
  | .vmem => 12
  | .smem => 4
  | _ => 0

abbrev bufTy : (tb : Table) → Fin (tcTables nBuf tb) → BufTy
  | .hbm, ⟨0, _⟩ => ⟨S589824x128, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S1x288, .i32⟩
  | .hbm, ⟨6, _⟩ => ⟨S288x1, .i32⟩
  | .hbm, ⟨7, _⟩ => ⟨S288x288, .i32⟩
  | .hbm, ⟨8, _⟩ => ⟨S288x288, .i32⟩
  | .hbm, ⟨9, _⟩ => ⟨S288x288, .i1⟩
  | .hbm, ⟨10, _⟩ => ⟨S288, .i32⟩
  | .hbm, ⟨11, _⟩ => ⟨S1x288, .i32⟩
  | .hbm, ⟨12, _⟩ => ⟨S_, .i32⟩
  | .hbm, ⟨13, _⟩ => ⟨S1x288, .i32⟩
  | .hbm, ⟨14, _⟩ => ⟨S1x288, .i1⟩
  | .hbm, ⟨15, _⟩ => ⟨S288x288, .i1⟩
  | .hbm, ⟨16, _⟩ => ⟨S288x288, .i1⟩
  | .hbm, ⟨17, _⟩ => ⟨S1x288, .i32⟩
  | .hbm, ⟨18, _⟩ => ⟨S_, .i32⟩
  | .hbm, ⟨19, _⟩ => ⟨S_, .i32⟩
  | .hbm, ⟨20, _⟩ => ⟨S288x288, .i32⟩
  | .hbm, ⟨21, _⟩ => ⟨S288x288, .i32⟩
  | .hbm, ⟨22, _⟩ => ⟨S288x288, .i32⟩
  | .hbm, ⟨23, _⟩ => ⟨S_, .i32⟩
  | .hbm, ⟨24, _⟩ => ⟨S288, .i32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S_, .i32⟩
  | .hbm, ⟨30, _⟩ => ⟨S288, .i32⟩
  | .hbm, ⟨31, _⟩ => ⟨S32x1x2048, .f32⟩
  | .hbm, ⟨32, _⟩ => ⟨S32x1x1024, .f32⟩
  | .hbm, ⟨33, _⟩ => ⟨S589824x128, .f32⟩
  | .local _ .vmem, ⟨0, _⟩ => ⟨S2048x128, .f32⟩
  | .local _ .vmem, ⟨1, _⟩ => ⟨S2048x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S2048x128, .f32⟩
  | .local _ .vmem, ⟨7, _⟩ => ⟨S2048x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | .local _ .smem, ⟨3, _⟩ => ⟨S2, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_arg0 : Ref sig .tc := ⟨.smem, 0, rfl⟩
abbrev main_arg1 : Ref sig .tc := ⟨.smem, 1, rfl⟩
abbrev main_v17 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_v17.idx], fun | 0 => main_arg0.names | 1 => main_arg1.names | 2 => main_v17.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v1 : BitVec 32) : Fin 3 → Nat :=
  let c0_i32_10 : BitVec 32 := 0#32
  let c0_i32_11 : BitVec 32 := 0#32
  ![v1.toNat, 0, 0]

def k0_off3 (v1 : BitVec 32) : Fin 3 → Nat :=
  let c0_i32_17 : BitVec 32 := 0#32
  let c0_i32_18 : BitVec 32 := 0#32
  ![v1.toNat, 0, 0]

def k0_chk1 (i : grid0.Coords) (v1 : BitVec 32) : Prop :=
  (∀ (k0_h1 : k0_cond1 i = 1#1), ∀ a, (k0_off2 v1) a + S1x1024x2048.size a ≤ S32x1024x2048.size a) ∧
  (∀ (k0_h1 : k0_cond1 i = 1#1), ∀ a, (k0_off3 v1) a + S1x1024x1024.size a ≤ S32x1024x1024.size a)
theorem k0_off2_inb : ∀ (i : grid0.Coords) (v1 : BitVec 32) (k0_hw1 : k0_chk1 i v1), ∀ (k0_h1 : k0_cond1 i = 1#1), ∀ a, (k0_off2 v1) a + S1x1024x2048.size a ≤ S32x1024x2048.size a := fun i v1 k0_hw1 k0_h1 => k0_hw1.1 k0_h1
theorem k0_off3_inb : ∀ (i : grid0.Coords) (v1 : BitVec 32) (k0_hw1 : k0_chk1 i v1), ∀ (k0_h1 : k0_cond1 i = 1#1), ∀ a, (k0_off3 v1) a + S1x1024x1024.size a ≤ S32x1024x1024.size a := fun i v1 k0_hw1 k0_h1 => k0_hw1.2 k0_h1

def k0_off4 (v71 : BitVec 32) : Fin 2 → Nat :=
  let c0_i32_48 : BitVec 32 := 0#32
  let c1_i32 : BitVec 32 := 1#32
  let v72 : BitVec 32 := Scalar.subi c1_i32 v71
  ![0, v72.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_1 : BitVec 32 := 0#32
  let v8 : BitVec 1 := Scalar.cmpi .ne v7 c0_i32_1
  v8

def k0_cond3 (v1 : BitVec 32) (v13 : BitVec 32) : BitVec 1 :=
  let v14 : BitVec 1 := Scalar.cmpi .ne v13 v1
  let v15 : BitVec 32 := Scalar.extui v14
  let c0_i32_5 : BitVec 32 := 0#32
  let v16 : BitVec 1 := Scalar.cmpi .ne v15 c0_i32_5
  v16

def k0_off5 (v71 : BitVec 32) : Fin 3 → Nat :=
  let c1_i32 : BitVec 32 := 1#32
  let v72 : BitVec 32 := Scalar.subi c1_i32 v71
  let c0_i32_49 : BitVec 32 := 0#32
  let c0_i32_50 : BitVec 32 := 0#32
  ![v72.toNat, 0, 0]
def k0_off6 (v1 : BitVec 32) : Fin 3 → Nat :=
  let c0_i32_51 : BitVec 32 := 0#32
  let c0_i32_52 : BitVec 32 := 0#32
  ![v1.toNat, 0, 0]

def k0_off7 (v71 : BitVec 32) : Fin 2 → Nat :=
  let c1_i32_53 : BitVec 32 := 1#32
  let c1_i32 : BitVec 32 := 1#32
  let v72 : BitVec 32 := Scalar.subi c1_i32 v71
  ![1, v72.toNat]
def k0_off8 (v71 : BitVec 32) : Fin 3 → Nat :=
  let c1_i32 : BitVec 32 := 1#32
  let v72 : BitVec 32 := Scalar.subi c1_i32 v71
  let c0_i32_54 : BitVec 32 := 0#32
  let c0_i32_55 : BitVec 32 := 0#32
  ![v72.toNat, 0, 0]
def k0_off9 (v1 : BitVec 32) : Fin 3 → Nat :=
  let c0_i32_56 : BitVec 32 := 0#32
  let c0_i32_57 : BitVec 32 := 0#32
  ![v1.toNat, 0, 0]

def k0_chk3 (i : grid0.Coords) (v1 : BitVec 32) (v5 : BitVec 32) (v13 : BitVec 32) : Prop :=
  (∀ (k0_h2 : k0_cond2 i v5 = 1#1), ∀ (k0_h3 : k0_cond3 v1 v13 = 1#1), ∀ a, (k0_off6 v1) a + S1x1024x2048.size a ≤ S32x1024x2048.size a) ∧
  (∀ (k0_h2 : k0_cond2 i v5 = 1#1), ∀ (k0_h3 : k0_cond3 v1 v13 = 1#1), ∀ a, (k0_off9 v1) a + S1x1024x1024.size a ≤ S32x1024x1024.size a)
theorem k0_off6_inb : ∀ (i : grid0.Coords) (v1 : BitVec 32) (v5 : BitVec 32) (v13 : BitVec 32) (k0_hw3 : k0_chk3 i v1 v5 v13), ∀ (k0_h2 : k0_cond2 i v5 = 1#1), ∀ (k0_h3 : k0_cond3 v1 v13 = 1#1), ∀ a, (k0_off6 v1) a + S1x1024x2048.size a ≤ S32x1024x2048.size a := fun i v1 v5 v13 k0_hw3 k0_h2 k0_h3 => k0_hw3.1 k0_h2 k0_h3
theorem k0_off9_inb : ∀ (i : grid0.Coords) (v1 : BitVec 32) (v5 : BitVec 32) (v13 : BitVec 32) (k0_hw3 : k0_chk3 i v1 v5 v13), ∀ (k0_h2 : k0_cond2 i v5 = 1#1), ∀ (k0_h3 : k0_cond3 v1 v13 = 1#1), ∀ a, (k0_off9 v1) a + S1x1024x1024.size a ≤ S32x1024x1024.size a := fun i v1 v5 v13 k0_hw3 k0_h2 k0_h3 => k0_hw3.2 k0_h2 k0_h3

def k0_off10 (v71 : BitVec 32) : Fin 3 → Nat :=
  let c1_i32 : BitVec 32 := 1#32
  let v72 : BitVec 32 := Scalar.subi c1_i32 v71
  let v85 : Index := Scalar.indexCast v72
  let c0_58 : Index := 0#32
  let c0_59 : Index := 0#32
  ![v85.toNat, 0, 0]
def k0_off11 (v71 : BitVec 32) : Fin 3 → Nat :=
  let c1_i32 : BitVec 32 := 1#32
  let v72 : BitVec 32 := Scalar.subi c1_i32 v71
  let v92 : Index := Scalar.indexCast v72
  let c0_62 : Index := 0#32
  let c0_63 : Index := 0#32
  ![v92.toNat, 0, 0]

def k0_chk2 (i : grid0.Coords) (v1 : BitVec 32) (v5 : BitVec 32) (v13 : BitVec 32) (v71 : BitVec 32) : Prop :=
  (∀ (k0_h2 : k0_cond2 i v5 = 1#1), ∀ (k0_h3 : k0_cond3 v1 v13 = 1#1), ∀ a, (k0_off4 v71) a + S1x1.size a ≤ S2x2.size a) ∧
  (∀ (k0_h2 : k0_cond2 i v5 = 1#1), ∀ (k0_h3 : k0_cond3 v1 v13 = 1#1), ∀ a, (k0_off5 v71) a + S1x1024x2048.size a ≤ S2x1024x2048.size a) ∧
  (∀ (k0_h2 : k0_cond2 i v5 = 1#1), ∀ (k0_h3 : k0_cond3 v1 v13 = 1#1), ∀ a, (k0_off7 v71) a + S1x1.size a ≤ S2x2.size a) ∧
  (∀ (k0_h2 : k0_cond2 i v5 = 1#1), ∀ (k0_h3 : k0_cond3 v1 v13 = 1#1), ∀ a, (k0_off8 v71) a + S1x1024x1024.size a ≤ S2x1024x1024.size a) ∧
  (∀ (k0_h2 : k0_cond2 i v5 = 1#1), ∀ (k0_h3 : k0_cond3 v1 v13 = 1#1), ∀ a, (k0_off10 v71) a + S1x1024x2048.size a ≤ S2x1024x2048.size a) ∧
  (∀ (k0_h2 : k0_cond2 i v5 = 1#1), ∀ (k0_h3 : k0_cond3 v1 v13 = 1#1), ∀ a, (k0_off11 v71) a + S1x1024x1024.size a ≤ S2x1024x1024.size a)
theorem k0_off4_inb : ∀ (i : grid0.Coords) (v1 : BitVec 32) (v5 : BitVec 32) (v13 : BitVec 32) (v71 : BitVec 32) (k0_hw2 : k0_chk2 i v1 v5 v13 v71), ∀ (k0_h2 : k0_cond2 i v5 = 1#1), ∀ (k0_h3 : k0_cond3 v1 v13 = 1#1), ∀ a, (k0_off4 v71) a + S1x1.size a ≤ S2x2.size a := fun i v1 v5 v13 v71 k0_hw2 k0_h2 k0_h3 => k0_hw2.1 k0_h2 k0_h3
theorem k0_off5_inb : ∀ (i : grid0.Coords) (v1 : BitVec 32) (v5 : BitVec 32) (v13 : BitVec 32) (v71 : BitVec 32) (k0_hw2 : k0_chk2 i v1 v5 v13 v71), ∀ (k0_h2 : k0_cond2 i v5 = 1#1), ∀ (k0_h3 : k0_cond3 v1 v13 = 1#1), ∀ a, (k0_off5 v71) a + S1x1024x2048.size a ≤ S2x1024x2048.size a := fun i v1 v5 v13 v71 k0_hw2 k0_h2 k0_h3 => k0_hw2.2.1 k0_h2 k0_h3
theorem k0_off7_inb : ∀ (i : grid0.Coords) (v1 : BitVec 32) (v5 : BitVec 32) (v13 : BitVec 32) (v71 : BitVec 32) (k0_hw2 : k0_chk2 i v1 v5 v13 v71), ∀ (k0_h2 : k0_cond2 i v5 = 1#1), ∀ (k0_h3 : k0_cond3 v1 v13 = 1#1), ∀ a, (k0_off7 v71) a + S1x1.size a ≤ S2x2.size a := fun i v1 v5 v13 v71 k0_hw2 k0_h2 k0_h3 => k0_hw2.2.2.1 k0_h2 k0_h3
theorem k0_off8_inb : ∀ (i : grid0.Coords) (v1 : BitVec 32) (v5 : BitVec 32) (v13 : BitVec 32) (v71 : BitVec 32) (k0_hw2 : k0_chk2 i v1 v5 v13 v71), ∀ (k0_h2 : k0_cond2 i v5 = 1#1), ∀ (k0_h3 : k0_cond3 v1 v13 = 1#1), ∀ a, (k0_off8 v71) a + S1x1024x1024.size a ≤ S2x1024x1024.size a := fun i v1 v5 v13 v71 k0_hw2 k0_h2 k0_h3 => k0_hw2.2.2.2.1 k0_h2 k0_h3
theorem k0_off10_inb : ∀ (i : grid0.Coords) (v1 : BitVec 32) (v5 : BitVec 32) (v13 : BitVec 32) (v71 : BitVec 32) (k0_hw2 : k0_chk2 i v1 v5 v13 v71), ∀ (k0_h2 : k0_cond2 i v5 = 1#1), ∀ (k0_h3 : k0_cond3 v1 v13 = 1#1), ∀ a, (k0_off10 v71) a + S1x1024x2048.size a ≤ S2x1024x2048.size a := fun i v1 v5 v13 v71 k0_hw2 k0_h2 k0_h3 => k0_hw2.2.2.2.2.1 k0_h2 k0_h3
theorem k0_off11_inb : ∀ (i : grid0.Coords) (v1 : BitVec 32) (v5 : BitVec 32) (v13 : BitVec 32) (v71 : BitVec 32) (k0_hw2 : k0_chk2 i v1 v5 v13 v71), ∀ (k0_h2 : k0_cond2 i v5 = 1#1), ∀ (k0_h3 : k0_cond3 v1 v13 = 1#1), ∀ a, (k0_off11 v71) a + S1x1024x1024.size a ≤ S2x1024x1024.size a := fun i v1 v5 v13 v71 k0_hw2 k0_h2 k0_h3 => k0_hw2.2.2.2.2.2 k0_h2 k0_h3

def k0_off12 (i : grid0.Coords) : Fin 1 → Nat :=
  let arg0 : BitVec 32 := BitVec.ofNat 32 (i 0).val
  let v101 : Index := Scalar.indexCast arg0
  ![v101.toNat]
def k0_off13 (i : grid0.Coords) : Fin 1 → Nat :=
  let arg0 : BitVec 32 := BitVec.ofNat 32 (i 0).val
  let v106 : Index := Scalar.indexCast arg0
  ![v106.toNat]
def k0_off14 (v71 : BitVec 32) : Fin 2 → Nat :=
  let c0_i32_71 : BitVec 32 := 0#32
  let c1_i32_70 : BitVec 32 := 1#32
  let c1_i32 : BitVec 32 := 1#32
  let v72 : BitVec 32 := Scalar.subi c1_i32 v71
  let v108 : BitVec 32 := Scalar.subi c1_i32_70 v72
  ![0, v108.toNat]
def k0_cond4 (v102 : BitVec 32) : BitVec 1 :=
  let c0_i32_68 : BitVec 32 := 0#32
  let v103 : BitVec 1 := Scalar.cmpi .sge v102 c0_i32_68
  let v104 : BitVec 32 := Scalar.extui v103
  let c0_i32_69 : BitVec 32 := 0#32
  let v105 : BitVec 1 := Scalar.cmpi .ne v104 c0_i32_69
  v105

def k0_off15 (v71 : BitVec 32) : Fin 3 → Nat :=
  let c1_i32_70 : BitVec 32 := 1#32
  let c1_i32 : BitVec 32 := 1#32
  let v72 : BitVec 32 := Scalar.subi c1_i32 v71
  let v108 : BitVec 32 := Scalar.subi c1_i32_70 v72
  let c0_i32_72 : BitVec 32 := 0#32
  let c0_i32_73 : BitVec 32 := 0#32
  ![v108.toNat, 0, 0]
def k0_off16 (v107 : BitVec 32) : Fin 3 → Nat :=
  let c0_i32_74 : BitVec 32 := 0#32
  let c0_i32_75 : BitVec 32 := 0#32
  ![v107.toNat, 0, 0]

def k0_off17 (v71 : BitVec 32) : Fin 2 → Nat :=
  let c1_i32_76 : BitVec 32 := 1#32
  let c1_i32_70 : BitVec 32 := 1#32
  let c1_i32 : BitVec 32 := 1#32
  let v72 : BitVec 32 := Scalar.subi c1_i32 v71
  let v108 : BitVec 32 := Scalar.subi c1_i32_70 v72
  ![1, v108.toNat]
def k0_off18 (v71 : BitVec 32) : Fin 3 → Nat :=
  let c1_i32_70 : BitVec 32 := 1#32
  let c1_i32 : BitVec 32 := 1#32
  let v72 : BitVec 32 := Scalar.subi c1_i32 v71
  let v108 : BitVec 32 := Scalar.subi c1_i32_70 v72
  let c0_i32_77 : BitVec 32 := 0#32
  let c0_i32_78 : BitVec 32 := 0#32
  ![v108.toNat, 0, 0]

def k0_chk4 (i : grid0.Coords) (v1 : BitVec 32) (v5 : BitVec 32) (v13 : BitVec 32) (v71 : BitVec 32) (v102 : BitVec 32) : Prop :=
  (∀ (k0_h2 : k0_cond2 i v5 = 1#1), ∀ (k0_h3 : k0_cond3 v1 v13 = 1#1), ∀ (k0_h4 : k0_cond4 v102 = 1#1), ∀ a, (k0_off14 v71) a + S1x1.size a ≤ S2x2.size a) ∧
  (∀ (k0_h2 : k0_cond2 i v5 = 1#1), ∀ (k0_h3 : k0_cond3 v1 v13 = 1#1), ∀ (k0_h4 : k0_cond4 v102 = 1#1), ∀ a, (k0_off15 v71) a + S1x1024x2048.size a ≤ S2x1024x2048.size a) ∧
  (∀ (k0_h2 : k0_cond2 i v5 = 1#1), ∀ (k0_h3 : k0_cond3 v1 v13 = 1#1), ∀ (k0_h4 : k0_cond4 v102 = 1#1), ∀ a, (k0_off17 v71) a + S1x1.size a ≤ S2x2.size a) ∧
  (∀ (k0_h2 : k0_cond2 i v5 = 1#1), ∀ (k0_h3 : k0_cond3 v1 v13 = 1#1), ∀ (k0_h4 : k0_cond4 v102 = 1#1), ∀ a, (k0_off18 v71) a + S1x1024x1024.size a ≤ S2x1024x1024.size a)
theorem k0_off14_inb : ∀ (i : grid0.Coords) (v1 : BitVec 32) (v5 : BitVec 32) (v13 : BitVec 32) (v71 : BitVec 32) (v102 : BitVec 32) (k0_hw4 : k0_chk4 i v1 v5 v13 v71 v102), ∀ (k0_h2 : k0_cond2 i v5 = 1#1), ∀ (k0_h3 : k0_cond3 v1 v13 = 1#1), ∀ (k0_h4 : k0_cond4 v102 = 1#1), ∀ a, (k0_off14 v71) a + S1x1.size a ≤ S2x2.size a := fun i v1 v5 v13 v71 v102 k0_hw4 k0_h2 k0_h3 k0_h4 => k0_hw4.1 k0_h2 k0_h3 k0_h4
theorem k0_off15_inb : ∀ (i : grid0.Coords) (v1 : BitVec 32) (v5 : BitVec 32) (v13 : BitVec 32) (v71 : BitVec 32) (v102 : BitVec 32) (k0_hw4 : k0_chk4 i v1 v5 v13 v71 v102), ∀ (k0_h2 : k0_cond2 i v5 = 1#1), ∀ (k0_h3 : k0_cond3 v1 v13 = 1#1), ∀ (k0_h4 : k0_cond4 v102 = 1#1), ∀ a, (k0_off15 v71) a + S1x1024x2048.size a ≤ S2x1024x2048.size a := fun i v1 v5 v13 v71 v102 k0_hw4 k0_h2 k0_h3 k0_h4 => k0_hw4.2.1 k0_h2 k0_h3 k0_h4
theorem k0_off17_inb : ∀ (i : grid0.Coords) (v1 : BitVec 32) (v5 : BitVec 32) (v13 : BitVec 32) (v71 : BitVec 32) (v102 : BitVec 32) (k0_hw4 : k0_chk4 i v1 v5 v13 v71 v102), ∀ (k0_h2 : k0_cond2 i v5 = 1#1), ∀ (k0_h3 : k0_cond3 v1 v13 = 1#1), ∀ (k0_h4 : k0_cond4 v102 = 1#1), ∀ a, (k0_off17 v71) a + S1x1.size a ≤ S2x2.size a := fun i v1 v5 v13 v71 v102 k0_hw4 k0_h2 k0_h3 k0_h4 => k0_hw4.2.2.1 k0_h2 k0_h3 k0_h4
theorem k0_off18_inb : ∀ (i : grid0.Coords) (v1 : BitVec 32) (v5 : BitVec 32) (v13 : BitVec 32) (v71 : BitVec 32) (v102 : BitVec 32) (k0_hw4 : k0_chk4 i v1 v5 v13 v71 v102), ∀ (k0_h2 : k0_cond2 i v5 = 1#1), ∀ (k0_h3 : k0_cond3 v1 v13 = 1#1), ∀ (k0_h4 : k0_cond4 v102 = 1#1), ∀ a, (k0_off18 v71) a + S1x1024x1024.size a ≤ S2x1024x1024.size a := fun i v1 v5 v13 v71 v102 k0_hw4 k0_h2 k0_h3 k0_h4 => k0_hw4.2.2.2 k0_h2 k0_h3 k0_h4

def k0_off19 (v107 : BitVec 32) : Fin 3 → Nat :=
  let c0_i32_79 : BitVec 32 := 0#32
  let c0_i32_80 : BitVec 32 := 0#32
  ![v107.toNat, 0, 0]

def k0_chk5 (i : grid0.Coords) (v1 : BitVec 32) (v5 : BitVec 32) (v13 : BitVec 32) (v102 : BitVec 32) (v107 : BitVec 32) : Prop :=
  (∀ (k0_h2 : k0_cond2 i v5 = 1#1), ∀ (k0_h3 : k0_cond3 v1 v13 = 1#1), ∀ (k0_h4 : k0_cond4 v102 = 1#1), ∀ a, (k0_off16 v107) a + S1x1024x2048.size a ≤ S32x1024x2048.size a) ∧
  (∀ (k0_h2 : k0_cond2 i v5 = 1#1), ∀ (k0_h3 : k0_cond3 v1 v13 = 1#1), ∀ (k0_h4 : k0_cond4 v102 = 1#1), ∀ a, (k0_off19 v107) a + S1x1024x1024.size a ≤ S32x1024x1024.size a)
theorem k0_off16_inb : ∀ (i : grid0.Coords) (v1 : BitVec 32) (v5 : BitVec 32) (v13 : BitVec 32) (v102 : BitVec 32) (v107 : BitVec 32) (k0_hw5 : k0_chk5 i v1 v5 v13 v102 v107), ∀ (k0_h2 : k0_cond2 i v5 = 1#1), ∀ (k0_h3 : k0_cond3 v1 v13 = 1#1), ∀ (k0_h4 : k0_cond4 v102 = 1#1), ∀ a, (k0_off16 v107) a + S1x1024x2048.size a ≤ S32x1024x2048.size a := fun i v1 v5 v13 v102 v107 k0_hw5 k0_h2 k0_h3 k0_h4 => k0_hw5.1 k0_h2 k0_h3 k0_h4
theorem k0_off19_inb : ∀ (i : grid0.Coords) (v1 : BitVec 32) (v5 : BitVec 32) (v13 : BitVec 32) (v102 : BitVec 32) (v107 : BitVec 32) (k0_hw5 : k0_chk5 i v1 v5 v13 v102 v107), ∀ (k0_h2 : k0_cond2 i v5 = 1#1), ∀ (k0_h3 : k0_cond3 v1 v13 = 1#1), ∀ (k0_h4 : k0_cond4 v102 = 1#1), ∀ a, (k0_off19 v107) a + S1x1024x1024.size a ≤ S32x1024x1024.size a := fun i v1 v5 v13 v102 v107 k0_hw5 k0_h2 k0_h3 k0_h4 => k0_hw5.2 k0_h2 k0_h3 k0_h4

def k0_cond5 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_3 : BitVec 32 := 0#32
  let v12 : BitVec 1 := Scalar.cmpi .ne v11 c0_i32_3
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S288 : Shape := ⟨1, ![288]⟩
abbrev S1 : Shape := ⟨1, ![1]⟩
abbrev S589824x128 : Shape := ⟨2, ![589824, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x256x1024 : Shape := ⟨3, ![288, 256, 1024]⟩
abbrev S288x1 : Shape := ⟨2, ![288, 1]⟩
abbrev S288x1024x2048 : Shape := ⟨3, ![288, 1024, 2048]⟩
abbrev S288x256x2048 : Shape := ⟨3, ![288, 256, 2048]⟩
abbrev S288x2048 : Shape := ⟨2, ![288, 2048]⟩
abbrev S288x1x2048 : Shape := ⟨3, ![288, 1, 2048]⟩
abbrev S_ : Shape := ⟨0, ![]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S589824x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x256x1024, .f32⟩
  | .hbm, ⟨8, _⟩ => ⟨S288x1, .i32⟩
  | .hbm, ⟨9, _⟩ => ⟨S288x1024x2048, .f32⟩
  | .hbm, ⟨10, _⟩ => ⟨S288x256x2048, .f32⟩
  | .hbm, ⟨11, _⟩ => ⟨S288x1, .i32⟩
  | .hbm, ⟨12, _⟩ => ⟨S288x2048, .f32⟩
  | .hbm, ⟨13, _⟩ => ⟨S288x1x2048, .f32⟩
  | .hbm, ⟨14, _⟩ => ⟨S288x256x2048, .f32⟩
  | .hbm, ⟨15, _⟩ => ⟨S288x256x2048, .f32⟩
  | .hbm, ⟨16, _⟩ => ⟨S288x256x1024, .f32⟩
  | .hbm, ⟨17, _⟩ => ⟨S_, .f32⟩
  | .hbm, ⟨18, _⟩ => ⟨S288x256x1024, .f32⟩
  | .hbm, ⟨19, _⟩ => ⟨S288x256x1024, .f32⟩
  | .hbm, ⟨20, _⟩ => ⟨S288x256x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S288x256x1024, .f32⟩
  | .hbm, ⟨25, _⟩ => ⟨S288x256x1024, .f32⟩
  | .hbm, ⟨26, _⟩ => ⟨S_, .f32⟩
  | .hbm, ⟨27, _⟩ => ⟨S288x256x1024, .f32⟩
  | .hbm, ⟨28, _⟩ => ⟨S288x256x1024, .f32⟩
  | .hbm, ⟨29, _⟩ => ⟨S_, .f32⟩
  | .hbm, ⟨30, _⟩ => ⟨S288x256x1024, .f32⟩
  | .hbm, ⟨31, _⟩ => ⟨S288x256x1024, .f32⟩
  | .hbm, ⟨32, _⟩ => ⟨S288x256x1024, .f32⟩
  | .hbm, ⟨33, _⟩ => ⟨S288x256x1024, .f32⟩
  | .hbm, ⟨34, _⟩ => ⟨S_, .f32⟩
  | .hbm, ⟨35, _⟩ => ⟨S288x256x1024, .f32⟩
  | .hbm, ⟨36, _⟩ => ⟨S288x256x1024, .f32⟩
  | .hbm, ⟨37, _⟩ => ⟨S_, .f32⟩
  | .hbm, ⟨38, _⟩ => ⟨S288x256x1024, .f32⟩
  | .hbm, ⟨39, _⟩ => ⟨S288x256x1024, .f32⟩
  | .hbm, ⟨40, _⟩ => ⟨S288x256x1024, .f32⟩
  | .hbm, ⟨41, _⟩ => ⟨S_, .f32⟩
  | .hbm, ⟨42, _⟩ => ⟨S288x256x1024, .f32⟩
  | .hbm, ⟨43, _⟩ => ⟨S288x256x1024, .f32⟩
  | .hbm, ⟨44, _⟩ => ⟨S288x256x1024, .f32⟩
  | .hbm, ⟨45, _⟩ => ⟨S288x1, .i32⟩
  | .hbm, ⟨46, _⟩ => ⟨S288x1024x1024, .f32⟩
  | .hbm, ⟨47, _⟩ => ⟨S288x256x1024, .f32⟩
  | .hbm, ⟨48, _⟩ => ⟨S288x1, .i32⟩
  | .hbm, ⟨49, _⟩ => ⟨S288x1024, .f32⟩
  | .hbm, ⟨50, _⟩ => ⟨S288x1x1024, .f32⟩
  | .hbm, ⟨51, _⟩ => ⟨S288x256x1024, .f32⟩
  | .hbm, ⟨52, _⟩ => ⟨S288x256x1024, .f32⟩
  | .hbm, ⟨53, _⟩ => ⟨S288, .i32⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S288x1x1, .i1⟩
  | .hbm, ⟨58, _⟩ => ⟨S_, .f32⟩
  | .hbm, ⟨59, _⟩ => ⟨S_, .f32⟩
  | .hbm, ⟨60, _⟩ => ⟨S288x256x1024, .i1⟩
  | .hbm, ⟨61, _⟩ => ⟨S288x256x1024, .f32⟩
  | .hbm, ⟨62, _⟩ => ⟨S288x256x1024, .f32⟩
  | .hbm, ⟨63, _⟩ => ⟨S589824x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_cst_1 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_call4_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x1x1024 : Shape := ⟨3, ![4, 1, 1024]⟩
abbrev S1x1024 : Shape := ⟨2, ![1, 1024]⟩
abbrev S1024x4352 : Shape := ⟨2, ![1024, 4352]⟩
abbrev S3x512 : Shape := ⟨2, ![3, 512]⟩
abbrev S1x512 : Shape := ⟨2, ![1, 512]⟩
abbrev S512x512 : Shape := ⟨2, ![512, 512]⟩
abbrev S4x4096x512 : Shape := ⟨3, ![4, 4096, 512]⟩
abbrev S4x4096x128 : Shape := ⟨3, ![4, 4096, 128]⟩
abbrev S4x8x4096 : Shape := ⟨3, ![4, 8, 4096]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x128 : Shape := ⟨3, ![1, 512, 128]⟩
abbrev S1x8x512 : Shape := ⟨3, ![1, 8, 512]⟩
abbrev S520x512 : Shape := ⟨2, ![520, 512]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S8x512 : Shape := ⟨2, ![8, 512]⟩
abbrev S1024x512 : Shape := ⟨2, ![1024, 512]⟩
abbrev S1024x1024 : Shape := ⟨2, ![1024, 1024]⟩
abbrev S1024x128 : Shape := ⟨2, ![1024, 128]⟩
abbrev S512x128 : Shape := ⟨2, ![512, 128]⟩
abbrev S128x512 : Shape := ⟨2, ![128, 512]⟩

abbrev nBuf : Space → Nat
  | .hbm => 17
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x4352, .bf16⟩
  | .hbm, ⟨5, _⟩ => ⟨S3x512, .f32⟩
  | .hbm, ⟨6, _⟩ => ⟨S1x512, .f32⟩
  | .hbm, ⟨7, _⟩ => ⟨S1x512, .f32⟩
  | .hbm, ⟨8, _⟩ => ⟨S512x512, .bf16⟩
  | .hbm, ⟨9, _⟩ => ⟨S1x1024, .f32⟩
  | .hbm, ⟨10, _⟩ => ⟨S4x4096x512, .bf16⟩
  | .hbm, ⟨11, _⟩ => ⟨S4x4096x512, .bf16⟩
  | .hbm, ⟨12, _⟩ => ⟨S4x4096x512, .bf16⟩
  | .hbm, ⟨13, _⟩ => ⟨S4x4096x1024, .bf16⟩
  | .hbm, ⟨14, _⟩ => ⟨S4x4096x512, .bf16⟩
  | .hbm, ⟨15, _⟩ => ⟨S4x4096x128, .bf16⟩
  | .hbm, ⟨16, _⟩ => ⟨S4x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4352, .bf16⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S1x1024, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x128, .bf16⟩
  | .local _ .vmem, ⟨24, _⟩ => ⟨S1x512x128, .bf16⟩
  | .local _ .vmem, ⟨25, _⟩ => ⟨S1x8x512, .f32⟩
  | .local _ .vmem, ⟨26, _⟩ => ⟨S1x8x512, .f32⟩
  | .local _ .vmem, ⟨27, _⟩ => ⟨S520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S4x4096x1024 : Shape := ⟨3, ![4, 4096, 1024]⟩
abbrev S4x1x1024 : Shape := ⟨3, ![4, 1, 1024]⟩
abbrev S1x1024 : Shape := ⟨2, ![1, 1024]⟩
abbrev S1024x4352 : Shape := ⟨2, ![1024, 4352]⟩
abbrev S3x512 : Shape := ⟨2, ![3, 512]⟩
abbrev S1x512 : Shape := ⟨2, ![1, 512]⟩
abbrev S512x512 : Shape := ⟨2, ![512, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4352 : Shape := ⟨3, ![4, 4096, 4352]⟩
abbrev S4x4096x512 : Shape := ⟨3, ![4, 4096, 512]⟩
abbrev S4x4098x512 : Shape := ⟨3, ![4, 4098, 512]⟩
abbrev S512 : Shape := ⟨1, ![512]⟩
abbrev S1x1x512 : Shape := ⟨3, ![1, 1, 512]⟩
abbrev S4x4096x8 : Shape := ⟨3, ![4, 4096, 8]⟩
abbrev S4x4096x128 : Shape := ⟨3, ![4, 4096, 128]⟩
abbrev S4x8x4096 : Shape := ⟨3, ![4, 8, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x4352, .bf16⟩
  | .hbm, ⟨5, _⟩ => ⟨S3x512, .f32⟩
  | .hbm, ⟨6, _⟩ => ⟨S1x512, .f32⟩
  | .hbm, ⟨7, _⟩ => ⟨S1x512, .f32⟩
  | .hbm, ⟨8, _⟩ => ⟨S512x512, .bf16⟩
  | .hbm, ⟨9, _⟩ => ⟨S1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S1024x4352, .f32⟩
  | .hbm, ⟨34, _⟩ => ⟨S4x4096x4352, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S_, .i32⟩
  | .hbm, ⟨39, _⟩ => ⟨S_, .f32⟩
  | .hbm, ⟨40, _⟩ => ⟨S4x4098x512, .f32⟩
  | .hbm, ⟨41, _⟩ => ⟨S1x512, .f32⟩
  | .hbm, ⟨42, _⟩ => ⟨S512, .f32⟩
  | .hbm, ⟨43, _⟩ => ⟨S4x4096x512, .f32⟩
  | .hbm, ⟨44, _⟩ => ⟨S1x1x512, .f32⟩
  | .hbm, ⟨45, _⟩ => ⟨S4x4096x512, .f32⟩
  | .hbm, ⟨46, _⟩ => ⟨S4x4096x512, .f32⟩
  | .hbm, ⟨47, _⟩ => ⟨S1x512, .f32⟩
  | .hbm, ⟨48, _⟩ => ⟨S512, .f32⟩
  | .hbm, ⟨49, _⟩ => ⟨S4x4096x512, .f32⟩
  | .hbm, ⟨50, _⟩ => ⟨S1x1x512, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S1x512, .f32⟩
  | .hbm, ⟨55, _⟩ => ⟨S512, .f32⟩
  | .hbm, ⟨56, _⟩ => ⟨S4x4096x512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S4x4096x512, .f32⟩
  | .hbm, ⟨61, _⟩ => ⟨S4x4096x512, .f32⟩
  | .hbm, ⟨62, _⟩ => ⟨S4x4096x512, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S4x4096x8, .f32⟩
  | .hbm, ⟨68, _⟩ => ⟨S_, .f32⟩
  | .hbm, ⟨69, _⟩ => ⟨S4x4096x8, .f32⟩
  | .hbm, ⟨70, _⟩ => ⟨S4x4096x8, .f32⟩
  | .hbm, ⟨71, _⟩ => ⟨S4x4096x512, .bf16⟩
  | .hbm, ⟨72, _⟩ => ⟨S4x4096x1024, .bf16⟩
  | .hbm, ⟨73, _⟩ => ⟨S4x4096x512, .f32⟩
  | .hbm, ⟨74, _⟩ => ⟨S4x4096x512, .bf16⟩
  | .hbm, ⟨75, _⟩ => ⟨S4x4096x128, .f32⟩
  | .hbm, ⟨76, _⟩ => ⟨S4x4096x128, .bf16⟩
  | .hbm, ⟨77, _⟩ => ⟨S4x8x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x1x1024 : Shape := ⟨3, ![4, 1, 1024]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x128 : Shape := ⟨2, ![1024, 128]⟩
abbrev S1x128 : Shape := ⟨2, ![1, 128]⟩
abbrev S512x512 : Shape := ⟨2, ![512, 512]⟩
abbrev S131072x128 : Shape := ⟨2, ![131072, 128]⟩
abbrev S16384x128 : Shape := ⟨2, ![16384, 128]⟩
abbrev S8x128 : Shape := ⟨2, ![8, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S1x1024, .f32⟩
  | .hbm, ⟨9, _⟩ => ⟨S1x1024, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024x128, .bf16⟩
  | .hbm, ⟨15, _⟩ => ⟨S1x128, .f32⟩
  | .hbm, ⟨16, _⟩ => ⟨S512x512, .bf16⟩
  | .hbm, ⟨17, _⟩ => ⟨S4x4096x1024, .f32⟩
  | .hbm, ⟨18, _⟩ => ⟨S131072x128, .f32⟩
  | .hbm, ⟨19, _⟩ => ⟨S16384x128, .f32⟩
  | .hbm, ⟨20, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S1024x2048, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x128, .bf16⟩
  | .local _ .vmem, ⟨23, _⟩ => ⟨S1x128, .f32⟩
  | .local _ .vmem, ⟨24, _⟩ => ⟨S512x512, .bf16⟩
  | .local _ .vmem, ⟨25, _⟩ => ⟨S1x512x1024, .f32⟩
  | .local _ .vmem, ⟨26, _⟩ => ⟨S1x512x1024, .f32⟩
  | .local _ .vmem, ⟨27, _⟩ => ⟨S4096x128, .f32⟩
  | .local _ .vmem, ⟨28, _⟩ => ⟨S4096x128, .f32⟩
  | .local _ .vmem, ⟨29, _⟩ => ⟨S512x128, .f32⟩
  | .local _ .vmem, ⟨30, _⟩ => ⟨S512x128, .f32⟩
  | .local _ .vmem, ⟨31, _⟩ => ⟨S8x128, .f32⟩
  | .local _ .vmem, ⟨32, _⟩ => ⟨S8x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4096x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference3Ideal.lean ====
abbrev S4x4096x1024 : Shape := ⟨3, ![4, 4096, 1024]⟩
abbrev S4x4096x512 : Shape := ⟨3, ![4, 4096, 512]⟩
abbrev S4x1x1024 : Shape := ⟨3, ![4, 1, 1024]⟩
abbrev S1x1024 : Shape := ⟨2, ![1, 1024]⟩
abbrev S1024x2048 : Shape := ⟨2, ![1024, 2048]⟩
abbrev S512x1024 : Shape := ⟨2, ![512, 1024]⟩
abbrev S1024x1024 : Shape := ⟨2, ![1024, 1024]⟩
abbrev S1024x128 : Shape := ⟨2, ![1024, 128]⟩
abbrev S1x128 : Shape := ⟨2, ![1, 128]⟩
abbrev S512x512 : Shape := ⟨2, ![512, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S1x1024, .f32⟩
  | .hbm, ⟨9, _⟩ => ⟨S1x1024, .f32⟩
  | .hbm, ⟨10, _⟩ => ⟨S1024x2048, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024x128, .bf16⟩
  | .hbm, ⟨15, _⟩ => ⟨S1x128, .f32⟩
  | .hbm, ⟨16, _⟩ => ⟨S512x512, .bf16⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1024x2048, .f32⟩
  | .hbm, ⟨41, _⟩ => ⟨S4x4096x2048, .f32⟩
  | .hbm, ⟨42, _⟩ => ⟨S4x4096x1024, .f32⟩
  | .hbm, ⟨43, _⟩ => ⟨S4x4096x1024, .f32⟩
  | .hbm, ⟨44, _⟩ => ⟨S4x4096x512, .f32⟩
  | .hbm, ⟨45, _⟩ => ⟨S512x1024, .f32⟩
  | .hbm, ⟨46, _⟩ => ⟨S4x4096x1024, .f32⟩
  | .hbm, ⟨47, _⟩ => ⟨S4x4096x512, .f32⟩
  | .hbm, ⟨48, _⟩ => ⟨S512x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S1024x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.Words.lean ====
/- The table of the next experts, as words: which expert's weights each block's predecessor sends for. -/
module

public import Idealize.ShloMosaic.Lib.StableHlo
public import Idealize.ShloMosaic.PureOps
public import Idealize.ShloMosaic.Lib.WordCmp
public import Idealize.ShloMosaic.Lib.SortNet.Extract
public import Idealize.ShloMosaic.PureOps.Reduce

@[expose] public section

namespace Cert.Words

open Idealize.ShloMosaic Idealize.ShloMosaic.SortNet

/-- The least of some words under the signed order: below each of them, and one of them. -/
theorem fold_minsi {N : ℕ} (hN : 0 < N) (g : Fin N → BitVec 32) :
    (∀ j, ((Finset.univ : Finset (Fin N)).fold IntOp.minsi 2147483647#32 g).toInt ≤ (g j).toInt)
      ∧ ∃ j, (Finset.univ : Finset (Fin N)).fold IntOp.minsi 2147483647#32 g = g j := by
  have key : ∀ S : Finset (Fin N), (∀ j ∈ S, (S.fold IntOp.minsi 2147483647#32 g).toInt ≤ (g j).toInt)
      ∧ (S.fold IntOp.minsi 2147483647#32 g = 2147483647#32 ∨ ∃ j, S.fold IntOp.minsi 2147483647#32 g = g j) := by
    intro S
    induction S using Finset.induction_on with
    | empty => exact ⟨fun j h => absurd h (Finset.notMem_empty j), .inl rfl⟩
    | insert a S ha ih =>
      rw [Finset.fold_insert ha]
      refine ⟨fun j hj => ?_, ?_⟩
      · rw [toInt_minsi]
        rcases Finset.mem_insert.1 hj with rfl | hj
        · exact Int.min_le_left _ _
        · exact Int.le_trans (Int.min_le_right _ _) (ih.1 j hj)
      · by_cases h : (g a).toInt ≤ (S.fold IntOp.minsi 2147483647#32 g).toInt
        · right; refine ⟨a, ?_⟩
          apply BitVec.eq_of_toInt_eq; rw [toInt_minsi]; omega
        · have e : IntOp.minsi (g a) (S.fold IntOp.minsi 2147483647#32 g) = S.fold IntOp.minsi 2147483647#32 g := by
            apply BitVec.eq_of_toInt_eq; rw [toInt_minsi]; omega
          rw [e]; exact ih.2
  refine ⟨fun j => (key _).1 j (Finset.mem_univ j), ?_⟩
  rcases (key Finset.univ).2 with h | h
  · refine ⟨⟨0, hN⟩, ?_⟩
    have h1 := (key Finset.univ).1 ⟨0, hN⟩ (Finset.mem_univ _)
    rw [h] at h1 ⊢
    apply BitVec.eq_of_toInt_eq
    have h2 := BitVec.toInt_lt (x := g ⟨0, hN⟩)
    have h3 : (2147483647#32).toInt = 2147483647 := by decide
    omega
  · exact h

/-- The entry for block `i`: the least expert above its own among the first `u` blocks, −1 when there is none. -/
def pick (b : Fin 288 → BitVec 32) (u : BitVec 32) (i j : Fin 288) : BitVec 32 :=
  if (b i).toInt < (b j).toInt ∧ (j.val : ℤ) < u.toInt then b j else 32#32

/-- What the host computes the entry by. -/
def next (b : Fin 288 → BitVec 32) (u : BitVec 32) (i : Fin 288) : BitVec 32 :=
  if ((Finset.univ : Finset (Fin 288)).fold IntOp.minsi 2147483647#32 (pick b u i)).toInt < 32
  then (Finset.univ : Finset (Fin 288)).fold IntOp.minsi 2147483647#32 (pick b u i) else 4294967295#32

/-- What the precondition says of the two tables. -/
structure Sorted (b : Fin 288 → BitVec 32) (u : BitVec 32) : Prop where
  lo : ∀ n, 0 ≤ (b n).toInt
  hi : ∀ n, (b n).toInt < 32
  step : ∀ (n : ℕ) (h : n + 1 < 288), (b ⟨n, by omega⟩).toInt ≤ (b ⟨n + 1, h⟩).toInt
  upos : 1 ≤ u.toInt
  ule : u.toInt ≤ 288

variable {b : Fin 288 → BitVec 32} {u : BitVec 32}

theorem toNat_of {w : BitVec 32} (h : 0 ≤ w.toInt) : (w.toNat : ℤ) = w.toInt := by
  rw [BitVec.toInt_eq_toNat_cond] at h ⊢
  have := w.isLt
  split at h <;> rename_i h' <;> simp only [h', if_true, if_false] <;> omega

theorem Sorted.mono (h : Sorted b u) : ∀ (k n : ℕ) (hk : n + k < 288), (b ⟨n, by omega⟩).toInt ≤ (b ⟨n + k, hk⟩).toInt
  | 0, n, hk => Int.le_refl _
  | k + 1, n, hk => Int.le_trans (h.mono k n (by omega)) (h.step (n + k) hk)

theorem Sorted.mono' (h : Sorted b u) (i j : Fin 288) (hij : i.val ≤ j.val) : (b i).toInt ≤ (b j).toInt := by
  have := h.mono (j.val - i.val) i.val (by have := j.isLt; omega)
  have e : (⟨i.val + (j.val - i.val), by have := j.isLt; omega⟩ : Fin 288) = j := Fin.ext (by simp only []; omega)
  rwa [e] at this

/-- The entry read out: the least expert above block `i`'s, or none. -/
theorem Sorted.next_cases (h : Sorted b u) (i : Fin 288) :
    (∃ j : Fin 288, (j.val : ℤ) < u.toInt ∧ (b i).toInt < (b j).toInt ∧ next b u i = b j
        ∧ ∀ k : Fin 288, (k.val : ℤ) < u.toInt → (b i).toInt < (b k).toInt → (b j).toInt ≤ (b k).toInt)
      ∨ ((∀ k : Fin 288, (k.val : ℤ) < u.toInt → (b k).toInt ≤ (b i).toInt) ∧ next b u i = 4294967295#32) := by
  obtain ⟨h1, j, h2⟩ := fold_minsi (by decide) (pick b u i)
  have h32 : (32#32).toInt = 32 := by decide
  unfold next
  rw [h2]; simp only [h2] at h1
  by_cases hj : (b i).toInt < (b j).toInt ∧ (j.val : ℤ) < u.toInt
  · have e : pick b u i j = b j := if_pos hj
    rw [e] at h1 ⊢
    refine .inl ⟨j, hj.2, hj.1, if_pos (h.hi j), fun k hk hk' => ?_⟩
    have := h1 k
    rwa [show pick b u i k = b k from if_pos ⟨hk', hk⟩] at this
  · have e : pick b u i j = 32#32 := if_neg hj
    rw [e] at h1 ⊢
    refine .inr ⟨fun k hk => ?_, if_neg (by omega)⟩
    by_contra hc
    have := h1 k
    rw [show pick b u i k = b k from if_pos ⟨by omega, hk⟩] at this
    have := h.hi k
    omega

theorem minus_one_toNat : (4294967295#32 : BitVec 32).toNat = 4294967295 := by decide
theorem minus_one_toInt : (4294967295#32 : BitVec 32).toInt = -1 := by decide

theorem Sorted.lt (h : Sorted b u) (n : Fin 288) : (b n).toNat < 32 := by
  have := toNat_of (h.lo n); have := h.hi n; omega

theorem Sorted.neg (h : Sorted b u) (i : Fin 288) (hn : ¬ (next b u i).toNat < 32) : (next b u i).toInt < 0 := by
  rcases h.next_cases i with ⟨j, _, _, e, _⟩ | ⟨_, e⟩
  · rw [e] at hn; exact absurd (h.lt j) hn
  · rw [e, minus_one_toInt]; omega

theorem Sorted.ne (h : Sorted b u) (i : Fin 288) (hn : (next b u i).toNat < 32) : next b u i ≠ b i := by
  rcases h.next_cases i with ⟨j, _, hlt, e, _⟩ | ⟨_, e⟩
  · rw [e]; intro h'; rw [h'] at hlt; omega
  · rw [e, minus_one_toNat] at hn; omega

theorem Sorted.same (_h : Sorted b u) (i j : Fin 288) (e : b i = b j) : next b u j = next b u i := by
  unfold next pick; rw [e]

theorem Sorted.new (h : Sorted b u) (n : ℕ) (hn : n + 1 < 288) (hu : ((n + 1 : ℕ) : ℤ) < u.toInt)
    (e : b ⟨n, by omega⟩ ≠ b ⟨n + 1, hn⟩) : next b u ⟨n, by omega⟩ = b ⟨n + 1, hn⟩ := by
  have hs := h.step n hn
  have hne : (b ⟨n, by omega⟩).toInt ≠ (b ⟨n + 1, hn⟩).toInt := fun h' => e (BitVec.eq_of_toInt_eq h')
  rcases h.next_cases ⟨n, by omega⟩ with ⟨j, hj, hlt, e', hm⟩ | ⟨hk, _⟩
  · have h1 := hm ⟨n + 1, hn⟩ hu (by omega)
    rw [e']; apply BitVec.eq_of_toInt_eq
    by_cases hjn : j.val ≤ n
    · have := h.mono' j ⟨n, by omega⟩ hjn; omega
    · have := h.mono' ⟨n + 1, hn⟩ j (by simp only []; omega); omega
  · have := hk ⟨n + 1, hn⟩ hu; omega

theorem Sorted.last (h : Sorted b u) (i : Fin 288) (hi : (i.val : ℤ) + 1 = u.toInt) : ¬ (next b u i).toNat < 32 := by
  rcases h.next_cases i with ⟨j, hj, hlt, _, _⟩ | ⟨_, e⟩
  · have := h.mono' j i (by omega); omega
  · rw [e, minus_one_toNat]; omega

end Cert.Words

end
-- ==== Proof.Ideal.Base.lean ====
/- Names and closed forms for the expert kernel: its buffers, the experts' blocks, the slots, and what a grid point writes. -/
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## Names of the buffers, the experts' blocks, the slots and the cells -/

abbrev beM : Memref sig .tc .smem S288 .i32 := Memref.whole main_arg0
abbrev usM : Memref sig .tc .smem S1 .i32 := Memref.whole main_arg1
abbrev nxM : Memref sig .tc .smem S288 .i32 := Memref.whole main_v17
abbrev wgM : Memref sig .tc .hbm S32x1024x2048 .f32 := Memref.whole main_arg3
abbrev wdM : Memref sig .tc .hbm S32x1024x1024 .f32 := Memref.whole main_arg5
abbrev sgM : Memref sig .tc .vmem S2x1024x2048 .f32 := Memref.whole cc0_scratch0
abbrev sdM : Memref sig .tc .vmem S2x1024x1024 .f32 := Memref.whole cc0_scratch1
abbrev bgM : Memref sig .tc .vmem S1024x2048 .bf16 := Memref.whole cc0_scratch2
abbrev bdM : Memref sig .tc .vmem S1024x1024 .bf16 := Memref.whole cc0_scratch3
abbrev stM : Memref sig .tc .smem S2 .i32 := Memref.whole cc0_scratch4

/-- The offsets of expert `w`'s block fit, for a word below 32. -/
theorem gin (w : BitVec 32) (h : w.toNat < 32) : ∀ a, (![w.toNat, 0, 0] : Fin 3 → Nat) a + S1x1024x2048.size a ≤ S32x1024x2048.size a := by
  intro a; fin_cases a
  · show w.toNat + 1 ≤ 32; omega
  · show 0 + 1024 ≤ 1024; omega
  · show 0 + 2048 ≤ 2048; omega
theorem din (w : BitVec 32) (h : w.toNat < 32) : ∀ a, (![w.toNat, 0, 0] : Fin 3 → Nat) a + S1x1024x1024.size a ≤ S32x1024x1024.size a := by
  intro a; fin_cases a
  · show w.toNat + 1 ≤ 32; omega
  · show 0 + 1024 ≤ 1024; omega
  · show 0 + 1024 ≤ 1024; omega

/-- Expert `w`'s gate and up weights, and its down weights, as the body slices them. -/
abbrev gblk (w : BitVec 32) (h : w.toNat < 32) : Memref sig .tc .hbm S1024x2048 .f32 :=
  (wgM.slice (Rect.unit (s := S32x1024x2048) ![w.toNat, 0, 0] S1x1024x2048.size (gin w h)) (fun _ => rfl)).squeeze S1024x2048 squeezes_S1x1024x2048_S1024x2048
abbrev dblk (w : BitVec 32) (h : w.toNat < 32) : Memref sig .tc .hbm S1024x1024 .f32 :=
  (wdM.slice (Rect.unit (s := S32x1024x1024) ![w.toNat, 0, 0] S1x1024x1024.size (din w h)) (fun _ => rfl)).squeeze S1024x1024 squeezes_S1x1024x1024_S1024x1024

theorem sgin (s : Fin 2) : ∀ a, (![s.val, 0, 0] : Fin 3 → Nat) a + S1x1024x2048.size a ≤ S2x1024x2048.size a := by
  revert s; decide
theorem sdin (s : Fin 2) : ∀ a, (![s.val, 0, 0] : Fin 3 → Nat) a + S1x1024x1024.size a ≤ S2x1024x1024.size a := by
  revert s; decide
/-- Slot `s` of the two staging buffers. -/
abbrev gslot (s : Fin 2) : Memref sig .tc .vmem S1024x2048 .f32 :=
  (sgM.slice (Rect.unit (s := S2x1024x2048) ![s.val, 0, 0] S1x1024x2048.size (sgin s)) (fun _ => rfl)).squeeze S1024x2048 squeezes_S1x1024x2048_S1024x2048
abbrev dslot (s : Fin 2) : Memref sig .tc .vmem S1024x1024 .f32 :=
  (sdM.slice (Rect.unit (s := S2x1024x1024) ![s.val, 0, 0] S1x1024x1024.size (sdin s)) (fun _ => rfl)).squeeze S1024x1024 squeezes_S1x1024x1024_S1024x1024
/-- Slot `s`'s two cells: 8 and 9 for the gate and up weights, 10 and 11 for the down weights. -/
abbrev gcell (s : Fin 2) : SemLoc sig := ![SemLoc.dma 8, SemLoc.dma 9] s
abbrev dcell (s : Fin 2) : SemLoc sig := ![SemLoc.dma 10, SemLoc.dma 11] s

section Pieces
variable (c : Dev nD)
  (XG : Buf (Elt F) (wgM.view.loc (c : Thread nD τ))) (XD : Buf (Elt F) (wdM.view.loc (c : Thread nD τ)))

abbrev gslotP (s : Fin 2) (f : Buf (Elt F) ((gslot s).view.loc (c : Thread nD τ))) : sProp 𝕄 :=
  (gslot s).view.loc (c : Thread nD τ) ↦[(gslot s).view.set]{fullShare} f
abbrev dslotP (s : Fin 2) (f : Buf (Elt F) ((dslot s).view.loc (c : Thread nD τ))) : sProp 𝕄 :=
  (dslot s).view.loc (c : Thread nD τ) ↦[(dslot s).view.set]{fullShare} f
abbrev gblkP (w : BitVec 32) (h : w.toNat < 32) : sProp 𝕄 :=
  (gblk w h).view.loc (c : Thread nD τ) ↦[(gblk w h).view.set]{fullShare} XG
abbrev dblkP (w : BitVec 32) (h : w.toNat < 32) : sProp 𝕄 :=
  (dblk w h).view.loc (c : Thread nD τ) ↦[(dblk w h).view.set]{fullShare} XD
abbrev glanded (s : Fin 2) (w : BitVec 32) (h : w.toNat < 32) (f : Buf (Elt F) ((gslot s).view.loc (c : Thread nD τ))) :
    Buf (Elt F) ((gslot s).view.loc (c : Thread nD τ)) :=
  (gslot s).view.writes (Elt F) f [⟨Rect.whole S1024x2048, ReadAs.same.apply ((gblk w h).view.read (Elt F) XG)⟩]
abbrev dlanded (s : Fin 2) (w : BitVec 32) (h : w.toNat < 32) (f : Buf (Elt F) ((dslot s).view.loc (c : Thread nD τ))) :
    Buf (Elt F) ((dslot s).view.loc (c : Thread nD τ)) :=
  (dslot s).view.writes (Elt F) f [⟨Rect.whole S1024x1024, ReadAs.same.apply ((dblk w h).view.read (Elt F) XD)⟩]
/-- Slot `s` in flight with expert `w`'s weights. -/
abbrev gflight (s : Fin 2) (w : BitVec 32) (h : w.toNat < 32) (f : Buf (Elt F) ((gslot s).view.loc (c : Thread nD τ))) : sProp 𝕄 :=
  Transfers.Flight countersEmb (c : Thread nD τ) (gcell s) () ((gslot s).view.amount (gcell s)) iprop(gslotP c s (glanded c XG s w h f) ∗ gblkP c XG w h)
abbrev dflight (s : Fin 2) (w : BitVec 32) (h : w.toNat < 32) (f : Buf (Elt F) ((dslot s).view.loc (c : Thread nD τ))) : sProp 𝕄 :=
  Transfers.Flight countersEmb (c : Thread nD τ) (dcell s) () ((dslot s).view.amount (dcell s)) iprop(dslotP c s (dlanded c XD s w h f) ∗ dblkP c XD w h)

/-- The state words: the expert whose weights are cast, and the slot they came through. -/
abbrev stB (e s : BitVec 32) : Buf (Elt F) (stM.view.loc (c : Thread nD τ)) :=
  stM.view.writes (Elt F) stM.view.junk [⟨Rect.unit (s := S2) ![1] S1.size inb_S2_S1_1, fun _ => s⟩, ⟨Rect.unit (s := S2) ![0] S1.size inb_S2_S1_0, fun _ => e⟩]

end Pieces

theorem chk2_1 (i : grid0.Coords) (v1 v5 v13 : BitVec 32) : k0_chk2 i v1 v5 v13 1#32 :=
  ⟨fun _ _ => by decide, fun _ _ => by decide, fun _ _ => by decide, fun _ _ => by decide, fun _ _ => by decide, fun _ _ => by decide⟩
theorem chk2_0 (i : grid0.Coords) (v1 v5 v13 : BitVec 32) : k0_chk2 i v1 v5 v13 0#32 :=
  ⟨fun _ _ => by decide, fun _ _ => by decide, fun _ _ => by decide, fun _ _ => by decide, fun _ _ => by decide, fun _ _ => by decide⟩

theorem chk4_1 (i : grid0.Coords) (v1 v5 v13 v102 : BitVec 32) : k0_chk4 i v1 v5 v13 1#32 v102 :=
  ⟨fun _ _ _ => by decide, fun _ _ _ => by decide, fun _ _ _ => by decide, fun _ _ _ => by decide⟩
theorem chk4_0 (i : grid0.Coords) (v1 v5 v13 v102 : BitVec 32) : k0_chk4 i v1 v5 v13 0#32 v102 :=
  ⟨fun _ _ _ => by decide, fun _ _ _ => by decide, fun _ _ _ => by decide, fun _ _ _ => by decide⟩

/-! ## What a grid point computes -/

/-- Expert `w`'s weights as vectors. -/
abbrev GW (c : Dev nD) (XG : Buf (Elt F) (wgM.view.loc (c : Thread nD τ))) (w : BitVec 32) (h : w.toNat < 32) : Vec F S1024x2048 .f32 :=
  (gblk w h).view.read (Elt F) XG
abbrev DW (c : Dev nD) (XD : Buf (Elt F) (wdM.view.loc (c : Thread nD τ))) (w : BitVec 32) (h : w.toNat < 32) : Vec F S1024x1024 .f32 :=
  (dblk w h).view.read (Elt F) XD
/-- The weights rounded to the product's type. -/
def castG (P : Vec F S1024x2048 .f32) : FVec F S1024x2048 .bf16 := truncf .bf16 (show FVec F S1024x2048 .f32 from P) bitsLt_bf16_f32
def castD (P : Vec F S1024x1024 .f32) : FVec F S1024x1024 .bf16 := truncf .bf16 (show FVec F S1024x1024 .f32 from P) bitsLt_bf16_f32

/-- The eight strided pieces a grid point stores, newest first, from the vectors it loads. -/
def outL (v17 v18 v19 v20 v21 v22 v23 v24 : Vec F S256x128 .f32) (v27 : Vec F S1024x2048 .bf16) (v29 : Vec F S1x1x2048 .f32) (v49 : Vec F S1024x1024 .bf16) (v51 : Vec F S1x1x1024 .f32) :
    List (View.Piece (Elt F) S2048x128 .f32) :=
  [⟨⟨(⟨![7, 0], S256x128.size, ![8, 1], inb_S2048x128_S256x128_7_0_s_8_1⟩ : LoadRect S2048x128), spos_8_1⟩, k0_pay16 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![6, 0], S256x128.size, ![8, 1], inb_S2048x128_S256x128_6_0_s_8_1⟩ : LoadRect S2048x128), spos_8_1⟩, k0_pay15 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![5, 0], S256x128.size, ![8, 1], inb_S2048x128_S256x128_5_0_s_8_1⟩ : LoadRect S2048x128), spos_8_1⟩, k0_pay14 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![4, 0], S256x128.size, ![8, 1], inb_S2048x128_S256x128_4_0_s_8_1⟩ : LoadRect S2048x128), spos_8_1⟩, k0_pay13 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![3, 0], S256x128.size, ![8, 1], inb_S2048x128_S256x128_3_0_s_8_1⟩ : LoadRect S2048x128), spos_8_1⟩, k0_pay12 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![2, 0], S256x128.size, ![8, 1], inb_S2048x128_S256x128_2_0_s_8_1⟩ : LoadRect S2048x128), spos_8_1⟩, k0_pay11 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![1, 0], S256x128.size, ![8, 1], inb_S2048x128_S256x128_1_0_s_8_1⟩ : LoadRect S2048x128), spos_8_1⟩, k0_pay10 (k0_pay5 v17 v18 v19 v20 v21 v22 v23 v24 v27 v29) (k0_pay6 v17 v18 v19 v20 v21 v22 v23 v24 v27 v29) (k0_pay7 v17 v18 v19 v20 v21 v22 v23 v24 v27 v29) v49 v51⟩,
   ⟨⟨(⟨![0, 0], S256x128.size, ![8, 1], inb_S2048x128_S256x128_0_0_s_8_1⟩ : LoadRect S2048x128), spos_8_1⟩, k0_pay9 (k0_pay5 v17 v18 v19 v20 v21 v22 v23 v24 v27 v29) (k0_pay6 v17 v18 v19 v20 v21 v22 v23 v24 v27 v29) (k0_pay7 v17 v18 v19 v20 v21 v22 v23 v24 v27 v29) v49 v51⟩]

theorem outL_cover (v17 v18 v19 v20 v21 v22 v23 v24 : Vec F S256x128 .f32) (v27 v29 v49 v51) : ∀ y : S2048x128.Idx, ∃ p ∈ outL (F := F) v17 v18 v19 v20 v21 v22 v23 v24 v27 v29 v49 v51, y ∈ p.1.set := by
  intro y
  have h0 : (y 0).val < 2048 := (y 0).isLt
  have h1 : (y 1).val < 128 := (y 1).isLt
  have key : ∀ k : Nat, (y 0).val % 8 = k → ∀ r : Rect S2048x128, r.off = ![k, 0] → r.size = S256x128.size → r.stride = ![8, 1] → y ∈ r.set := by
    intro k hk r ho hs hst
    rw [LoadRect.mem_set]
    intro a
    rw [ho, hs, hst]
    fin_cases a
    · exact ⟨(y 0).val / 8, show (y 0).val / 8 < 256 by omega, show (y 0).val = k + 8 * ((y 0).val / 8) by omega⟩
    · exact ⟨(y 1).val, show (y 1).val < 128 from h1, show (y 1).val = 0 + 1 * (y 1).val by omega⟩
  have hm : (y 0).val % 8 < 8 := Nat.mod_lt _ (by decide)
  unfold outL
  generalize hk : (y 0).val % 8 = k at hm
  rcases (by omega : k = 0 ∨ k = 1 ∨ k = 2 ∨ k = 3 ∨ k = 4 ∨ k = 5 ∨ k = 6 ∨ k = 7) with rfl | rfl | rfl | rfl | rfl | rfl | rfl | rfl
  · exact ⟨_, .tail _ (.tail _ (.tail _ (.tail _ (.tail _ (.tail _ (.tail _ (.head _))))))), key 0 hk _ rfl rfl rfl⟩
  · exact ⟨_, .tail _ (.tail _ (.tail _ (.tail _ (.tail _ (.tail _ (.head _)))))), key 1 hk _ rfl rfl rfl⟩
  · exact ⟨_, .tail _ (.tail _ (.tail _ (.tail _ (.tail _ (.head _))))), key 2 hk _ rfl rfl rfl⟩
  · exact ⟨_, .tail _ (.tail _ (.tail _ (.tail _ (.head _)))), key 3 hk _ rfl rfl rfl⟩
  · exact ⟨_, .tail _ (.tail _ (.tail _ (.head _))), key 4 hk _ rfl rfl rfl⟩
  · exact ⟨_, .tail _ (.tail _ (.head _)), key 5 hk _ rfl rfl rfl⟩
  · exact ⟨_, .tail _ (.head _), key 6 hk _ rfl rfl rfl⟩
  · exact ⟨_, .head _, key 7 hk _ rfl rfl rfl⟩

/-- What a grid point leaves in its output block, from its block of rows `X4`, its expert's biases `X6` and `X8`, and the rounded weights. -/
def outV (X4 : Vec F S2048x128 .f32) (X6 : Vec F S1x1x2048 .f32) (X8 : Vec F S1x1x1024 .f32) (BG : FVec F S1024x2048 .bf16) (BD : FVec F S1024x1024 .bf16) :
    Vec F S2048x128 .f32 :=
  View.canon (outL (fun y => X4 ((⟨![0, 0], S256x128.size, ![8, 1], inb_S2048x128_S256x128_0_0_s_8_1⟩ : LoadRect S2048x128).idx y)) (fun y => X4 ((⟨![1, 0], S256x128.size, ![8, 1], inb_S2048x128_S256x128_1_0_s_8_1⟩ : LoadRect S2048x128).idx y)) (fun y => X4 ((⟨![2, 0], S256x128.size, ![8, 1], inb_S2048x128_S256x128_2_0_s_8_1⟩ : LoadRect S2048x128).idx y)) (fun y => X4 ((⟨![3, 0], S256x128.size, ![8, 1], inb_S2048x128_S256x128_3_0_s_8_1⟩ : LoadRect S2048x128).idx y)) (fun y => X4 ((⟨![4, 0], S256x128.size, ![8, 1], inb_S2048x128_S256x128_4_0_s_8_1⟩ : LoadRect S2048x128).idx y)) (fun y => X4 ((⟨![5, 0], S256x128.size, ![8, 1], inb_S2048x128_S256x128_5_0_s_8_1⟩ : LoadRect S2048x128).idx y)) (fun y => X4 ((⟨![6, 0], S256x128.size, ![8, 1], inb_S2048x128_S256x128_6_0_s_8_1⟩ : LoadRect S2048x128).idx y)) (fun y => X4 ((⟨![7, 0], S256x128.size, ![8, 1], inb_S2048x128_S256x128_7_0_s_8_1⟩ : LoadRect S2048x128).idx y)) BG X6 BD X8)

theorem idx_full {s : Shape} (off : Fin s.rank → ℕ) (inb : ∀ a, off a + s.size a ≤ s.size a) (y : s.Idx) :
    (Rect.unit (s := s) off s.size inb).toLoadRect.idx y = y := by
  funext a; apply Fin.ext
  have := inb a
  show off a + 1 * (y a).val = _
  omega

theorem mem_full {s : Shape} (off : Fin s.rank → ℕ) (inb : ∀ a, off a + s.size a ≤ s.size a) (y : s.Idx) :
    y ∈ (Rect.unit (s := s) off s.size inb).set := by
  rw [Rect.mem_set_unit]
  intro a
  have := inb a
  have := (y a).isLt
  exact ⟨by omega, by omega⟩

theorem readAt_unread_full {sp : Space} {s : Shape} {e : EltTy} {m : Memref sig .tc sp s e} (h : m.IsWhole) (off : Fin s.rank → ℕ) (inb : ∀ a, off a + s.size a ≤ s.size a) (X : s.Idx → Elt F e) :
    m.view.readAt (Elt F) (Rect.unit (s := s) off s.size inb).toLoadRect (h.unread X) = X := by
  funext y
  rw [View.readAt_apply, h.read_unread]
  exact congrArg X (idx_full off inb y)

theorem readAt_unread {sp : Space} {s : Shape} {e : EltTy} {m : Memref sig .tc sp s e} (h : m.IsWhole) (r : LoadRect s) (X : s.Idx → Elt F e) :
    m.view.readAt (Elt F) r (h.unread X) = fun y => X (r.idx y) := by
  funext y
  rw [View.readAt_apply, h.read_unread]

theorem readAt_rep_full {sp : Space} {s : Shape} {e : EltTy} (m : Memref sig .tc sp s e) (off : Fin s.rank → ℕ) (inb : ∀ a, off a + s.size a ≤ s.size a) (X : s.Idx → Elt F e) :
    m.view.readAt (Elt F) (Rect.unit (s := s) off s.size inb).toLoadRect (m.view.rep X) = X := by
  rw [View.readAt_rep]; funext y
  exact congrArg X (idx_full off inb y)

theorem whole_rep {sp : Space} {s : Shape} {e : EltTy} {m : Memref sig .tc sp s e} (h : m.IsWhole) (off : Fin s.rank → ℕ) (inb : ∀ a, off a + s.size a ≤ s.size a)
    (f : m.view.ty.Contents (Elt F)) (w : s.Idx → Elt F e) :
    m.view.writes (Elt F) f [⟨Rect.unit (s := s) off s.size inb, w⟩] = m.view.rep w := by
  apply h.read_bijective.1
  rw [View.read_rep, View.read_writes_eq_canon _ _ _ (fun y => ⟨_, .head _, mem_full off inb y⟩)]
  exact View.canon_cons_unit_lit inb w [] (fun a => by have := inb a; omega)
theorem bg_rep (c : Dev nD) (f : Buf (Elt F) (bgM.view.loc (c : Thread nD τ))) (w : FVec F S1024x2048 .bf16) :
    bgM.view.writes (Elt F) f [⟨Rect.unit (s := S1024x2048) ![0, 0] S1024x2048.size inb_S1024x2048_S1024x2048_0_0, w⟩] = bgM.view.rep w :=
  whole_rep (Memref.isWhole_whole cc0_scratch2) _ _ f w
theorem bd_rep (c : Dev nD) (f : Buf (Elt F) (bdM.view.loc (c : Thread nD τ))) (w : FVec F S1024x1024 .bf16) :
    bdM.view.writes (Elt F) f [⟨Rect.unit (s := S1024x1024) ![0, 0] S1024x1024.size inb_S1024x1024_S1024x1024_0_0, w⟩] = bdM.view.rep w :=
  whole_rep (Memref.isWhole_whole cc0_scratch3) _ _ f w

/-- The eight pieces over whatever the block held leave what the point computes, once its loads are known. -/
theorem out_read (arg9 : Memref sig .tc .vmem S2048x128 .f32) (f9) (X4 : Vec F S2048x128 .f32) (X6 : Vec F S1x1x2048 .f32) (X8 : Vec F S1x1x1024 .f32) (BG : FVec F S1024x2048 .bf16) (BD : FVec F S1024x1024 .bf16)
    (w0 w1 w2 w3 w4 w5 w6 w7 : Vec F S256x128 .f32) (v27 : Vec F S1024x2048 .bf16) (v29 : Vec F S1x1x2048 .f32) (v49 : Vec F S1024x1024 .bf16) (v51 : Vec F S1x1x1024 .f32)
    (h0 : w0 = fun y => X4 ((⟨![0, 0], S256x128.size, ![8, 1], inb_S2048x128_S256x128_0_0_s_8_1⟩ : LoadRect S2048x128).idx y))
    (h1 : w1 = fun y => X4 ((⟨![1, 0], S256x128.size, ![8, 1], inb_S2048x128_S256x128_1_0_s_8_1⟩ : LoadRect S2048x128).idx y))
    (h2 : w2 = fun y => X4 ((⟨![2, 0], S256x128.size, ![8, 1], inb_S2048x128_S256x128_2_0_s_8_1⟩ : LoadRect S2048x128).idx y))
    (h3 : w3 = fun y => X4 ((⟨![3, 0], S256x128.size, ![8, 1], inb_S2048x128_S256x128_3_0_s_8_1⟩ : LoadRect S2048x128).idx y))
    (h4 : w4 = fun y => X4 ((⟨![4, 0], S256x128.size, ![8, 1], inb_S2048x128_S256x128_4_0_s_8_1⟩ : LoadRect S2048x128).idx y))
    (h5 : w5 = fun y => X4 ((⟨![5, 0], S256x128.size, ![8, 1], inb_S2048x128_S256x128_5_0_s_8_1⟩ : LoadRect S2048x128).idx y))
    (h6 : w6 = fun y => X4 ((⟨![6, 0], S256x128.size, ![8, 1], inb_S2048x128_S256x128_6_0_s_8_1⟩ : LoadRect S2048x128).idx y))
    (h7 : w7 = fun y => X4 ((⟨![7, 0], S256x128.size, ![8, 1], inb_S2048x128_S256x128_7_0_s_8_1⟩ : LoadRect S2048x128).idx y))
    (h27 : v27 = BG) (h29 : v29 = X6) (h49 : v49 = BD) (h51 : v51 = X8) :
    arg9.view.read (Elt F) (arg9.view.writes (Elt F) f9 (outL w0 w1 w2 w3 w4 w5 w6 w7 v27 v29 v49 v51)) = outV X4 X6 X8 BG BD := by
  subst h0 h1 h2 h3 h4 h5 h6 h7 h27 h29 h49 h51
  unfold outV
  exact View.read_writes_eq_canon _ _ _ (outL_cover _ _ _ _ _ _ _ _ _ _ _ _)

/-- The newest two words are the state. -/
theorem st_four (c : Dev nD) (f : Buf (Elt F) (stM.view.loc (c : Thread nD τ))) (e s : BitVec 32) (L : List (View.Piece (Elt F) S2 .i32)) :
    stM.view.writes (Elt F) f (⟨Rect.unit (s := S2) ![1] S1.size inb_S2_S1_1, fun _ => s⟩ :: ⟨Rect.unit (s := S2) ![0] S1.size inb_S2_S1_0, fun _ => e⟩ :: L) = stB c e s := by
  apply (Memref.isWhole_whole cc0_scratch4).read_bijective.1
  have h := View.read_writes_of_cover stM.view (stM.view.writes (Elt F) f L) stM.view stM.view.junk
    ([⟨Rect.unit (s := S2) ![1] S1.size inb_S2_S1_1, fun _ => s⟩, ⟨Rect.unit (s := S2) ![0] S1.size inb_S2_S1_0, fun _ => e⟩] : List (View.Piece (Elt F) S2 .i32))
    (by
      intro y
      have h0 : (y 0).val < 2 := (y 0).isLt
      by_cases hy : (y 0).val = 0
      · refine ⟨_, .tail _ (.head _), ?_⟩
        rw [Rect.mem_set_unit]; intro a; fin_cases a
        exact ⟨Nat.zero_le _, by show (y 0).val < 0 + 1; omega⟩
      · refine ⟨_, .head _, ?_⟩
        rw [Rect.mem_set_unit]; intro a; fin_cases a
        exact ⟨by show 1 ≤ (y 0).val; omega, by show (y 0).val < 1 + 1; omega⟩)
  exact h

/-- The rounded weights, read through either slot, are the expert's. -/
theorem pay2_slot (c : Dev nD) (s : Fin 2) (f : Buf (Elt F) ((gslot s).view.loc (c : Thread nD τ))) (inb) (P : Vec F S1024x2048 .f32) :
    k0_pay2 (F := F) (View.readAt (Elt F) sgM.view (Rect.unit (s := S2x1024x2048) ![s.val, 0, 0] S1x1024x2048.size inb).toLoadRect ((gslot s).view.writes (Elt F) f [⟨Rect.whole S1024x2048, P⟩]))
      = castG P := by
  unfold k0_pay2 castG
  refine (shapeCast_self _ _).trans ?_
  refine congrArg (fun x => truncf .bf16 x bitsLt_bf16_f32) ?_
  exact View.read_writes_whole (gslot s).view f P
theorem pay3_slot (c : Dev nD) (s : Fin 2) (f : Buf (Elt F) ((dslot s).view.loc (c : Thread nD τ))) (inb) (P : Vec F S1024x1024 .f32) :
    k0_pay3 (F := F) (View.readAt (Elt F) sdM.view (Rect.unit (s := S2x1024x1024) ![s.val, 0, 0] S1x1024x1024.size inb).toLoadRect ((dslot s).view.writes (Elt F) f [⟨Rect.whole S1024x1024, P⟩]))
      = castD P := by
  unfold k0_pay3 castD
  refine (shapeCast_self _ _).trans ?_
  refine congrArg (fun x => truncf .bf16 x bitsLt_bf16_f32) ?_
  exact View.read_writes_whole (dslot s).view f P

/-! ## What the body's conditions ask -/

theorem bit_cond1 (b : BitVec 1) : IntOp.cmpi .ne (b.setWidth 32) 0#32 = 1#1 ↔ b = 1#1 := by
  revert b; decide
theorem k0_cond3_iff (v1 v13 : BitVec 32) : k0_cond3 v1 v13 = 1#1 ↔ v13 ≠ v1 := by
  refine (bit_cond1 _).trans ?_
  show IntOp.cmpi .ne v13 v1 = 1#1 ↔ _
  rw [WordCmp.cmpi_ne_eq, WordCmp.ofBool_decide_eq_one_iff]
theorem k0_cond4_iff (v : BitVec 32) : k0_cond4 v = 1#1 ↔ 0 ≤ v.toInt := by
  refine (bit_cond1 _).trans ?_
  show IntOp.cmpi .sge v 0#32 = 1#1 ↔ _
  rw [WordCmp.cmpi_sge_eq, WordCmp.ofBool_decide_eq_one_iff]; rfl
theorem coord_lt (i : grid0.Coords) : (i 0).val < 288 := (i 0).isLt
theorem coord_toInt (i : grid0.Coords) : (BitVec.ofNat 32 (i 0).val).toInt = ((i 0).val : Int) :=
  WordCmp.toInt_ofNat_of_lt (by have := coord_lt i; omega)
theorem k0_cond1_iff (i : grid0.Coords) : k0_cond1 i = 1#1 ↔ (i 0).val = 0 := by
  refine (bit_cond1 _).trans ?_
  show IntOp.cmpi .eq (BitVec.ofNat 32 (i 0).val) 0#32 = 1#1 ↔ _
  rw [WordCmp.cmpi_eq_eq, WordCmp.ofBool_decide_eq_one_iff]
  have := coord_lt i
  constructor
  · intro h; have := congrArg BitVec.toNat h; rw [WordCmp.toNat_ofNat_of_lt (by omega)] at this; exact this
  · intro h; rw [h]
theorem k0_cond2_iff (i : grid0.Coords) (v : BitVec 32) : k0_cond2 i v = 1#1 ↔ ((i 0).val : Int) < v.toInt := by
  refine (bit_cond1 _).trans ?_
  show IntOp.cmpi .slt (BitVec.ofNat 32 (i 0).val) v = 1#1 ↔ _
  rw [WordCmp.cmpi_slt_eq, WordCmp.ofBool_decide_eq_one_iff, coord_toInt]
theorem k0_cond5_iff (i : grid0.Coords) (v : BitVec 32) : k0_cond5 i v = 1#1 ↔ v.toInt ≤ ((i 0).val : Int) := by
  refine (bit_cond1 _).trans ?_
  show IntOp.cmpi .sge (BitVec.ofNat 32 (i 0).val) v = 1#1 ↔ _
  rw [WordCmp.cmpi_sge_eq, WordCmp.ofBool_decide_eq_one_iff, coord_toInt]

section Words
variable (c : Dev nD) (i : grid0.Coords)
/-- The word of the table of next experts the body reads at point `i`, as it reads it first and then again. -/
abbrev nxW (NX : Buf (Elt F) (nxM.view.loc (c : Thread nD τ))) : BitVec 32 :=
  View.readAt (Elt F) nxM.view (Rect.unit (s := S288) (k0_off12 i) S1.size (k0_off12_inb i)).toLoadRect NX (Shape.Idx.first (by exact numel1_S1 ▸ Nat.one_pos))
abbrev nxW' (NX : Buf (Elt F) (nxM.view.loc (c : Thread nD τ))) : BitVec 32 :=
  View.readAt (Elt F) nxM.view (Rect.unit (s := S288) (k0_off13 i) S1.size (k0_off13_inb i)).toLoadRect NX (Shape.Idx.first (by exact numel1_S1 ▸ Nat.one_pos))
theorem nxW'_eq (NX : Buf (Elt F) (nxM.view.loc (c : Thread nD τ))) : nxW' c i NX = nxW c i NX := rfl
end Words

end Cert.KernelIdeal.Hand

end
-- ==== Proof.Ideal.Main.lean ====
/- The kernel's body around its main part: the words it reads first, the first transfers, and the blocks past the last used. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Main
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

/-- The word of the table of experts the body reads at point `i`. -/
abbrev beW (BE : Buf (Elt F) (beM.view.loc (c : Thread nD τ))) : BitVec 32 :=
  View.readAt (Elt F) beM.view (Rect.unit (s := S288) (k0_off1 i) S1.size (k0_off1_inb i)).toLoadRect BE (Shape.Idx.first (by exact numel1_S1 ▸ Nat.one_pos))
/-- The number of blocks in use, as the body reads it. -/
abbrev usW (US : Buf (Elt F) (usM.view.loc (c : Thread nD τ))) : BitVec 32 :=
  View.readAt (Elt F) usM.view (Rect.unit (s := S1) ![0] S1.size inb_S1_S1_0).toLoadRect US (Shape.Idx.first (by exact numel1_S1 ▸ Nat.one_pos))

theorem chk1_of (w : BitVec 32) (hw : w.toNat < 32) : k0_chk1 i w := by
  exact ⟨fun _ => gin w hw, fun _ => din w hw⟩

/-- A block in use after the first: the body is its main part, between the words it reads. -/
theorem mid_run (BE) (US) (qb qu : PosShare TreeShare) (v1 v5 : BitVec 32) (hv1 : beW c i BE = v1) (hv5 : usW c US = v5) (hv : v1.toNat < 32)
    (h1 : ¬ k0_cond1 i = 1#1) (h2 : k0_cond2 i v5 = 1#1) (h5 : ¬ k0_cond5 i v5 = 1#1) (R R' : sProp 𝕄)
    (hstep : ∀ K : PUnit → sProp 𝕄, iprop(R ∗ (R' -∗ K ⟨⟩)) ⊢ wp frame (wpE (defs₀ (F := F)) Variants.none c none) Set.univ
      (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K) (K : PUnit → sProp 𝕄) :
    iprop((beM.view.loc (c : Thread nD τ) ↦{qb} BE) ∗ (usM.view.loc (c : Thread nD τ) ↦{qu} US) ∗ R
        ∗ (iprop((beM.view.loc (c : Thread nD τ) ↦{qb} BE) ∗ (usM.view.loc (c : Thread nD τ) ↦{qu} US) ∗ R') -∗ K ⟨⟩))
      ⊢ wp frame (wpE (defs₀ (F := F)) Variants.none c none) Set.univ (cc0_ffn i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5) K := by
  subst hv1 hv5
  rw [cc0_ffn_eq_skeleton]; unfold cc0_ffn_skel
  have hc1 := chk1_of i (beW c i BE) hv
  generalize hP : k0_part3 (F := F) = P3
  iintro ⟨Hb, Hu, HR, Hk⟩
  sl_exec
  subst hP
  rw [wp_bind]
  iapply (hstep _)
  isplitl [HR]; · iexact HR
  iintro HR'
  sl_exec
  sl_step
  iapply Hk
  isplitl [Hb]; · iexact Hb
  isplitl [Hu]; · iexact Hu
  iexact HR'

/-- A block past the last in use is stored as zeros. -/
theorem tail_run (BE) (US) (qb qu : PosShare TreeShare) (v1 v5 : BitVec 32) (hv1 : beW c i BE = v1) (hv5 : usW c US = v5) (hv : v1.toNat < 32)
    (h1 : ¬ k0_cond1 i = 1#1) (h2 : ¬ k0_cond2 i v5 = 1#1) (h5 : k0_cond5 i v5 = 1#1) (f9) (K : PUnit → sProp 𝕄) :
    iprop((beM.view.loc (c : Thread nD τ) ↦{qb} BE) ∗ (usM.view.loc (c : Thread nD τ) ↦{qu} US)
        ∗ (arg9.view.loc (c : Thread nD τ) ↦[arg9.view.set]{fullShare} f9)
        ∗ (iprop((beM.view.loc (c : Thread nD τ) ↦{qb} BE) ∗ (usM.view.loc (c : Thread nD τ) ↦{qu} US)
            ∗ owns (c : Thread nD τ) arg9 fullShare (k0_pay1 (F := F))) -∗ K ⟨⟩))
      ⊢ wp frame (wpE (defs₀ (F := F)) Variants.none c none) Set.univ (cc0_ffn i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5) K := by
  subst hv1 hv5
  rw [cc0_ffn_eq_skeleton]; unfold cc0_ffn_skel
  have hc1 := chk1_of i (beW c i BE) hv
  unfold owns
  iintro ⟨Hb, Hu, H9, Hk⟩
  sl_exec
  sl_step
  iapply Hk
  isplitl [Hb]; · iexact Hb
  isplitl [Hu]; · iexact Hu
  iexists _; isplitr; swap; · iexact H9
  ipureintro
  exact (congrArg (arg9.view.read (Elt F)) (whole_rep harg9 _ _ f9 _)).trans (View.read_rep _ _)

variable (XG : Buf (Elt F) (wgM.view.loc (c : Thread nD τ))) (XD : Buf (Elt F) (wdM.view.loc (c : Thread nD τ)))

/-- The first block: the state is set, the first expert's transfers are started into slot 0, and the main part follows. -/
theorem head_run (BE) (US) (qb qu : PosShare TreeShare) (v1 v5 : BitVec 32) (hv1 : beW c i BE = v1) (hv5 : usW c US = v5) (hv : v1.toNat < 32)
    (h1 : k0_cond1 i = 1#1) (h2 : k0_cond2 i v5 = 1#1) (h5 : ¬ k0_cond5 i v5 = 1#1) (fg fd fs) (W : Waits sig Unit) (R R' : sProp 𝕄)
    (hstep : ∀ (W' : Waits sig Unit) (K : PUnit → sProp 𝕄), iprop((gflight c XG 0 v1 hv fg ∗ dflight c XD 0 v1 hv fd
        ∗ (stM.view.loc (c : Thread nD τ) ↦{fullShare} stB c 4294967295#32 1#32) ∗ owes (c : Thread nD τ) 0 W' ∗ R) ∗ (R' -∗ K ⟨⟩)) ⊢ wp frame (wpE (defs₀ (F := F)) Variants.none c none) Set.univ
      (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K) (K : PUnit → sProp 𝕄) :
    iprop((beM.view.loc (c : Thread nD τ) ↦{qb} BE) ∗ (usM.view.loc (c : Thread nD τ) ↦{qu} US)
        ∗ gslotP c 0 fg ∗ dslotP c 0 fd ∗ semVal ((c : Thread nD τ), gcell 0) 0 ∗ semVal ((c : Thread nD τ), dcell 0) 0
        ∗ gblkP c XG v1 hv ∗ dblkP c XD v1 hv ∗ (stM.view.loc (c : Thread nD τ) ↦{fullShare} fs) ∗ owes (c : Thread nD τ) 0 W ∗ R
        ∗ (iprop((beM.view.loc (c : Thread nD τ) ↦{qb} BE) ∗ (usM.view.loc (c : Thread nD τ) ↦{qu} US) ∗ R') -∗ K ⟨⟩))
      ⊢ wp frame (wpE (defs₀ (F := F)) Variants.none c none) Set.univ (cc0_ffn i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5) K := by
  subst hv1 hv5
  rw [cc0_ffn_eq_skeleton]; unfold cc0_ffn_skel
  have hc1 := chk1_of i (beW c i BE) hv
  generalize hP : k0_part3 (F := F) = P3
  iintro ⟨Hb, Hu, Hg, Hd, Hcg, Hcd, Hbg, Hbd, Hst, HO, HR, Hk⟩
  sl_exec
  subst hP
  rw [wp_bind]
  iapply (hstep _ _)
  isplitl [Hcg Hcd Hst HO HR]
  · isplitl [Hcg]; · iexact Hcg
    isplitl [Hcd]; · iexact Hcd
    isplitl [Hst]
    · rw [← st_four c fs 4294967295#32 1#32 []]; iexact Hst
    isplitl [HO]; · iexact HO
    iexact HR
  iintro HR'
  sl_exec
  sl_step
  iapply Hk
  isplitl [Hb]; · iexact Hb
  isplitl [Hu]; · iexact Hu
  iexact HR'

end Main

end Cert.KernelIdeal.Hand

end
-- ==== Proof.Ideal.State.lean ====
/- What is held between grid points: the slots, the cells, the experts' weights, and the transfer in flight. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The parts of the buffers -/

theorem gblk_mem (w : BitVec 32) (h : w.toNat < 32) (i : S32x1024x2048.Idx) : i ∈ ((gblk w h).view.set : Finset S32x1024x2048.Idx) ↔ (i 0).val = w.toNat := by
  have e : ((gblk w h).view.set : Finset S32x1024x2048.Idx) = (Rect.unit (s := S32x1024x2048) ![w.toNat, 0, 0] S1x1024x2048.size (gin w h)).set :=
    (Memref.set_view_squeeze _ _).trans (View.set_slice_whole _ _)
  rw [e, Rect.mem_set_unit]
  have h1 : (i 1).val < 1024 := (i 1).isLt
  have h2 : (i 2).val < 2048 := (i 2).isLt
  constructor
  · intro H; have H0 := H 0
    have a : w.toNat ≤ (i 0).val := H0.1
    have b : (i 0).val < w.toNat + 1 := H0.2
    omega
  · intro H a; fin_cases a
    · exact ⟨show w.toNat ≤ (i 0).val by omega, show (i 0).val < w.toNat + 1 by omega⟩
    · exact ⟨Nat.zero_le _, show (i 1).val < 0 + 1024 by omega⟩
    · exact ⟨Nat.zero_le _, show (i 2).val < 0 + 2048 by omega⟩
theorem gslot_mem (s : Fin 2) (i : S2x1024x2048.Idx) : i ∈ ((gslot s).view.set : Finset S2x1024x2048.Idx) ↔ (i 0).val = s.val := by
  have e : ((gslot s).view.set : Finset S2x1024x2048.Idx) = (Rect.unit (s := S2x1024x2048) ![s.val, 0, 0] S1x1024x2048.size (sgin s)).set :=
    (Memref.set_view_squeeze _ _).trans (View.set_slice_whole _ _)
  rw [e, Rect.mem_set_unit]
  have h1 : (i 1).val < 1024 := (i 1).isLt
  have h2 : (i 2).val < 2048 := (i 2).isLt
  constructor
  · intro H; have H0 := H 0
    have a : s.val ≤ (i 0).val := H0.1
    have b : (i 0).val < s.val + 1 := H0.2
    omega
  · intro H a; fin_cases a
    · exact ⟨show s.val ≤ (i 0).val by omega, show (i 0).val < s.val + 1 by omega⟩
    · exact ⟨Nat.zero_le _, show (i 1).val < 0 + 1024 by omega⟩
    · exact ⟨Nat.zero_le _, show (i 2).val < 0 + 2048 by omega⟩
theorem dblk_mem (w : BitVec 32) (h : w.toNat < 32) (i : S32x1024x1024.Idx) : i ∈ ((dblk w h).view.set : Finset S32x1024x1024.Idx) ↔ (i 0).val = w.toNat := by
  have e : ((dblk w h).view.set : Finset S32x1024x1024.Idx) = (Rect.unit (s := S32x1024x1024) ![w.toNat, 0, 0] S1x1024x1024.size (din w h)).set :=
    (Memref.set_view_squeeze _ _).trans (View.set_slice_whole _ _)
  rw [e, Rect.mem_set_unit]
  have h1 : (i 1).val < 1024 := (i 1).isLt
  have h2 : (i 2).val < 1024 := (i 2).isLt
  constructor
  · intro H; have H0 := H 0
    have a : w.toNat ≤ (i 0).val := H0.1
    have b : (i 0).val < w.toNat + 1 := H0.2
    omega
  · intro H a; fin_cases a
    · exact ⟨show w.toNat ≤ (i 0).val by omega, show (i 0).val < w.toNat + 1 by omega⟩
    · exact ⟨Nat.zero_le _, show (i 1).val < 0 + 1024 by omega⟩
    · exact ⟨Nat.zero_le _, show (i 2).val < 0 + 1024 by omega⟩
theorem dslot_mem (s : Fin 2) (i : S2x1024x1024.Idx) : i ∈ ((dslot s).view.set : Finset S2x1024x1024.Idx) ↔ (i 0).val = s.val := by
  have e : ((dslot s).view.set : Finset S2x1024x1024.Idx) = (Rect.unit (s := S2x1024x1024) ![s.val, 0, 0] S1x1024x1024.size (sdin s)).set :=
    (Memref.set_view_squeeze _ _).trans (View.set_slice_whole _ _)
  rw [e, Rect.mem_set_unit]
  have h1 : (i 1).val < 1024 := (i 1).isLt
  have h2 : (i 2).val < 1024 := (i 2).isLt
  constructor
  · intro H; have H0 := H 0
    have a : s.val ≤ (i 0).val := H0.1
    have b : (i 0).val < s.val + 1 := H0.2
    omega
  · intro H a; fin_cases a
    · exact ⟨show s.val ≤ (i 0).val by omega, show (i 0).val < s.val + 1 by omega⟩
    · exact ⟨Nat.zero_le _, show (i 1).val < 0 + 1024 by omega⟩
    · exact ⟨Nat.zero_le _, show (i 2).val < 0 + 1024 by omega⟩

section Pieces
variable (c : Dev nD)
  (XG : Buf (Elt F) (wgM.view.loc (c : Thread nD τ))) (XD : Buf (Elt F) (wdM.view.loc (c : Thread nD τ)))

/-- The experts' weights but expert `w`'s. -/
abbrev gRest (w : BitVec 32) (h : w.toNat < 32) : sProp 𝕄 :=
  wgM.view.loc (c : Thread nD τ) ↦[(Finset.univ : Finset S32x1024x2048.Idx) \ (gblk w h).view.set]{fullShare} XG
/-- The array is one expert's block and the rest; -/
theorem g_open (w : BitVec 32) (h : w.toNat < 32) :
    (wgM.view.loc (c : Thread nD τ) ↦{fullShare} XG : sProp 𝕄) ⊢ iprop(gblkP c XG w h ∗ gRest c XG w h) :=
  (pointsTo_split_subset (Finset.subset_univ _)).1
theorem g_close (w : BitVec 32) (h : w.toNat < 32) :
    iprop(gblkP c XG w h ∗ gRest c XG w h) ⊢ (wgM.view.loc (c : Thread nD τ) ↦{fullShare} XG : sProp 𝕄) :=
  (pointsTo_split_subset (Finset.subset_univ _)).2
/-- and with one expert's block out, another's can be taken from the rest, and the first put back. -/
abbrev gRest2 (w : BitVec 32) (h : w.toNat < 32) (n : BitVec 32) (hn : n.toNat < 32) : sProp 𝕄 :=
  wgM.view.loc (c : Thread nD τ) ↦[((Finset.univ : Finset S32x1024x2048.Idx) \ (gblk w h).view.set) \ (gblk n hn).view.set]{fullShare} XG
theorem g_take (w : BitVec 32) (h : w.toNat < 32) (n : BitVec 32) (hn : n.toNat < 32) (hne : n ≠ w) :
    gRest c XG w h ⊢ iprop(gblkP c XG n hn ∗ gRest2 c XG w h n hn) :=
  (pointsTo_split_subset (fun i hi => Finset.mem_sdiff.2 ⟨Finset.mem_univ _, fun hw => hne (by
    have a := (gblk_mem n hn i).1 hi; have b := (gblk_mem w h i).1 hw
    exact BitVec.eq_of_toNat_eq (a.symm.trans b))⟩)).1
theorem g_put (w : BitVec 32) (h : w.toNat < 32) (n : BitVec 32) (hn : n.toNat < 32) (hne : n ≠ w) :
    iprop(gblkP c XG w h ∗ gRest2 c XG w h n hn) ⊢ gRest c XG n hn := by
  have e : (((Finset.univ : Finset S32x1024x2048.Idx) \ (gblk w h).view.set) \ (gblk n hn).view.set) = ((Finset.univ : Finset S32x1024x2048.Idx) \ (gblk n hn).view.set) \ (gblk w h).view.set := by
    ext i; simp only [Finset.mem_sdiff, Finset.mem_univ, true_and]; exact and_comm
  unfold gRest2
  rw [e]
  exact (pointsTo_split_subset (fun i hi => Finset.mem_sdiff.2 ⟨Finset.mem_univ _, fun hw => hne (by
    have a := (gblk_mem w h i).1 hi; have b := (gblk_mem n hn i).1 hw
    exact BitVec.eq_of_toNat_eq (b.symm.trans a))⟩)).2
/-- A staging buffer is its two slots. -/
theorem gslots_split (f : Buf (Elt F) (sgM.view.loc (c : Thread nD τ))) :
    (sgM.view.loc (c : Thread nD τ) ↦{fullShare} f : sProp 𝕄) ⊢ iprop(gslotP c 0 f ∗ gslotP c 1 f) := by
  have hd : Disjoint ((gslot 0).view.set : Finset S2x1024x2048.Idx) (gslot 1).view.set := Finset.disjoint_left.2 fun i h0 h1 => by
    have a := (gslot_mem 0 i).1 h0; have b := (gslot_mem 1 i).1 h1; exact absurd (a.symm.trans b) (by decide)
  have hu : (Finset.univ : Finset S2x1024x2048.Idx) = ((gslot 0).view.set : Finset S2x1024x2048.Idx) ∪ (gslot 1).view.set := by
    ext i; simp only [Finset.mem_univ, Finset.mem_union, true_iff]
    have hi : (i 0).val < 2 := (i 0).isLt
    rcases (by omega : (i 0).val = 0 ∨ (i 0).val = 1) with h | h
    · exact .inl ((gslot_mem 0 i).2 h)
    · exact .inr ((gslot_mem 1 i).2 h)
  rw [show (sgM.view.loc (c : Thread nD τ) ↦{fullShare} f : sProp 𝕄) = (sgM.view.loc (c : Thread nD τ) ↦[((gslot 0).view.set : Finset S2x1024x2048.Idx) ∪ (gslot 1).view.set]{fullShare} f) from
    congrArg (fun I : Finset S2x1024x2048.Idx => (sgM.view.loc (c : Thread nD τ) ↦[I]{fullShare} f : sProp 𝕄)) hu]
  exact (pointsTo_union hd).1
theorem gslots_join (f0 : Buf (Elt F) (sgM.view.loc (c : Thread nD τ))) (f1 : Buf (Elt F) (sgM.view.loc (c : Thread nD τ))) :
    iprop(gslotP c 0 f0 ∗ gslotP c 1 f1) ⊢ (iprop(∃ f, sgM.view.loc (c : Thread nD τ) ↦{fullShare} f) : sProp 𝕄) := by
  have hd : Disjoint ((gslot 0).view.set : Finset S2x1024x2048.Idx) (gslot 1).view.set := Finset.disjoint_left.2 fun i h0 h1 => by
    have a := (gslot_mem 0 i).1 h0; have b := (gslot_mem 1 i).1 h1; exact absurd (a.symm.trans b) (by decide)
  have hu : ((gslot 0).view.set : Finset S2x1024x2048.Idx) ∪ (gslot 1).view.set = (Finset.univ : Finset S2x1024x2048.Idx) := by
    ext i; simp only [Finset.mem_univ, Finset.mem_union, iff_true]
    have hi : (i 0).val < 2 := (i 0).isLt
    rcases (by omega : (i 0).val = 0 ∨ (i 0).val = 1) with h | h
    · exact .inl ((gslot_mem 0 i).2 h)
    · exact .inr ((gslot_mem 1 i).2 h)
  refine (pointsTo_join hd).trans ?_
  rw [hu]
  iintro H; iexists _; iexact H
/-- The experts' weights but expert `w`'s. -/
abbrev dRest (w : BitVec 32) (h : w.toNat < 32) : sProp 𝕄 :=
  wdM.view.loc (c : Thread nD τ) ↦[(Finset.univ : Finset S32x1024x1024.Idx) \ (dblk w h).view.set]{fullShare} XD
/-- The array is one expert's block and the rest; -/
theorem d_open (w : BitVec 32) (h : w.toNat < 32) :
    (wdM.view.loc (c : Thread nD τ) ↦{fullShare} XD : sProp 𝕄) ⊢ iprop(dblkP c XD w h ∗ dRest c XD w h) :=
  (pointsTo_split_subset (Finset.subset_univ _)).1
theorem d_close (w : BitVec 32) (h : w.toNat < 32) :
    iprop(dblkP c XD w h ∗ dRest c XD w h) ⊢ (wdM.view.loc (c : Thread nD τ) ↦{fullShare} XD : sProp 𝕄) :=
  (pointsTo_split_subset (Finset.subset_univ _)).2
/-- and with one expert's block out, another's can be taken from the rest, and the first put back. -/
abbrev dRest2 (w : BitVec 32) (h : w.toNat < 32) (n : BitVec 32) (hn : n.toNat < 32) : sProp 𝕄 :=
  wdM.view.loc (c : Thread nD τ) ↦[((Finset.univ : Finset S32x1024x1024.Idx) \ (dblk w h).view.set) \ (dblk n hn).view.set]{fullShare} XD
theorem d_take (w : BitVec 32) (h : w.toNat < 32) (n : BitVec 32) (hn : n.toNat < 32) (hne : n ≠ w) :
    dRest c XD w h ⊢ iprop(dblkP c XD n hn ∗ dRest2 c XD w h n hn) :=
  (pointsTo_split_subset (fun i hi => Finset.mem_sdiff.2 ⟨Finset.mem_univ _, fun hw => hne (by
    have a := (dblk_mem n hn i).1 hi; have b := (dblk_mem w h i).1 hw
    exact BitVec.eq_of_toNat_eq (a.symm.trans b))⟩)).1
theorem d_put (w : BitVec 32) (h : w.toNat < 32) (n : BitVec 32) (hn : n.toNat < 32) (hne : n ≠ w) :
    iprop(dblkP c XD w h ∗ dRest2 c XD w h n hn) ⊢ dRest c XD n hn := by
  have e : (((Finset.univ : Finset S32x1024x1024.Idx) \ (dblk w h).view.set) \ (dblk n hn).view.set) = ((Finset.univ : Finset S32x1024x1024.Idx) \ (dblk n hn).view.set) \ (dblk w h).view.set := by
    ext i; simp only [Finset.mem_sdiff, Finset.mem_univ, true_and]; exact and_comm
  unfold dRest2
  rw [e]
  exact (pointsTo_split_subset (fun i hi => Finset.mem_sdiff.2 ⟨Finset.mem_univ _, fun hw => hne (by
    have a := (dblk_mem w h i).1 hi; have b := (dblk_mem n hn i).1 hw
    exact BitVec.eq_of_toNat_eq (b.symm.trans a))⟩)).2
/-- A staging buffer is its two slots. -/
theorem dslots_split (f : Buf (Elt F) (sdM.view.loc (c : Thread nD τ))) :
    (sdM.view.loc (c : Thread nD τ) ↦{fullShare} f : sProp 𝕄) ⊢ iprop(dslotP c 0 f ∗ dslotP c 1 f) := by
  have hd : Disjoint ((dslot 0).view.set : Finset S2x1024x1024.Idx) (dslot 1).view.set := Finset.disjoint_left.2 fun i h0 h1 => by
    have a := (dslot_mem 0 i).1 h0; have b := (dslot_mem 1 i).1 h1; exact absurd (a.symm.trans b) (by decide)
  have hu : (Finset.univ : Finset S2x1024x1024.Idx) = ((dslot 0).view.set : Finset S2x1024x1024.Idx) ∪ (dslot 1).view.set := by
    ext i; simp only [Finset.mem_univ, Finset.mem_union, true_iff]
    have hi : (i 0).val < 2 := (i 0).isLt
    rcases (by omega : (i 0).val = 0 ∨ (i 0).val = 1) with h | h
    · exact .inl ((dslot_mem 0 i).2 h)
    · exact .inr ((dslot_mem 1 i).2 h)
  rw [show (sdM.view.loc (c : Thread nD τ) ↦{fullShare} f : sProp 𝕄) = (sdM.view.loc (c : Thread nD τ) ↦[((dslot 0).view.set : Finset S2x1024x1024.Idx) ∪ (dslot 1).view.set]{fullShare} f) from
    congrArg (fun I : Finset S2x1024x1024.Idx => (sdM.view.loc (c : Thread nD τ) ↦[I]{fullShare} f : sProp 𝕄)) hu]
  exact (pointsTo_union hd).1
theorem dslots_join (f0 : Buf (Elt F) (sdM.view.loc (c : Thread nD τ))) (f1 : Buf (Elt F) (sdM.view.loc (c : Thread nD τ))) :
    iprop(dslotP c 0 f0 ∗ dslotP c 1 f1) ⊢ (iprop(∃ f, sdM.view.loc (c : Thread nD τ) ↦{fullShare} f) : sProp 𝕄) := by
  have hd : Disjoint ((dslot 0).view.set : Finset S2x1024x1024.Idx) (dslot 1).view.set := Finset.disjoint_left.2 fun i h0 h1 => by
    have a := (dslot_mem 0 i).1 h0; have b := (dslot_mem 1 i).1 h1; exact absurd (a.symm.trans b) (by decide)
  have hu : ((dslot 0).view.set : Finset S2x1024x1024.Idx) ∪ (dslot 1).view.set = (Finset.univ : Finset S2x1024x1024.Idx) := by
    ext i; simp only [Finset.mem_univ, Finset.mem_union, iff_true]
    have hi : (i 0).val < 2 := (i 0).isLt
    rcases (by omega : (i 0).val = 0 ∨ (i 0).val = 1) with h | h
    · exact .inl ((dslot_mem 0 i).2 h)
    · exact .inr ((dslot_mem 1 i).2 h)
  refine (pointsTo_join hd).trans ?_
  rw [hu]
  iintro H; iexists _; iexact H

/-! ## What is held -/

/-- Expert `w`'s weights in flight into slot `s`, with the other slot `o` and its cells free and the rest of the weights held. -/
def Hold (s o : Fin 2) (w : BitVec 32) (h : w.toNat < 32) : sProp 𝕄 :=
  iprop((∃ f, gflight c XG s w h f) ∗ (∃ f, dflight c XD s w h f) ∗ (∃ f, gslotP c o f) ∗ (∃ f, dslotP c o f)
    ∗ semVal ((c : Thread nD τ), gcell o) 0 ∗ semVal ((c : Thread nD τ), dcell o) 0 ∗ gRest c XG w h ∗ dRest c XD w h)
/-- Nothing in flight: slots `s` and `o` and their cells free, the weights whole. -/
def Quiet (s o : Fin 2) : sProp 𝕄 :=
  iprop((∃ f, gslotP c s f) ∗ (∃ f, dslotP c s f) ∗ (∃ f, gslotP c o f) ∗ (∃ f, dslotP c o f)
    ∗ semVal ((c : Thread nD τ), gcell s) 0 ∗ semVal ((c : Thread nD τ), dcell s) 0 ∗ semVal ((c : Thread nD τ), gcell o) 0 ∗ semVal ((c : Thread nD τ), dcell o) 0
    ∗ (wgM.view.loc (c : Thread nD τ) ↦{fullShare} XG) ∗ (wdM.view.loc (c : Thread nD τ) ↦{fullShare} XD))
/-- The next expert `n`, where it is one, in flight into slot `s`. -/
def Next (s o : Fin 2) (n : BitVec 32) : sProp 𝕄 :=
  if h : n.toNat < 32 then Hold c XG XD s o n h else Quiet c XG XD s o
theorem Next_hold (s o : Fin 2) (n : BitVec 32) (h : n.toNat < 32) : Next c XG XD s o n = Hold c XG XD s o n h := dif_pos h
theorem Next_quiet (s o : Fin 2) (n : BitVec 32) (h : ¬ n.toNat < 32) : Next c XG XD s o n = Quiet c XG XD s o := dif_neg h

/-- The rounded weights of expert `e`, in place. -/
def Cast (e : BitVec 32) (h : e.toNat < 32) : sProp 𝕄 :=
  iprop((bgM.view.loc (c : Thread nD τ) ↦{fullShare} bgM.view.rep (castG (GW c XG e h))) ∗ (bdM.view.loc (c : Thread nD τ) ↦{fullShare} bdM.view.rep (castD (DW c XD e h))))
/-- The two buffers of rounded weights at anything. -/
def CastAny : sProp 𝕄 :=
  iprop((∃ f, bgM.view.loc (c : Thread nD τ) ↦{fullShare} f) ∗ (∃ f, bdM.view.loc (c : Thread nD τ) ↦{fullShare} f))
theorem Cast_any (e : BitVec 32) (h : e.toNat < 32) : Cast c XG XD e h ⊢ CastAny (F := F) c := by
  unfold Cast CastAny
  iintro ⟨H1, H2⟩
  isplitl [H1]
  · iexists _; iexact H1
  iexists _; iexact H2

/-- A slot `s` for the next expert, the other `o`, and the word `k` of the other. -/
def Pair (s o : Fin 2) (k : BitVec 32) : Prop := (s = 0 ∧ o = 1 ∧ k = 1#32) ∨ (s = 1 ∧ o = 0 ∧ k = 0#32)

/-- The state between points: the state words say expert `e`, whose weights came through slot `o`; the next expert is `n`. -/
def Inv (e n : BitVec 32) : sProp 𝕄 :=
  iprop(∃ s o k, ⌜Pair s o k⌝ ∗ Next c XG XD s o n ∗ (stM.view.loc (c : Thread nD τ) ↦{fullShare} stB c e k))

end Pieces

end Cert.KernelIdeal.Hand

end
-- ==== Proof.Ideal.Keep.lean ====
/- A grid point whose expert is the one whose weights are already rounded. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Keep
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

/-- The expert has not changed: the weights stay, nothing is waited for and nothing started. -/
theorem keep_run (v1 v5 : BitVec 32) (s : BitVec 32) (h2)
    (X4 X6 X8) (q4 q6 q8 : PosShare TreeShare) (BG BD) (f9) (W : Waits sig Unit) (K : _ → sProp 𝕄) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (bgM.view.loc (c : Thread nD τ) ↦{fullShare} bgM.view.rep BG) ∗ (bdM.view.loc (c : Thread nD τ) ↦{fullShare} bdM.view.rep BD)
        ∗ (stM.view.loc (c : Thread nD τ) ↦{fullShare} stB c v1 s) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 BG BD)
            ∗ (bgM.view.loc (c : Thread nD τ) ↦{fullShare} bgM.view.rep BG) ∗ (bdM.view.loc (c : Thread nD τ) ↦{fullShare} bdM.view.rep BD)
            ∗ (stM.view.loc (c : Thread nD τ) ↦{fullShare} stB c v1 s) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  rw [k0_part3_eq_skeleton]; unfold k0_part3_skel
  rw [k0_part2_eq_skeleton]; unfold k0_part2_skel
  have hne : ¬ k0_cond3 v1 v1 = 1#1 := by rw [k0_cond3_iff]; exact fun h => h rfl
  have hc3 : k0_chk3 i v1 v5 v1 := ⟨fun _ h => absurd h hne, fun _ h => absurd h hne⟩
  unfold owns
  iintro ⟨H4, H6, H8, H9, Hbg, Hbd, Hst, HO, Hk⟩
  sl_exec
  sl_step
  iapply Hk
  isplitl [H4]; · iexact H4
  isplitl [H6]; · iexact H6
  isplitl [H8]; · iexact H8
  isplitl [H9]
  · iexists _; isplitr; swap; · iexact H9
    ipureintro
    exact out_read arg9 f9 X4 X6 X8 BG BD _ _ _ _ _ _ _ _ _ _ _ _ (readAt_unread harg4 (⟨![0, 0], S256x128.size, ![8, 1], inb_S2048x128_S256x128_0_0_s_8_1⟩ : LoadRect S2048x128) X4) (readAt_unread harg4 (⟨![1, 0], S256x128.size, ![8, 1], inb_S2048x128_S256x128_1_0_s_8_1⟩ : LoadRect S2048x128) X4) (readAt_unread harg4 (⟨![2, 0], S256x128.size, ![8, 1], inb_S2048x128_S256x128_2_0_s_8_1⟩ : LoadRect S2048x128) X4) (readAt_unread harg4 (⟨![3, 0], S256x128.size, ![8, 1], inb_S2048x128_S256x128_3_0_s_8_1⟩ : LoadRect S2048x128) X4) (readAt_unread harg4 (⟨![4, 0], S256x128.size, ![8, 1], inb_S2048x128_S256x128_4_0_s_8_1⟩ : LoadRect S2048x128) X4) (readAt_unread harg4 (⟨![5, 0], S256x128.size, ![8, 1], inb_S2048x128_S256x128_5_0_s_8_1⟩ : LoadRect S2048x128) X4) (readAt_unread harg4 (⟨![6, 0], S256x128.size, ![8, 1], inb_S2048x128_S256x128_6_0_s_8_1⟩ : LoadRect S2048x128) X4) (readAt_unread harg4 (⟨![7, 0], S256x128.size, ![8, 1], inb_S2048x128_S256x128_7_0_s_8_1⟩ : LoadRect S2048x128) X4) (readAt_rep_full bgM _ _ BG) (readAt_unread_full harg6 _ _ X6) (readAt_rep_full bdM _ _ BD) (readAt_unread_full harg8 _ _ X8)
  isplitl [Hbg]; · iexact Hbg
  isplitl [Hbd]; · iexact Hbd
  isplitl [Hst]; · iexact Hst
  iexists _; iexact HO

end Keep

end Cert.KernelIdeal.Hand

end
-- ==== Proof.Ideal.Swap0n.lean ====
/- A grid point at a new expert whose weights come through slot 0, the next expert's started into the other slot. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Swap
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

variable (XG : Buf (Elt F) (wgM.view.loc (c : Thread nD τ))) (XD : Buf (Elt F) (wdM.view.loc (c : Thread nD τ)))

/-- The expert is new: its weights, in flight into slot 0, are waited for and rounded, and the next expert's transfer is started. -/
theorem swap0n_run (v1 v5 v13 : BitVec 32) (hv : v1.toNat < 32) (hne : k0_cond3 v1 v13 = 1#1) (h2)
    (X4 X6 X8) (q4 q6 q8 qx : PosShare TreeShare) (NX) (fg fd fg' fd' fbg fbd f9) (W : Waits sig Unit) (K : _ → sProp 𝕄)
    (hn : (nxW' c i NX).toNat < 32) (hn4 : k0_cond4 (nxW c i NX) = 1#1) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ gflight c XG 0 v1 hv fg ∗ dflight c XD 0 v1 hv fd
        ∗ gslotP c 1 fg' ∗ dslotP c 1 fd' ∗ semVal ((c : Thread nD τ), gcell 1) 0 ∗ semVal ((c : Thread nD τ), dcell 1) 0
        ∗ gblkP c XG (nxW' c i NX) hn ∗ dblkP c XD (nxW' c i NX) hn
        ∗ (bgM.view.loc (c : Thread nD τ) ↦{fullShare} fbg) ∗ (bdM.view.loc (c : Thread nD τ) ↦{fullShare} fbd)
        ∗ (stM.view.loc (c : Thread nD τ) ↦{fullShare} stB c v13 1#32) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ (∃ f, gslotP c 0 f) ∗ (∃ f, dslotP c 0 f) ∗ semVal ((c : Thread nD τ), gcell 0) 0 ∗ semVal ((c : Thread nD τ), dcell 0) 0
            ∗ gblkP c XG v1 hv ∗ dblkP c XD v1 hv
            ∗ gflight c XG 1 (nxW' c i NX) hn fg' ∗ dflight c XD 1 (nxW' c i NX) hn fd'
            ∗ (bgM.view.loc (c : Thread nD τ) ↦{fullShare} bgM.view.rep (castG (GW c XG v1 hv))) ∗ (bdM.view.loc (c : Thread nD τ) ↦{fullShare} bdM.view.rep (castD (DW c XD v1 hv)))
            ∗ (stM.view.loc (c : Thread nD τ) ↦{fullShare} stB c v1 0#32) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  rw [k0_part3_eq_skeleton]; unfold k0_part3_skel
  rw [k0_part2_eq_skeleton]; unfold k0_part2_skel
  rw [k0_part1_eq_skeleton]; unfold k0_part1_skel
  have hc3 : k0_chk3 i v1 v5 v13 := ⟨fun _ _ => gin v1 hv, fun _ _ => din v1 hv⟩
  have hc2 := chk2_1 i v1 v5 v13
  have hc4 := chk4_1 i v1 v5 v13 (nxW c i NX)
  have hc5 : k0_chk5 i v1 v5 v13 (nxW c i NX) (nxW' c i NX) := ⟨fun _ _ _ => gin _ hn, fun _ _ _ => din _ hn⟩
  unfold owns
  iintro ⟨H4, H6, H8, H9, Hnx, Hg, Hd, Hsg, Hsd, Hcg, Hcd, Hng, Hnd, Hbg, Hbd, Hst, HO, Hk⟩
  sl_exec
  sl_step
  iapply Hk
  isplitl [H4]; · iexact H4
  isplitl [H6]; · iexact H6
  isplitl [H8]; · iexact H8
  isplitl [H9]
  · iexists _; isplitr; swap; · iexact H9
    ipureintro
    have e2 : swap0n_run.sl.v27 c i XG v1 v5 v13 hv hne h2 hc2 = castG (GW c XG v1 hv) :=
      (View.readCov_cons_toLoadRect bgM.view _ _ []).trans (pay2_slot c 0 _ _ (GW c XG v1 hv))
    have e3 : swap0n_run.sl.v49 c i XD v1 v5 v13 hv hne h2 hc2 = castD (DW c XD v1 hv) :=
      (View.readCov_cons_toLoadRect bdM.view _ _ []).trans (pay3_slot c 0 _ _ (DW c XD v1 hv))
    exact out_read arg9 f9 X4 X6 X8 (castG (GW c XG v1 hv)) (castD (DW c XD v1 hv)) _ _ _ _ _ _ _ _ _ _ _ _ (readAt_unread harg4 (⟨![0, 0], S256x128.size, ![8, 1], inb_S2048x128_S256x128_0_0_s_8_1⟩ : LoadRect S2048x128) X4) (readAt_unread harg4 (⟨![1, 0], S256x128.size, ![8, 1], inb_S2048x128_S256x128_1_0_s_8_1⟩ : LoadRect S2048x128) X4) (readAt_unread harg4 (⟨![2, 0], S256x128.size, ![8, 1], inb_S2048x128_S256x128_2_0_s_8_1⟩ : LoadRect S2048x128) X4) (readAt_unread harg4 (⟨![3, 0], S256x128.size, ![8, 1], inb_S2048x128_S256x128_3_0_s_8_1⟩ : LoadRect S2048x128) X4) (readAt_unread harg4 (⟨![4, 0], S256x128.size, ![8, 1], inb_S2048x128_S256x128_4_0_s_8_1⟩ : LoadRect S2048x128) X4) (readAt_unread harg4 (⟨![5, 0], S256x128.size, ![8, 1], inb_S2048x128_S256x128_5_0_s_8_1⟩ : LoadRect S2048x128) X4) (readAt_unread harg4 (⟨![6, 0], S256x128.size, ![8, 1], inb_S2048x128_S256x128_6_0_s_8_1⟩ : LoadRect S2048x128) X4) (readAt_unread harg4 (⟨![7, 0], S256x128.size, ![8, 1], inb_S2048x128_S256x128_7_0_s_8_1⟩ : LoadRect S2048x128) X4) e2 (readAt_unread_full harg6 _ _ X6) e3 (readAt_unread_full harg8 _ _ X8)
  isplitl [Hnx]; · iexact Hnx
  isplitl [Hg_dst]; · iexists _; iexact Hg_dst
  isplitl [Hd_dst]; · iexists _; iexact Hd_dst
  isplitl [Hg]; · iexact Hg
  isplitl [Hd]; · iexact Hd
  isplitl [Hg_src]; · iexact Hg_src
  isplitl [Hd_src]; · iexact Hd_src
  isplitl [Hcg]; · iexact Hcg
  isplitl [Hcd]; · iexact Hcd
  isplitl [Hbg]
  · have e : bgM.view.writes (Elt F) fbg (swap0n_run.sl.Hbg_1 c i XG v1 v5 v13 hv hne h2 hc2) = bgM.view.rep (castG (GW c XG v1 hv)) :=
      (bg_rep c fbg _).trans (congrArg bgM.view.rep (pay2_slot c 0 _ _ (GW c XG v1 hv)))
    rw [← e]; iexact Hbg
  isplitl [Hbd]
  · have e : bdM.view.writes (Elt F) fbd (swap0n_run.sl.Hbd_1 c i XD v1 v5 v13 hv hne h2 hc2) = bdM.view.rep (castD (DW c XD v1 hv)) :=
      (bd_rep c fbd _).trans (congrArg bdM.view.rep (pay3_slot c 0 _ _ (DW c XD v1 hv)))
    rw [← e]; iexact Hbd
  isplitl [Hst]
  · rw [← st_four c stM.view.junk v1 0#32]; iexact Hst
  iexists _; iexact HO

end Swap

end Cert.KernelIdeal.Hand

end
-- ==== Proof.Ideal.Swap0e.lean ====
/- A grid point at a new expert whose weights come through slot 0, with no expert after it. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Swap
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

variable (XG : Buf (Elt F) (wgM.view.loc (c : Thread nD τ))) (XD : Buf (Elt F) (wdM.view.loc (c : Thread nD τ)))

/-- The expert is new: its weights, in flight into slot 0, are waited for and rounded. -/
theorem swap0e_run (v1 v5 v13 : BitVec 32) (hv : v1.toNat < 32) (hne : k0_cond3 v1 v13 = 1#1) (h2)
    (X4 X6 X8) (q4 q6 q8 qx : PosShare TreeShare) (NX) (fg fd fbg fbd f9) (W : Waits sig Unit) (K : _ → sProp 𝕄)
    (hn4 : ¬ k0_cond4 (nxW c i NX) = 1#1) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ gflight c XG 0 v1 hv fg ∗ dflight c XD 0 v1 hv fd
        ∗ (bgM.view.loc (c : Thread nD τ) ↦{fullShare} fbg) ∗ (bdM.view.loc (c : Thread nD τ) ↦{fullShare} fbd)
        ∗ (stM.view.loc (c : Thread nD τ) ↦{fullShare} stB c v13 1#32) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ (∃ f, gslotP c 0 f) ∗ (∃ f, dslotP c 0 f) ∗ semVal ((c : Thread nD τ), gcell 0) 0 ∗ semVal ((c : Thread nD τ), dcell 0) 0
            ∗ gblkP c XG v1 hv ∗ dblkP c XD v1 hv
            ∗ (bgM.view.loc (c : Thread nD τ) ↦{fullShare} bgM.view.rep (castG (GW c XG v1 hv))) ∗ (bdM.view.loc (c : Thread nD τ) ↦{fullShare} bdM.view.rep (castD (DW c XD v1 hv)))
            ∗ (stM.view.loc (c : Thread nD τ) ↦{fullShare} stB c v1 0#32) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  rw [k0_part3_eq_skeleton]; unfold k0_part3_skel
  rw [k0_part2_eq_skeleton]; unfold k0_part2_skel
  rw [k0_part1_eq_skeleton]; unfold k0_part1_skel
  have hc3 : k0_chk3 i v1 v5 v13 := ⟨fun _ _ => gin v1 hv, fun _ _ => din v1 hv⟩
  have hc2 := chk2_1 i v1 v5 v13
  have hc4 := chk4_1 i v1 v5 v13 (nxW c i NX)
  unfold owns
  iintro ⟨H4, H6, H8, H9, Hnx, Hg, Hd, Hbg, Hbd, Hst, HO, Hk⟩
  sl_exec
  sl_step
  iapply Hk
  isplitl [H4]; · iexact H4
  isplitl [H6]; · iexact H6
  isplitl [H8]; · iexact H8
  isplitl [H9]
  · iexists _; isplitr; swap; · iexact H9
    ipureintro
    have e2 : swap0e_run.sl.v27 c i XG v1 v5 v13 hv hne h2 hc2 = castG (GW c XG v1 hv) :=
      (View.readCov_cons_toLoadRect bgM.view _ _ []).trans (pay2_slot c 0 _ _ (GW c XG v1 hv))
    have e3 : swap0e_run.sl.v49 c i XD v1 v5 v13 hv hne h2 hc2 = castD (DW c XD v1 hv) :=
      (View.readCov_cons_toLoadRect bdM.view _ _ []).trans (pay3_slot c 0 _ _ (DW c XD v1 hv))
    exact out_read arg9 f9 X4 X6 X8 (castG (GW c XG v1 hv)) (castD (DW c XD v1 hv)) _ _ _ _ _ _ _ _ _ _ _ _ (readAt_unread harg4 (⟨![0, 0], S256x128.size, ![8, 1], inb_S2048x128_S256x128_0_0_s_8_1⟩ : LoadRect S2048x128) X4) (readAt_unread harg4 (⟨![1, 0], S256x128.size, ![8, 1], inb_S2048x128_S256x128_1_0_s_8_1⟩ : LoadRect S2048x128) X4) (readAt_unread harg4 (⟨![2, 0], S256x128.size, ![8, 1], inb_S2048x128_S256x128_2_0_s_8_1⟩ : LoadRect S2048x128) X4) (readAt_unread harg4 (⟨![3, 0], S256x128.size, ![8, 1], inb_S2048x128_S256x128_3_0_s_8_1⟩ : LoadRect S2048x128) X4) (readAt_unread harg4 (⟨![4, 0], S256x128.size, ![8, 1], inb_S2048x128_S256x128_4_0_s_8_1⟩ : LoadRect S2048x128) X4) (readAt_unread harg4 (⟨![5, 0], S256x128.size, ![8, 1], inb_S2048x128_S256x128_5_0_s_8_1⟩ : LoadRect S2048x128) X4) (readAt_unread harg4 (⟨![6, 0], S256x128.size, ![8, 1], inb_S2048x128_S256x128_6_0_s_8_1⟩ : LoadRect S2048x128) X4) (readAt_unread harg4 (⟨![7, 0], S256x128.size, ![8, 1], inb_S2048x128_S256x128_7_0_s_8_1⟩ : LoadRect S2048x128) X4) e2 (readAt_unread_full harg6 _ _ X6) e3 (readAt_unread_full harg8 _ _ X8)
  isplitl [Hnx]; · iexact Hnx
  isplitl [Hg_dst]; · iexists _; iexact Hg_dst
  isplitl [Hd_dst]; · iexists _; iexact Hd_dst
  isplitl [Hg]; · iexact Hg
  isplitl [Hd]; · iexact Hd
  isplitl [Hg_src]; · iexact Hg_src
  isplitl [Hd_src]; · iexact Hd_src
  isplitl [Hbg]
  · have e : bgM.view.writes (Elt F) fbg (swap0e_run.sl.Hbg_1 c i XG v1 v5 v13 hv hne h2 hc2) = bgM.view.rep (castG (GW c XG v1 hv)) :=
      (bg_rep c fbg _).trans (congrArg bgM.view.rep (pay2_slot c 0 _ _ (GW c XG v1 hv)))
    rw [← e]; iexact Hbg
  isplitl [Hbd]
  · have e : bdM.view.writes (Elt F) fbd (swap0e_run.sl.Hbd_1 c i XD v1 v5 v13 hv hne h2 hc2) = bdM.view.rep (castD (DW c XD v1 hv)) :=
      (bd_rep c fbd _).trans (congrArg bdM.view.rep (pay3_slot c 0 _ _ (DW c XD v1 hv)))
    rw [← e]; iexact Hbd
  isplitl [Hst]
  · rw [← st_four c stM.view.junk v1 0#32]; iexact Hst
  iexists _; iexact HO

end Swap

end Cert.KernelIdeal.Hand

end
-- ==== Proof.Ideal.Swap1n.lean ====
/- A grid point at a new expert whose weights come through slot 1, the next expert's started into the other slot. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Swap
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

variable (XG : Buf (Elt F) (wgM.view.loc (c : Thread nD τ))) (XD : Buf (Elt F) (wdM.view.loc (c : Thread nD τ)))

/-- The expert is new: its weights, in flight into slot 1, are waited for and rounded, and the next expert's transfer is started. -/
theorem swap1n_run (v1 v5 v13 : BitVec 32) (hv : v1.toNat < 32) (hne : k0_cond3 v1 v13 = 1#1) (h2)
    (X4 X6 X8) (q4 q6 q8 qx : PosShare TreeShare) (NX) (fg fd fg' fd' fbg fbd f9) (W : Waits sig Unit) (K : _ → sProp 𝕄)
    (hn : (nxW' c i NX).toNat < 32) (hn4 : k0_cond4 (nxW c i NX) = 1#1) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ gflight c XG 1 v1 hv fg ∗ dflight c XD 1 v1 hv fd
        ∗ gslotP c 0 fg' ∗ dslotP c 0 fd' ∗ semVal ((c : Thread nD τ), gcell 0) 0 ∗ semVal ((c : Thread nD τ), dcell 0) 0
        ∗ gblkP c XG (nxW' c i NX) hn ∗ dblkP c XD (nxW' c i NX) hn
        ∗ (bgM.view.loc (c : Thread nD τ) ↦{fullShare} fbg) ∗ (bdM.view.loc (c : Thread nD τ) ↦{fullShare} fbd)
        ∗ (stM.view.loc (c : Thread nD τ) ↦{fullShare} stB c v13 0#32) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ (∃ f, gslotP c 1 f) ∗ (∃ f, dslotP c 1 f) ∗ semVal ((c : Thread nD τ), gcell 1) 0 ∗ semVal ((c : Thread nD τ), dcell 1) 0
            ∗ gblkP c XG v1 hv ∗ dblkP c XD v1 hv
            ∗ gflight c XG 0 (nxW' c i NX) hn fg' ∗ dflight c XD 0 (nxW' c i NX) hn fd'
            ∗ (bgM.view.loc (c : Thread nD τ) ↦{fullShare} bgM.view.rep (castG (GW c XG v1 hv))) ∗ (bdM.view.loc (c : Thread nD τ) ↦{fullShare} bdM.view.rep (castD (DW c XD v1 hv)))
            ∗ (stM.view.loc (c : Thread nD τ) ↦{fullShare} stB c v1 1#32) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  rw [k0_part3_eq_skeleton]; unfold k0_part3_skel
  rw [k0_part2_eq_skeleton]; unfold k0_part2_skel
  rw [k0_part1_eq_skeleton]; unfold k0_part1_skel
  have hc3 : k0_chk3 i v1 v5 v13 := ⟨fun _ _ => gin v1 hv, fun _ _ => din v1 hv⟩
  have hc2 := chk2_0 i v1 v5 v13
  have hc4 := chk4_0 i v1 v5 v13 (nxW c i NX)
  have hc5 : k0_chk5 i v1 v5 v13 (nxW c i NX) (nxW' c i NX) := ⟨fun _ _ _ => gin _ hn, fun _ _ _ => din _ hn⟩
  unfold owns
  iintro ⟨H4, H6, H8, H9, Hnx, Hg, Hd, Hsg, Hsd, Hcg, Hcd, Hng, Hnd, Hbg, Hbd, Hst, HO, Hk⟩
  sl_exec
  sl_step
  iapply Hk
  isplitl [H4]; · iexact H4
  isplitl [H6]; · iexact H6
  isplitl [H8]; · iexact H8
  isplitl [H9]
  · iexists _; isplitr; swap; · iexact H9
    ipureintro
    have e2 : swap1n_run.sl.v27 c i XG v1 v5 v13 hv hne h2 hc2 = castG (GW c XG v1 hv) :=
      (View.readCov_cons_toLoadRect bgM.view _ _ []).trans (pay2_slot c 1 _ _ (GW c XG v1 hv))
    have e3 : swap1n_run.sl.v49 c i XD v1 v5 v13 hv hne h2 hc2 = castD (DW c XD v1 hv) :=
      (View.readCov_cons_toLoadRect bdM.view _ _ []).trans (pay3_slot c 1 _ _ (DW c XD v1 hv))
    exact out_read arg9 f9 X4 X6 X8 (castG (GW c XG v1 hv)) (castD (DW c XD v1 hv)) _ _ _ _ _ _ _ _ _ _ _ _ (readAt_unread harg4 (⟨![0, 0], S256x128.size, ![8, 1], inb_S2048x128_S256x128_0_0_s_8_1⟩ : LoadRect S2048x128) X4) (readAt_unread harg4 (⟨![1, 0], S256x128.size, ![8, 1], inb_S2048x128_S256x128_1_0_s_8_1⟩ : LoadRect S2048x128) X4) (readAt_unread harg4 (⟨![2, 0], S256x128.size, ![8, 1], inb_S2048x128_S256x128_2_0_s_8_1⟩ : LoadRect S2048x128) X4) (readAt_unread harg4 (⟨![3, 0], S256x128.size, ![8, 1], inb_S2048x128_S256x128_3_0_s_8_1⟩ : LoadRect S2048x128) X4) (readAt_unread harg4 (⟨![4, 0], S256x128.size, ![8, 1], inb_S2048x128_S256x128_4_0_s_8_1⟩ : LoadRect S2048x128) X4) (readAt_unread harg4 (⟨![5, 0], S256x128.size, ![8, 1], inb_S2048x128_S256x128_5_0_s_8_1⟩ : LoadRect S2048x128) X4) (readAt_unread harg4 (⟨![6, 0], S256x128.size, ![8, 1], inb_S2048x128_S256x128_6_0_s_8_1⟩ : LoadRect S2048x128) X4) (readAt_unread harg4 (⟨![7, 0], S256x128.size, ![8, 1], inb_S2048x128_S256x128_7_0_s_8_1⟩ : LoadRect S2048x128) X4) e2 (readAt_unread_full harg6 _ _ X6) e3 (readAt_unread_full harg8 _ _ X8)
  isplitl [Hnx]; · iexact Hnx
  isplitl [Hg_dst]; · iexists _; iexact Hg_dst
  isplitl [Hd_dst]; · iexists _; iexact Hd_dst
  isplitl [Hg]; · iexact Hg
  isplitl [Hd]; · iexact Hd
  isplitl [Hg_src]; · iexact Hg_src
  isplitl [Hd_src]; · iexact Hd_src
  isplitl [Hcg]; · iexact Hcg
  isplitl [Hcd]; · iexact Hcd
  isplitl [Hbg]
  · have e : bgM.view.writes (Elt F) fbg (swap1n_run.sl.Hbg_1 c i XG v1 v5 v13 hv hne h2 hc2) = bgM.view.rep (castG (GW c XG v1 hv)) :=
      (bg_rep c fbg _).trans (congrArg bgM.view.rep (pay2_slot c 1 _ _ (GW c XG v1 hv)))
    rw [← e]; iexact Hbg
  isplitl [Hbd]
  · have e : bdM.view.writes (Elt F) fbd (swap1n_run.sl.Hbd_1 c i XD v1 v5 v13 hv hne h2 hc2) = bdM.view.rep (castD (DW c XD v1 hv)) :=
      (bd_rep c fbd _).trans (congrArg bdM.view.rep (pay3_slot c 1 _ _ (DW c XD v1 hv)))
    rw [← e]; iexact Hbd
  isplitl [Hst]
  · rw [← st_four c stM.view.junk v1 1#32]; iexact Hst
  iexists _; iexact HO

end Swap

end Cert.KernelIdeal.Hand

end
-- ==== Proof.Ideal.Swap1e.lean ====
/- A grid point at a new expert whose weights come through slot 1, with no expert after it. -/
module

public import proofs.«01_k».proof.Proof.Gen.KernelIdeal.Launch
public import proofs.«01_k».proof.Proof.Ideal.Base
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Swap
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

variable (XG : Buf (Elt F) (wgM.view.loc (c : Thread nD τ))) (XD : Buf (Elt F) (wdM.view.loc (c : Thread nD τ)))

/-- The expert is new: its weights, in flight into slot 1, are waited for and rounded. -/
theorem swap1e_run (v1 v5 v13 : BitVec 32) (hv : v1.toNat < 32) (hne : k0_cond3 v1 v13 = 1#1) (h2)
    (X4 X6 X8) (q4 q6 q8 qx : PosShare TreeShare) (NX) (fg fd fbg fbd f9) (W : Waits sig Unit) (K : _ → sProp 𝕄)
    (hn4 : ¬ k0_cond4 (nxW c i NX) = 1#1) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ gflight c XG 1 v1 hv fg ∗ dflight c XD 1 v1 hv fd
        ∗ (bgM.view.loc (c : Thread nD τ) ↦{fullShare} fbg) ∗ (bdM.view.loc (c : Thread nD τ) ↦{fullShare} fbd)
        ∗ (stM.view.loc (c : Thread nD τ) ↦{fullShare} stB c v13 0#32) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ (∃ f, gslotP c 1 f) ∗ (∃ f, dslotP c 1 f) ∗ semVal ((c : Thread nD τ), gcell 1) 0 ∗ semVal ((c : Thread nD τ), dcell 1) 0
            ∗ gblkP c XG v1 hv ∗ dblkP c XD v1 hv
            ∗ (bgM.view.loc (c : Thread nD τ) ↦{fullShare} bgM.view.rep (castG (GW c XG v1 hv))) ∗ (bdM.view.loc (c : Thread nD τ) ↦{fullShare} bdM.view.rep (castD (DW c XD v1 hv)))
            ∗ (stM.view.loc (c : Thread nD τ) ↦{fullShare} stB c v1 1#32) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  rw [k0_part3_eq_skeleton]; unfold k0_part3_skel
  rw [k0_part2_eq_skeleton]; unfold k0_part2_skel
  rw [k0_part1_eq_skeleton]; unfold k0_part1_skel
  have hc3 : k0_chk3 i v1 v5 v13 := ⟨fun _ _ => gin v1 hv, fun _ _ => din v1 hv⟩
  have hc2 := chk2_0 i v1 v5 v13
  have hc4 := chk4_0 i v1 v5 v13 (nxW c i NX)
  unfold owns
  iintro ⟨H4, H6, H8, H9, Hnx, Hg, Hd, Hbg, Hbd, Hst, HO, Hk⟩
  sl_exec
  sl_step
  iapply Hk
  isplitl [H4]; · iexact H4
  isplitl [H6]; · iexact H6
  isplitl [H8]; · iexact H8
  isplitl [H9]
  · iexists _; isplitr; swap; · iexact H9
    ipureintro
    have e2 : swap1e_run.sl.v27 c i XG v1 v5 v13 hv hne h2 hc2 = castG (GW c XG v1 hv) :=
      (View.readCov_cons_toLoadRect bgM.view _ _ []).trans (pay2_slot c 1 _ _ (GW c XG v1 hv))
    have e3 : swap1e_run.sl.v49 c i XD v1 v5 v13 hv hne h2 hc2 = castD (DW c XD v1 hv) :=
      (View.readCov_cons_toLoadRect bdM.view _ _ []).trans (pay3_slot c 1 _ _ (DW c XD v1 hv))
    exact out_read arg9 f9 X4 X6 X8 (castG (GW c XG v1 hv)) (castD (DW c XD v1 hv)) _ _ _ _ _ _ _ _ _ _ _ _ (readAt_unread harg4 (⟨![0, 0], S256x128.size, ![8, 1], inb_S2048x128_S256x128_0_0_s_8_1⟩ : LoadRect S2048x128) X4) (readAt_unread harg4 (⟨![1, 0], S256x128.size, ![8, 1], inb_S2048x128_S256x128_1_0_s_8_1⟩ : LoadRect S2048x128) X4) (readAt_unread harg4 (⟨![2, 0], S256x128.size, ![8, 1], inb_S2048x128_S256x128_2_0_s_8_1⟩ : LoadRect S2048x128) X4) (readAt_unread harg4 (⟨![3, 0], S256x128.size, ![8, 1], inb_S2048x128_S256x128_3_0_s_8_1⟩ : LoadRect S2048x128) X4) (readAt_unread harg4 (⟨![4, 0], S256x128.size, ![8, 1], inb_S2048x128_S256x128_4_0_s_8_1⟩ : LoadRect S2048x128) X4) (readAt_unread harg4 (⟨![5, 0], S256x128.size, ![8, 1], inb_S2048x128_S256x128_5_0_s_8_1⟩ : LoadRect S2048x128) X4) (readAt_unread harg4 (⟨![6, 0], S256x128.size, ![8, 1], inb_S2048x128_S256x128_6_0_s_8_1⟩ : LoadRect S2048x128) X4) (readAt_unread harg4 (⟨![7, 0], S256x128.size, ![8, 1], inb_S2048x128_S256x128_7_0_s_8_1⟩ : LoadRect S2048x128) X4) e2 (readAt_unread_full harg6 _ _ X6) e3 (readAt_unread_full harg8 _ _ X8)
  isplitl [Hnx]; · iexact Hnx
  isplitl [Hg_dst]; · iexists _; iexact Hg_dst
  isplitl [Hd_dst]; · iexists _; iexact Hd_dst
  isplitl [Hg]; · iexact Hg
  isplitl [Hd]; · iexact Hd
  isplitl [Hg_src]; · iexact Hg_src
  isplitl [Hd_src]; · iexact Hd_src
  isplitl [Hbg]
  · have e : bgM.view.writes (Elt F) fbg (swap1e_run.sl.Hbg_1 c i XG v1 v5 v13 hv hne h2 hc2) = bgM.view.rep (castG (GW c XG v1 hv)) :=
      (bg_rep c fbg _).trans (congrArg bgM.view.rep (pay2_slot c 1 _ _ (GW c XG v1 hv)))
    rw [← e]; iexact Hbg
  isplitl [Hbd]
  · have e : bdM.view.writes (Elt F) fbd (swap1e_run.sl.Hbd_1 c i XD v1 v5 v13 hv hne h2 hc2) = bdM.view.rep (castD (DW c XD v1 hv)) :=
      (bd_rep c fbd _).trans (congrArg bdM.view.rep (pay3_slot c 1 _ _ (DW c XD v1 hv)))
    rw [← e]; iexact Hbd
  isplitl [Hst]
  · rw [← st_four c stM.view.junk v1 1#32]; iexact Hst
  iexists _; iexact HO

end Swap

end Cert.KernelIdeal.Hand

end
-- ==== Proof.Ideal.Step.lean ====
/- The main part of the kernel's body at a grid point, from the state before it to the state after it. -/
module

public import proofs.«01_k».proof.Proof.Gen.KernelIdeal.Launch
public import proofs.«01_k».proof.Proof.Ideal.State
public import proofs.«01_k».proof.Proof.Ideal.Keep
public import proofs.«01_k».proof.Proof.Ideal.Swap0n
public import proofs.«01_k».proof.Proof.Ideal.Swap0e
public import proofs.«01_k».proof.Proof.Ideal.Swap1n
public import proofs.«01_k».proof.Proof.Ideal.Swap1e
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Step
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

variable (XG : Buf (Elt F) (wgM.view.loc (c : Thread nD τ))) (XD : Buf (Elt F) (wdM.view.loc (c : Thread nD τ)))

/-- A new expert whose weights are in flight into slot 0: waited for, rounded, used; the next one's started where there is one. -/
theorem swap0_step (v1 v5 v13 : BitVec 32) (hv : v1.toNat < 32) (hne : v13 ≠ v1) (h2)
    (X4 X6 X8) (q4 q6 q8 qx : PosShare TreeShare) (NX) (f9) (W : Waits sig Unit) (K : _ → sProp 𝕄)
    (hw : (nxW c i NX).toNat < 32 → nxW c i NX ≠ v1) (hneg : ¬ (nxW c i NX).toNat < 32 → (nxW c i NX).toInt < 0) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ Hold c XG XD 0 1 v1 hv ∗ CastAny c
        ∗ (stM.view.loc (c : Thread nD τ) ↦{fullShare} stB c v13 1#32) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ Next c XG XD 1 0 (nxW c i NX) ∗ Cast c XG XD v1 hv
            ∗ (stM.view.loc (c : Thread nD τ) ↦{fullShare} stB c v1 0#32) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  have hne' : k0_cond3 v1 v13 = 1#1 := (k0_cond3_iff _ _).2 hne
  by_cases hn : (nxW c i NX).toNat < 32
  · have hn4 : k0_cond4 (nxW c i NX) = 1#1 := by
      rw [k0_cond4_iff, BitVec.toInt_eq_toNat_cond]; split <;> omega
    rw [Next_hold c XG XD 1 0 _ hn]
    unfold Hold CastAny Cast
    iintro ⟨H4, H6, H8, H9, Hnx, ⟨⟨%fg, Hg⟩, ⟨%fd, Hd⟩, ⟨%fg', Hsg⟩, ⟨%fd', Hsd⟩, Hcg, Hcd, Hrg, Hrd⟩, ⟨⟨%fbg, Hbg⟩, ⟨%fbd, Hbd⟩⟩, Hst, HO, Hk⟩
    ihave Hg2 := (g_take c XG v1 hv (nxW' c i NX) hn (hw hn)) $$ Hrg
    ihave Hd2 := (d_take c XD v1 hv (nxW' c i NX) hn (hw hn)) $$ Hrd
    icases Hg2 with ⟨Hng, Hrg⟩
    icases Hd2 with ⟨Hnd, Hrd⟩
    iapply (swap0n_run c i arg4 harg4 arg6 harg6 arg8 harg8 arg9 harg9 XG XD v1 v5 v13 hv hne' h2 X4 X6 X8 q4 q6 q8 qx NX fg fd fg' fd' fbg fbd f9 W K hn hn4)
    isplitl [H4]; · iexact H4
    isplitl [H6]; · iexact H6
    isplitl [H8]; · iexact H8
    isplitl [H9]; · iexact H9
    isplitl [Hnx]; · iexact Hnx
    isplitl [Hg]; · iexact Hg
    isplitl [Hd]; · iexact Hd
    isplitl [Hsg]; · iexact Hsg
    isplitl [Hsd]; · iexact Hsd
    isplitl [Hcg]; · iexact Hcg
    isplitl [Hcd]; · iexact Hcd
    isplitl [Hng]; · iexact Hng
    isplitl [Hnd]; · iexact Hnd
    isplitl [Hbg]; · iexact Hbg
    isplitl [Hbd]; · iexact Hbd
    isplitl [Hst]; · iexact Hst
    isplitl [HO]; · iexact HO
    iintro ⟨H4, H6, H8, H9, Hnx, Hsg, Hsd, Hcg, Hcd, Hng, Hnd, Hg, Hd, Hbg, Hbd, Hst, HO⟩
    iapply Hk
    isplitl [H4]; · iexact H4
    isplitl [H6]; · iexact H6
    isplitl [H8]; · iexact H8
    isplitl [H9]; · iexact H9
    isplitl [Hnx]; · iexact Hnx
    isplitl [Hsg Hsd Hcg Hcd Hng Hnd Hg Hd Hrg Hrd]
    · isplitl [Hg]; · iexists _; iexact Hg
      isplitl [Hd]; · iexists _; iexact Hd
      isplitl [Hsg]; · iexact Hsg
      isplitl [Hsd]; · iexact Hsd
      isplitl [Hcg]; · iexact Hcg
      isplitl [Hcd]; · iexact Hcd
      isplitl [Hng Hrg]
      · iapply (g_put c XG v1 hv (nxW' c i NX) hn (hw hn))
        isplitl [Hng]; · iexact Hng
        iexact Hrg
      · iapply (d_put c XD v1 hv (nxW' c i NX) hn (hw hn))
        isplitl [Hnd]; · iexact Hnd
        iexact Hrd
    isplitl [Hbg Hbd]
    · isplitl [Hbg]; · iexact Hbg
      iexact Hbd
    isplitl [Hst]; · iexact Hst
    iexact HO
  · have hn4 : ¬ k0_cond4 (nxW c i NX) = 1#1 := by
      rw [k0_cond4_iff]; have := hneg hn; omega
    rw [Next_quiet c XG XD 1 0 _ hn]
    unfold Hold CastAny Cast Quiet
    iintro ⟨H4, H6, H8, H9, Hnx, ⟨⟨%fg, Hg⟩, ⟨%fd, Hd⟩, Hsg, Hsd, Hcg, Hcd, Hrg, Hrd⟩, ⟨⟨%fbg, Hbg⟩, ⟨%fbd, Hbd⟩⟩, Hst, HO, Hk⟩
    iapply (swap0e_run c i arg4 harg4 arg6 harg6 arg8 harg8 arg9 harg9 XG XD v1 v5 v13 hv hne' h2 X4 X6 X8 q4 q6 q8 qx NX fg fd fbg fbd f9 W K hn4)
    isplitl [H4]; · iexact H4
    isplitl [H6]; · iexact H6
    isplitl [H8]; · iexact H8
    isplitl [H9]; · iexact H9
    isplitl [Hnx]; · iexact Hnx
    isplitl [Hg]; · iexact Hg
    isplitl [Hd]; · iexact Hd
    isplitl [Hbg]; · iexact Hbg
    isplitl [Hbd]; · iexact Hbd
    isplitl [Hst]; · iexact Hst
    isplitl [HO]; · iexact HO
    iintro ⟨H4, H6, H8, H9, Hnx, Hsg', Hsd', Hcg', Hcd', Hng, Hnd, Hbg, Hbd, Hst, HO⟩
    iapply Hk
    isplitl [H4]; · iexact H4
    isplitl [H6]; · iexact H6
    isplitl [H8]; · iexact H8
    isplitl [H9]; · iexact H9
    isplitl [Hnx]; · iexact Hnx
    isplitl [Hsg Hsd Hcg Hcd Hsg' Hsd' Hcg' Hcd' Hng Hnd Hrg Hrd]
    · isplitl [Hsg]; · iexact Hsg
      isplitl [Hsd]; · iexact Hsd
      isplitl [Hsg']; · iexact Hsg'
      isplitl [Hsd']; · iexact Hsd'
      isplitl [Hcg]; · iexact Hcg
      isplitl [Hcd]; · iexact Hcd
      isplitl [Hcg']; · iexact Hcg'
      isplitl [Hcd']; · iexact Hcd'
      isplitl [Hng Hrg]
      · iapply (g_close c XG v1 hv)
        isplitl [Hng]; · iexact Hng
        iexact Hrg
      · iapply (d_close c XD v1 hv)
        isplitl [Hnd]; · iexact Hnd
        iexact Hrd
    isplitl [Hbg Hbd]
    · isplitl [Hbg]; · iexact Hbg
      iexact Hbd
    isplitl [Hst]; · iexact Hst
    iexact HO

/-- A new expert whose weights are in flight into slot 1: waited for, rounded, used; the next one's started where there is one. -/
theorem swap1_step (v1 v5 v13 : BitVec 32) (hv : v1.toNat < 32) (hne : v13 ≠ v1) (h2)
    (X4 X6 X8) (q4 q6 q8 qx : PosShare TreeShare) (NX) (f9) (W : Waits sig Unit) (K : _ → sProp 𝕄)
    (hw : (nxW c i NX).toNat < 32 → nxW c i NX ≠ v1) (hneg : ¬ (nxW c i NX).toNat < 32 → (nxW c i NX).toInt < 0) :
    iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ Hold c XG XD 1 0 v1 hv ∗ CastAny c
        ∗ (stM.view.loc (c : Thread nD τ) ↦{fullShare} stB c v13 0#32) ∗ owes (c : Thread nD τ) 0 W
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ Next c XG XD 0 1 (nxW c i NX) ∗ Cast c XG XD v1 hv
            ∗ (stM.view.loc (c : Thread nD τ) ↦{fullShare} stB c v1 1#32) ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  have hne' : k0_cond3 v1 v13 = 1#1 := (k0_cond3_iff _ _).2 hne
  by_cases hn : (nxW c i NX).toNat < 32
  · have hn4 : k0_cond4 (nxW c i NX) = 1#1 := by
      rw [k0_cond4_iff, BitVec.toInt_eq_toNat_cond]; split <;> omega
    rw [Next_hold c XG XD 0 1 _ hn]
    unfold Hold CastAny Cast
    iintro ⟨H4, H6, H8, H9, Hnx, ⟨⟨%fg, Hg⟩, ⟨%fd, Hd⟩, ⟨%fg', Hsg⟩, ⟨%fd', Hsd⟩, Hcg, Hcd, Hrg, Hrd⟩, ⟨⟨%fbg, Hbg⟩, ⟨%fbd, Hbd⟩⟩, Hst, HO, Hk⟩
    ihave Hg2 := (g_take c XG v1 hv (nxW' c i NX) hn (hw hn)) $$ Hrg
    ihave Hd2 := (d_take c XD v1 hv (nxW' c i NX) hn (hw hn)) $$ Hrd
    icases Hg2 with ⟨Hng, Hrg⟩
    icases Hd2 with ⟨Hnd, Hrd⟩
    iapply (swap1n_run c i arg4 harg4 arg6 harg6 arg8 harg8 arg9 harg9 XG XD v1 v5 v13 hv hne' h2 X4 X6 X8 q4 q6 q8 qx NX fg fd fg' fd' fbg fbd f9 W K hn hn4)
    isplitl [H4]; · iexact H4
    isplitl [H6]; · iexact H6
    isplitl [H8]; · iexact H8
    isplitl [H9]; · iexact H9
    isplitl [Hnx]; · iexact Hnx
    isplitl [Hg]; · iexact Hg
    isplitl [Hd]; · iexact Hd
    isplitl [Hsg]; · iexact Hsg
    isplitl [Hsd]; · iexact Hsd
    isplitl [Hcg]; · iexact Hcg
    isplitl [Hcd]; · iexact Hcd
    isplitl [Hng]; · iexact Hng
    isplitl [Hnd]; · iexact Hnd
    isplitl [Hbg]; · iexact Hbg
    isplitl [Hbd]; · iexact Hbd
    isplitl [Hst]; · iexact Hst
    isplitl [HO]; · iexact HO
    iintro ⟨H4, H6, H8, H9, Hnx, Hsg, Hsd, Hcg, Hcd, Hng, Hnd, Hg, Hd, Hbg, Hbd, Hst, HO⟩
    iapply Hk
    isplitl [H4]; · iexact H4
    isplitl [H6]; · iexact H6
    isplitl [H8]; · iexact H8
    isplitl [H9]; · iexact H9
    isplitl [Hnx]; · iexact Hnx
    isplitl [Hsg Hsd Hcg Hcd Hng Hnd Hg Hd Hrg Hrd]
    · isplitl [Hg]; · iexists _; iexact Hg
      isplitl [Hd]; · iexists _; iexact Hd
      isplitl [Hsg]; · iexact Hsg
      isplitl [Hsd]; · iexact Hsd
      isplitl [Hcg]; · iexact Hcg
      isplitl [Hcd]; · iexact Hcd
      isplitl [Hng Hrg]
      · iapply (g_put c XG v1 hv (nxW' c i NX) hn (hw hn))
        isplitl [Hng]; · iexact Hng
        iexact Hrg
      · iapply (d_put c XD v1 hv (nxW' c i NX) hn (hw hn))
        isplitl [Hnd]; · iexact Hnd
        iexact Hrd
    isplitl [Hbg Hbd]
    · isplitl [Hbg]; · iexact Hbg
      iexact Hbd
    isplitl [Hst]; · iexact Hst
    iexact HO
  · have hn4 : ¬ k0_cond4 (nxW c i NX) = 1#1 := by
      rw [k0_cond4_iff]; have := hneg hn; omega
    rw [Next_quiet c XG XD 0 1 _ hn]
    unfold Hold CastAny Cast Quiet
    iintro ⟨H4, H6, H8, H9, Hnx, ⟨⟨%fg, Hg⟩, ⟨%fd, Hd⟩, Hsg, Hsd, Hcg, Hcd, Hrg, Hrd⟩, ⟨⟨%fbg, Hbg⟩, ⟨%fbd, Hbd⟩⟩, Hst, HO, Hk⟩
    iapply (swap1e_run c i arg4 harg4 arg6 harg6 arg8 harg8 arg9 harg9 XG XD v1 v5 v13 hv hne' h2 X4 X6 X8 q4 q6 q8 qx NX fg fd fbg fbd f9 W K hn4)
    isplitl [H4]; · iexact H4
    isplitl [H6]; · iexact H6
    isplitl [H8]; · iexact H8
    isplitl [H9]; · iexact H9
    isplitl [Hnx]; · iexact Hnx
    isplitl [Hg]; · iexact Hg
    isplitl [Hd]; · iexact Hd
    isplitl [Hbg]; · iexact Hbg
    isplitl [Hbd]; · iexact Hbd
    isplitl [Hst]; · iexact Hst
    isplitl [HO]; · iexact HO
    iintro ⟨H4, H6, H8, H9, Hnx, Hsg', Hsd', Hcg', Hcd', Hng, Hnd, Hbg, Hbd, Hst, HO⟩
    iapply Hk
    isplitl [H4]; · iexact H4
    isplitl [H6]; · iexact H6
    isplitl [H8]; · iexact H8
    isplitl [H9]; · iexact H9
    isplitl [Hnx]; · iexact Hnx
    isplitl [Hsg Hsd Hcg Hcd Hsg' Hsd' Hcg' Hcd' Hng Hnd Hrg Hrd]
    · isplitl [Hsg]; · iexact Hsg
      isplitl [Hsd]; · iexact Hsd
      isplitl [Hsg']; · iexact Hsg'
      isplitl [Hsd']; · iexact Hsd'
      isplitl [Hcg]; · iexact Hcg
      isplitl [Hcd]; · iexact Hcd
      isplitl [Hcg']; · iexact Hcg'
      isplitl [Hcd']; · iexact Hcd'
      isplitl [Hng Hrg]
      · iapply (g_close c XG v1 hv)
        isplitl [Hng]; · iexact Hng
        iexact Hrg
      · iapply (d_close c XD v1 hv)
        isplitl [Hnd]; · iexact Hnd
        iexact Hrd
    isplitl [Hbg Hbd]
    · isplitl [Hbg]; · iexact Hbg
      iexact Hbd
    isplitl [Hst]; · iexact Hst
    iexact HO

/-- A grid point after the first, in use: from the state after expert `e` (next `n`) to the state after its own expert `v1`. -/
theorem mid_step (v1 v5 e n : BitVec 32) (hv : v1.toNat < 32) (he : e.toNat < 32) (h2)
    (X4 X6 X8) (q4 q6 q8 qx : PosShare TreeShare) (NX) (f9) (W : Waits sig Unit) (K : _ → sProp 𝕄)
    (hsame : e = v1 → nxW c i NX = n) (hnew : e ≠ v1 → n = v1)
    (hw : (nxW c i NX).toNat < 32 → nxW c i NX ≠ v1) (hneg : ¬ (nxW c i NX).toNat < 32 → (nxW c i NX).toInt < 0) :
    iprop(((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ (arg9.view.loc (c : Thread nD τ) ↦[arg9.view.set]{fullShare} f9)
        ∗ (nxM.view.loc (c : Thread nD τ) ↦{qx} NX)
        ∗ Inv c XG XD e n ∗ Cast c XG XD e he ∗ owes (c : Thread nD τ) 0 W)
        ∗ (iprop((arg4.view.loc (c : Thread nD τ) ↦[arg4.view.set]{q4} harg4.unread X4) ∗ (arg6.view.loc (c : Thread nD τ) ↦[arg6.view.set]{q6} harg6.unread X6)
        ∗ (arg8.view.loc (c : Thread nD τ) ↦[arg8.view.set]{q8} harg8.unread X8) ∗ owns (c : Thread nD τ) arg9 fullShare (outV X4 X6 X8 (castG (GW c XG v1 hv)) (castD (DW c XD v1 hv)))
            ∗ (nxM.view.loc (c : Thread nD τ) ↦{qx} NX)
            ∗ Inv c XG XD v1 (nxW c i NX) ∗ Cast c XG XD v1 hv ∗ (∃ W', owes (c : Thread nD τ) 0 W')) -∗ K ⟨⟩))
      ⊢ wp frame (wpE (defs₀ (F := F)) Variants.none c none) Set.univ
          (k0_part3 i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5 (BitVec.ofNat 32 (i 0).val) v1 v5 h2) K := by
  unfold Inv
  by_cases hev : e = v1
  · subst hev
    rw [hsame rfl]
    unfold Cast
    iintro ⟨⟨H4, H6, H8, H9, Hnx, ⟨%s, %o, %k, %hp, HN, Hst⟩, ⟨Hbg, Hbd⟩, HO⟩, Hk⟩
    iapply (keep_run c i arg4 harg4 arg6 harg6 arg8 harg8 arg9 harg9 e v5 k h2 X4 X6 X8 q4 q6 q8 (castG (GW c XG e hv)) (castD (DW c XD e hv)) f9 W K)
    isplitl [H4]; · iexact H4
    isplitl [H6]; · iexact H6
    isplitl [H8]; · iexact H8
    isplitl [H9]; · iexact H9
    isplitl [Hbg]; · iexact Hbg
    isplitl [Hbd]; · iexact Hbd
    isplitl [Hst]; · iexact Hst
    isplitl [HO]; · iexact HO
    iintro ⟨H4, H6, H8, H9, Hbg, Hbd, Hst, HO⟩
    iapply Hk
    isplitl [H4]; · iexact H4
    isplitl [H6]; · iexact H6
    isplitl [H8]; · iexact H8
    isplitl [H9]; · iexact H9
    isplitl [Hnx]; · iexact Hnx
    isplitl [HN Hst]
    · iexists s, o, k
      isplitr; · ipureintro; exact hp
      isplitl [HN]; · iexact HN
      iexact Hst
    isplitl [Hbg Hbd]
    · isplitl [Hbg]; · iexact Hbg
      iexact Hbd
    iexact HO
  · obtain rfl := hnew hev
    iintro ⟨⟨H4, H6, H8, H9, Hnx, ⟨%s, %o, %k, %hp, HN, Hst⟩, HC, HO⟩, Hk⟩
    ihave HC' := (Cast_any c XG XD e he) $$ HC
    rcases hp with ⟨rfl, rfl, rfl⟩ | ⟨rfl, rfl, rfl⟩
    · ihave HN := (BIBase.Entails.of_eq (Next_hold c XG XD 0 1 n hv)) $$ HN
      iapply (swap0_step c i arg4 harg4 arg6 harg6 arg8 harg8 arg9 harg9 XG XD n v5 e hv hev h2 X4 X6 X8 q4 q6 q8 qx NX f9 W K hw hneg)
      isplitl [H4]; · iexact H4
      isplitl [H6]; · iexact H6
      isplitl [H8]; · iexact H8
      isplitl [H9]; · iexact H9
      isplitl [Hnx]; · iexact Hnx
      isplitl [HN]; · iexact HN
      isplitl [HC']; · iexact HC'
      isplitl [Hst]; · iexact Hst
      isplitl [HO]; · iexact HO
      iintro ⟨H4, H6, H8, H9, Hnx, HN, HC, Hst, HO⟩
      iapply Hk
      isplitl [H4]; · iexact H4
      isplitl [H6]; · iexact H6
      isplitl [H8]; · iexact H8
      isplitl [H9]; · iexact H9
      isplitl [Hnx]; · iexact Hnx
      isplitl [HN Hst]
      · iexists 1, 0, 0#32
        isplitr; · ipureintro; exact .inr ⟨rfl, rfl, rfl⟩
        isplitl [HN]; · iexact HN
        iexact Hst
      isplitl [HC]; · iexact HC
      iexact HO
    · ihave HN := (BIBase.Entails.of_eq (Next_hold c XG XD 1 0 n hv)) $$ HN
      iapply (swap1_step c i arg4 harg4 arg6 harg6 arg8 harg8 arg9 harg9 XG XD n v5 e hv hev h2 X4 X6 X8 q4 q6 q8 qx NX f9 W K hw hneg)
      isplitl [H4]; · iexact H4
      isplitl [H6]; · iexact H6
      isplitl [H8]; · iexact H8
      isplitl [H9]; · iexact H9
      isplitl [Hnx]; · iexact Hnx
      isplitl [HN]; · iexact HN
      isplitl [HC']; · iexact HC'
      isplitl [Hst]; · iexact Hst
      isplitl [HO]; · iexact HO
      iintro ⟨H4, H6, H8, H9, Hnx, HN, HC, Hst, HO⟩
      iapply Hk
      isplitl [H4]; · iexact H4
      isplitl [H6]; · iexact H6
      isplitl [H8]; · iexact H8
      isplitl [H9]; · iexact H9
      isplitl [Hnx]; · iexact Hnx
      isplitl [HN Hst]
      · iexists 0, 1, 1#32
        isplitr; · ipureintro; exact .inl ⟨rfl, rfl, rfl⟩
        isplitl [HN]; · iexact HN
        iexact Hst
      isplitl [HC]; · iexact HC
      iexact HO

end Step

end Cert.KernelIdeal.Hand

end
-- ==== Proof.Ideal.Point.lean ====
/- A grid point of the expert kernel, from the state before it to the state after it, over its whole staging buffers. -/
module

public import proofs.«01_k».proof.Proof.Gen.KernelIdeal.Launch
public import proofs.«01_k».proof.Proof.Ideal.Main
public import proofs.«01_k».proof.Proof.Ideal.Step
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- A whole buffer read as `X` is held at the contents that read so. -/
theorem owns_raw {s : Shape} {e : EltTy} {sp : Space} (c : Dev nD) (m : Memref sig .tc sp s e) (h : m.IsWhole) (q : PosShare TreeShare) (X : s.Idx → Elt F e) :
    owns (c : Thread nD τ) m q X ⊢ (m.view.loc (c : Thread nD τ) ↦[m.view.set]{q} h.unread X : sProp 𝕄) := by
  unfold owns
  iintro ⟨%f, %hf, H⟩
  rw [← h.eq_unread hf]
  iexact H
theorem raw_owns {s : Shape} {e : EltTy} {sp : Space} (c : Dev nD) (m : Memref sig .tc sp s e) (h : m.IsWhole) (q : PosShare TreeShare) (X : s.Idx → Elt F e) :
    (m.view.loc (c : Thread nD τ) ↦[m.view.set]{q} h.unread X : sProp 𝕄) ⊢ owns (c : Thread nD τ) m q X := by
  unfold owns
  iintro H
  iexists _
  isplitr
  · ipureintro; exact h.read_unread X
  iexact H

section Point
variable (c : Dev nD) (i : grid0.Coords)
  (arg4 : Memref sig .tc .vmem S2048x128 .f32) (harg4 : arg4.IsWhole)
  (arg6 : Memref sig .tc .vmem S1x1x2048 .f32) (harg6 : arg6.IsWhole)
  (arg8 : Memref sig .tc .vmem S1x1x1024 .f32) (harg8 : arg8.IsWhole)
  (arg9 : Memref sig .tc .vmem S2048x128 .f32) (harg9 : arg9.IsWhole)

variable (XG : Buf (Elt F) (wgM.view.loc (c : Thread nD τ))) (XD : Buf (Elt F) (wdM.view.loc (c : Thread nD τ)))
  (BE : Buf (Elt F) (beM.view.loc (c : Thread nD τ))) (US : Buf (Elt F) (usM.view.loc (c : Thread nD τ))) (NX : Buf (Elt F) (nxM.view.loc (c : Thread nD τ)))

/-- The three tables, to be read. -/
def Tabs : sProp 𝕄 :=
  iprop((beM.view.loc (c : Thread nD τ) ↦{fullShare.right} BE) ∗ (usM.view.loc (c : Thread nD τ) ↦{fullShare.right} US) ∗ (nxM.view.loc (c : Thread nD τ) ↦{fullShare.right} NX))
/-- The state before the first point and after the last: every buffer of the kernel's own at anything, every cell at zero, the weights whole. -/
def Free : sProp 𝕄 :=
  iprop((∃ f, sgM.view.loc (c : Thread nD τ) ↦{fullShare} f) ∗ (∃ f, sdM.view.loc (c : Thread nD τ) ↦{fullShare} f)
    ∗ CastAny c ∗ (∃ f, stM.view.loc (c : Thread nD τ) ↦{fullShare} f)
    ∗ semVal ((c : Thread nD τ), gcell 0) 0 ∗ semVal ((c : Thread nD τ), gcell 1) 0 ∗ semVal ((c : Thread nD τ), dcell 0) 0 ∗ semVal ((c : Thread nD τ), dcell 1) 0
    ∗ (wgM.view.loc (c : Thread nD τ) ↦{fullShare} XG) ∗ (wdM.view.loc (c : Thread nD τ) ↦{fullShare} XD))
/-- The state after a block of expert `e`: its rounded weights in place and the next expert `n` on its way. -/
def Busy (e n : BitVec 32) : sProp 𝕄 :=
  iprop(Inv c XG XD e n ∗ ∃ he, Cast c XG XD e he)

/-- With no next expert the state is the free one. -/
theorem Busy_free (e n : BitVec 32) (hn : ¬ n.toNat < 32) : Busy c XG XD e n ⊢ Free c XG XD := by
  unfold Busy Free Inv
  iintro ⟨⟨%s, %o, %k, %hp, HN, Hst⟩, ⟨%he, HC⟩⟩
  ihave HN := (BIBase.Entails.of_eq (Next_quiet c XG XD s o n hn)) $$ HN
  unfold Quiet
  icases HN with ⟨⟨%f1, H1⟩, ⟨%f2, H2⟩, ⟨%f3, H3⟩, ⟨%f4, H4⟩, H5, H6, H7, H8, H9, H10⟩
  ihave HC := (Cast_any c XG XD e he) $$ HC
  rcases hp with ⟨rfl, rfl, rfl⟩ | ⟨rfl, rfl, rfl⟩
  · isplitl [H1 H3]
    · iapply (gslots_join c f1 f3); isplitl [H1]; · iexact H1
      iexact H3
    isplitl [H2 H4]
    · iapply (dslots_join c f2 f4); isplitl [H2]; · iexact H2
      iexact H4
    isplitl [HC]; · iexact HC
    isplitl [Hst]; · iexists _; iexact Hst
    isplitl [H5]; · iexact H5
    isplitl [H7]; · iexact H7
    isplitl [H6]; · iexact H6
    isplitl [H8]; · iexact H8
    isplitl [H9]; · iexact H9
    iexact H10
  · isplitl [H1 H3]
    · iapply (gslots_join c f3 f1); isplitl [H3]; · iexact H3
      iexact H1
    isplitl [H2 H4]
    · iapply (dslots_join c f4 f2); isplitl [H4]; · iexact H4
      iexact H2
    isplitl [HC]; · iexact HC
    isplitl [Hst]; · iexists _; iexact Hst
    isplitl [H7]; · iexact H7
    isplitl [H5]; · iexact H5
    isplitl [H8]; · iexact H8
    isplitl [H6]; · iexact H6
    isplitl [H9]; · iexact H9
    iexact H10

/-- A block of rows of a later point, below the count of blocks used. -/
theorem mid_point (v1 v5 : BitVec 32) (hv1 : beW c i BE = v1) (hv5 : usW c US = v5) (hv : v1.toNat < 32)
    (h1 : ¬ k0_cond1 i = 1#1) (h2 : k0_cond2 i v5 = 1#1) (h5 : ¬ k0_cond5 i v5 = 1#1) (e n : BitVec 32)
    (hsame : e = v1 → nxW c i NX = n) (hnew : e ≠ v1 → n = v1) (hw : (nxW c i NX).toNat < 32 → nxW c i NX ≠ v1) (hneg : ¬ (nxW c i NX).toNat < 32 → (nxW c i NX).toInt < 0) (X4 X6 X8) (W : Waits sig Unit) (K : PUnit → sProp 𝕄) :
    iprop(owns (c : Thread nD τ) arg4 fullShare X4 ∗ owns (c : Thread nD τ) arg6 fullShare X6 ∗ owns (c : Thread nD τ) arg8 fullShare X8 ∗ (∃ d, owns (c : Thread nD τ) arg9 fullShare d) ∗ Busy c XG XD e n ∗ Tabs c BE US NX ∗ owes (c : Thread nD τ) 0 W
        ∗ (iprop(owns (c : Thread nD τ) arg4 fullShare X4 ∗ owns (c : Thread nD τ) arg6 fullShare X6 ∗ owns (c : Thread nD τ) arg8 fullShare X8 ∗ owns (c : Thread nD τ) arg9 fullShare (outV X4 X6 X8 (castG (GW c XG v1 hv)) (castD (DW c XD v1 hv))) ∗ Busy c XG XD v1 (nxW c i NX) ∗ Tabs c BE US NX ∗ (∃ W', owes (c : Thread nD τ) 0 W')) -∗ K ⟨⟩))
      ⊢ wp frame (wpE (defs₀ (F := F)) Variants.none c none) Set.univ (cc0_ffn i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5) K := by
  unfold Busy Tabs
  iintro ⟨H4, H6, H8, H9, ⟨HI, ⟨%he, HC⟩⟩, ⟨Hb, Hu, Hnx⟩, HO, Hk⟩
  ihave H4 := (owns_raw c arg4 harg4 _ X4) $$ H4
  ihave H6 := (owns_raw c arg6 harg6 _ X6) $$ H6
  ihave H8 := (owns_raw c arg8 harg8 _ X8) $$ H8
  icases H9 with ⟨%d9, H9⟩
  ihave H9 := (owns_raw c arg9 harg9 _ d9) $$ H9
  iapply (mid_run c i arg4 harg4 arg6 harg6 arg8 harg8 arg9 harg9 BE US fullShare.right fullShare.right v1 v5 hv1 hv5 hv h1 h2 h5
    iprop((arg4.view.loc (c : Thread nD τ) ↦[arg4.view.set]{fullShare} harg4.unread X4) ∗ (arg6.view.loc (c : Thread nD τ) ↦[arg6.view.set]{fullShare} harg6.unread X6) ∗ (arg8.view.loc (c : Thread nD τ) ↦[arg8.view.set]{fullShare} harg8.unread X8) ∗ (arg9.view.loc (c : Thread nD τ) ↦[arg9.view.set]{fullShare} harg9.unread d9) ∗ (nxM.view.loc (c : Thread nD τ) ↦{fullShare.right} NX) ∗ Inv c XG XD e n ∗ Cast c XG XD e he ∗ owes (c : Thread nD τ) 0 W)
    iprop((arg4.view.loc (c : Thread nD τ) ↦[arg4.view.set]{fullShare} harg4.unread X4) ∗ (arg6.view.loc (c : Thread nD τ) ↦[arg6.view.set]{fullShare} harg6.unread X6) ∗ (arg8.view.loc (c : Thread nD τ) ↦[arg8.view.set]{fullShare} harg8.unread X8) ∗ owns (c : Thread nD τ) arg9 fullShare (outV X4 X6 X8 (castG (GW c XG v1 hv)) (castD (DW c XD v1 hv))) ∗ (nxM.view.loc (c : Thread nD τ) ↦{fullShare.right} NX) ∗ Inv c XG XD v1 (nxW c i NX) ∗ Cast c XG XD v1 hv ∗ (∃ W', owes (c : Thread nD τ) 0 W'))
    (fun K => mid_step c i arg4 harg4 arg6 harg6 arg8 harg8 arg9 harg9 XG XD v1 v5 e n hv he h2 X4 X6 X8 fullShare fullShare fullShare fullShare.right NX (harg9.unread d9) W K hsame hnew hw hneg) K)
  isplitl [Hb]; · iexact Hb
  isplitl [Hu]; · iexact Hu
  isplitl [H4 H6 H8 H9 Hnx HI HC HO]
  · isplitl [H4]; · iexact H4
    isplitl [H6]; · iexact H6
    isplitl [H8]; · iexact H8
    isplitl [H9]; · iexact H9
    isplitl [Hnx]; · iexact Hnx
    isplitl [HI]; · iexact HI
    isplitl [HC]; · iexact HC
    iexact HO
  iintro ⟨Hb, Hu, ⟨H4, H6, H8, H9, Hnx, HI, HC, HO⟩⟩
  iapply Hk
  isplitl [H4]; · iapply (raw_owns c arg4 harg4 _ X4); iexact H4
  isplitl [H6]; · iapply (raw_owns c arg6 harg6 _ X6); iexact H6
  isplitl [H8]; · iapply (raw_owns c arg8 harg8 _ X8); iexact H8
  isplitl [H9]; · iexact H9
  isplitl [HI HC]
  · isplitl [HI]; · iexact HI
    iexists hv; iexact HC
  isplitl [Hb Hu Hnx]
  · isplitl [Hb]; · iexact Hb
    isplitl [Hu]; · iexact Hu
    iexact Hnx
  iexact HO

/-- The first block of rows. -/
theorem first_point (v1 v5 : BitVec 32) (hv1 : beW c i BE = v1) (hv5 : usW c US = v5) (hv : v1.toNat < 32)
    (h1 : k0_cond1 i = 1#1) (h2 : k0_cond2 i v5 = 1#1) (h5 : ¬ k0_cond5 i v5 = 1#1)
    (hw : (nxW c i NX).toNat < 32 → nxW c i NX ≠ v1) (hneg : ¬ (nxW c i NX).toNat < 32 → (nxW c i NX).toInt < 0) (X4 X6 X8) (W : Waits sig Unit) (K : PUnit → sProp 𝕄) :
    iprop(owns (c : Thread nD τ) arg4 fullShare X4 ∗ owns (c : Thread nD τ) arg6 fullShare X6 ∗ owns (c : Thread nD τ) arg8 fullShare X8 ∗ (∃ d, owns (c : Thread nD τ) arg9 fullShare d) ∗ Free c XG XD ∗ Tabs c BE US NX ∗ owes (c : Thread nD τ) 0 W
        ∗ (iprop(owns (c : Thread nD τ) arg4 fullShare X4 ∗ owns (c : Thread nD τ) arg6 fullShare X6 ∗ owns (c : Thread nD τ) arg8 fullShare X8 ∗ owns (c : Thread nD τ) arg9 fullShare (outV X4 X6 X8 (castG (GW c XG v1 hv)) (castD (DW c XD v1 hv))) ∗ Busy c XG XD v1 (nxW c i NX) ∗ Tabs c BE US NX ∗ (∃ W', owes (c : Thread nD τ) 0 W')) -∗ K ⟨⟩))
      ⊢ wp frame (wpE (defs₀ (F := F)) Variants.none c none) Set.univ (cc0_ffn i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5) K := by
  unfold Free Busy Tabs
  iintro ⟨H4, H6, H8, H9, ⟨⟨%fg, Hsg⟩, ⟨%fd, Hsd⟩, HCA, ⟨%fs, Hst⟩, Hcg0, Hcg1, Hcd0, Hcd1, Hwg, Hwd⟩, ⟨Hb, Hu, Hnx⟩, HO, Hk⟩
  ihave H4 := (owns_raw c arg4 harg4 _ X4) $$ H4
  ihave H6 := (owns_raw c arg6 harg6 _ X6) $$ H6
  ihave H8 := (owns_raw c arg8 harg8 _ X8) $$ H8
  icases H9 with ⟨%d9, H9⟩
  ihave H9 := (owns_raw c arg9 harg9 _ d9) $$ H9
  ihave Hsg := (gslots_split c fg) $$ Hsg
  icases Hsg with ⟨Hsg0, Hsg1⟩
  ihave Hsd := (dslots_split c fd) $$ Hsd
  icases Hsd with ⟨Hsd0, Hsd1⟩
  ihave Hwg := (g_open c XG v1 hv) $$ Hwg
  icases Hwg with ⟨Hgb, Hgr⟩
  ihave Hwd := (d_open c XD v1 hv) $$ Hwd
  icases Hwd with ⟨Hdb, Hdr⟩
  iapply (head_run c i arg4 harg4 arg6 harg6 arg8 harg8 arg9 harg9 XG XD BE US fullShare.right fullShare.right v1 v5 hv1 hv5 hv h1 h2 h5 fg fd fs W
    iprop((arg4.view.loc (c : Thread nD τ) ↦[arg4.view.set]{fullShare} harg4.unread X4) ∗ (arg6.view.loc (c : Thread nD τ) ↦[arg6.view.set]{fullShare} harg6.unread X6) ∗ (arg8.view.loc (c : Thread nD τ) ↦[arg8.view.set]{fullShare} harg8.unread X8) ∗ (arg9.view.loc (c : Thread nD τ) ↦[arg9.view.set]{fullShare} harg9.unread d9) ∗ (nxM.view.loc (c : Thread nD τ) ↦{fullShare.right} NX) ∗ gslotP c 1 fg ∗ dslotP c 1 fd ∗ semVal ((c : Thread nD τ), gcell 1) 0 ∗ semVal ((c : Thread nD τ), dcell 1) 0 ∗ gRest c XG v1 hv ∗ dRest c XD v1 hv ∗ CastAny c)
    iprop((arg4.view.loc (c : Thread nD τ) ↦[arg4.view.set]{fullShare} harg4.unread X4) ∗ (arg6.view.loc (c : Thread nD τ) ↦[arg6.view.set]{fullShare} harg6.unread X6) ∗ (arg8.view.loc (c : Thread nD τ) ↦[arg8.view.set]{fullShare} harg8.unread X8) ∗ owns (c : Thread nD τ) arg9 fullShare (outV X4 X6 X8 (castG (GW c XG v1 hv)) (castD (DW c XD v1 hv))) ∗ (nxM.view.loc (c : Thread nD τ) ↦{fullShare.right} NX) ∗ Next c XG XD 1 0 (nxW c i NX) ∗ Cast c XG XD v1 hv ∗ (stM.view.loc (c : Thread nD τ) ↦{fullShare} stB c v1 0#32) ∗ (∃ W', owes (c : Thread nD τ) 0 W'))
    (by
      intro W' K
      unfold CastAny
      iintro ⟨⟨Hg, Hd, Hst, HO, H4, H6, H8, H9, Hnx, Hs1, Hd1, Hcg, Hcd, Hrg, Hrd, HCA⟩, Hk⟩
      iapply (swap0_step c i arg4 harg4 arg6 harg6 arg8 harg8 arg9 harg9 XG XD v1 v5 4294967295#32 hv (fun h => by rw [← h] at hv; exact absurd hv (by decide)) h2 X4 X6 X8 fullShare fullShare fullShare fullShare.right NX (harg9.unread d9) W' K hw hneg)
      unfold Hold CastAny
      isplitl [H4]; · iexact H4
      isplitl [H6]; · iexact H6
      isplitl [H8]; · iexact H8
      isplitl [H9]; · iexact H9
      isplitl [Hnx]; · iexact Hnx
      isplitl [Hg Hd Hs1 Hd1 Hcg Hcd Hrg Hrd]
      · isplitl [Hg]; · iexists _; iexact Hg
        isplitl [Hd]; · iexists _; iexact Hd
        isplitl [Hs1]; · iexists _; iexact Hs1
        isplitl [Hd1]; · iexists _; iexact Hd1
        isplitl [Hcg]; · iexact Hcg
        isplitl [Hcd]; · iexact Hcd
        isplitl [Hrg]; · iexact Hrg
        iexact Hrd
      isplitl [HCA]; · iexact HCA
      isplitl [Hst]; · iexact Hst
      isplitl [HO]; · iexact HO
      iexact Hk) K)
  isplitl [Hb]; · iexact Hb
  isplitl [Hu]; · iexact Hu
  isplitl [Hsg0]; · iexact Hsg0
  isplitl [Hsd0]; · iexact Hsd0
  isplitl [Hcg0]; · iexact Hcg0
  isplitl [Hcd0]; · iexact Hcd0
  isplitl [Hgb]; · iexact Hgb
  isplitl [Hdb]; · iexact Hdb
  isplitl [Hst]; · iexact Hst
  isplitl [HO]; · iexact HO
  isplitl [H4 H6 H8 H9 Hnx Hsg1 Hsd1 Hcg1 Hcd1 Hgr Hdr HCA]
  · isplitl [H4]; · iexact H4
    isplitl [H6]; · iexact H6
    isplitl [H8]; · iexact H8
    isplitl [H9]; · iexact H9
    isplitl [Hnx]; · iexact Hnx
    isplitl [Hsg1]; · iexact Hsg1
    isplitl [Hsd1]; · iexact Hsd1
    isplitl [Hcg1]; · iexact Hcg1
    isplitl [Hcd1]; · iexact Hcd1
    isplitl [Hgr]; · iexact Hgr
    isplitl [Hdr]; · iexact Hdr
    iexact HCA
  iintro ⟨Hb, Hu, ⟨H4, H6, H8, H9, Hnx, HN, HC, Hst, HO⟩⟩
  iapply Hk
  isplitl [H4]; · iapply (raw_owns c arg4 harg4 _ X4); iexact H4
  isplitl [H6]; · iapply (raw_owns c arg6 harg6 _ X6); iexact H6
  isplitl [H8]; · iapply (raw_owns c arg8 harg8 _ X8); iexact H8
  isplitl [H9]; · iexact H9
  isplitl [HN HC Hst]
  · isplitl [HN Hst]
    · unfold Inv
      iexists 1, 0, 0#32
      isplitr; · ipureintro; exact Or.inr ⟨rfl, rfl, rfl⟩
      isplitl [HN]; · iexact HN
      iexact Hst
    iexists hv; iexact HC
  isplitl [Hb Hu Hnx]
  · isplitl [Hb]; · iexact Hb
    isplitl [Hu]; · iexact Hu
    iexact Hnx
  iexact HO

/-- A point at or past the count of blocks used: its block of the output is set to zero. -/
theorem tail_point (v1 v5 : BitVec 32) (hv1 : beW c i BE = v1) (hv5 : usW c US = v5) (hv : v1.toNat < 32)
    (h1 : ¬ k0_cond1 i = 1#1) (h2 : ¬ k0_cond2 i v5 = 1#1) (h5 : k0_cond5 i v5 = 1#1) (Q : sProp 𝕄) (X4 X6 X8) (W : Waits sig Unit) (K : PUnit → sProp 𝕄) :
    iprop(owns (c : Thread nD τ) arg4 fullShare X4 ∗ owns (c : Thread nD τ) arg6 fullShare X6 ∗ owns (c : Thread nD τ) arg8 fullShare X8 ∗ (∃ d, owns (c : Thread nD τ) arg9 fullShare d) ∗ Q ∗ Tabs c BE US NX ∗ owes (c : Thread nD τ) 0 W
        ∗ (iprop(owns (c : Thread nD τ) arg4 fullShare X4 ∗ owns (c : Thread nD τ) arg6 fullShare X6 ∗ owns (c : Thread nD τ) arg8 fullShare X8 ∗ owns (c : Thread nD τ) arg9 fullShare (k0_pay1 (F := F)) ∗ Q ∗ Tabs c BE US NX ∗ (∃ W', owes (c : Thread nD τ) 0 W')) -∗ K ⟨⟩))
      ⊢ wp frame (wpE (defs₀ (F := F)) Variants.none c none) Set.univ (cc0_ffn i beM (Memref.isWhole_whole _) usM (Memref.isWhole_whole _) nxM (Memref.isWhole_whole _) arg4 harg4 wgM (Memref.isWhole_whole _) arg6 harg6 wdM (Memref.isWhole_whole _) arg8 harg8 arg9 harg9 sgM (Memref.isWhole_whole _) sdM (Memref.isWhole_whole _) bgM (Memref.isWhole_whole _) bdM (Memref.isWhole_whole _) stM (Memref.isWhole_whole _) cc0_scratch5) K := by
  unfold Tabs
  iintro ⟨H4, H6, H8, H9, HQ, ⟨Hb, Hu, Hnx⟩, HO, Hk⟩
  icases H9 with ⟨%d9, H9⟩
  ihave H9 := (owns_raw c arg9 harg9 _ d9) $$ H9
  iapply (tail_run c i arg4 harg4 arg6 harg6 arg8 harg8 arg9 harg9 BE US fullShare.right fullShare.right v1 v5 hv1 hv5 hv h1 h2 h5 (harg9.unread d9) K)
  isplitl [Hb]; · iexact Hb
  isplitl [Hu]; · iexact Hu
  isplitl [H9]; · iexact H9
  iintro ⟨Hb, Hu, H9⟩
  iapply Hk
  isplitl [H4]; · iexact H4
  isplitl [H6]; · iexact H6
  isplitl [H8]; · iexact H8
  isplitl [H9]; · iexact H9
  isplitl [HQ]; · iexact HQ
  isplitl [Hb Hu Hnx]
  · isplitl [Hb]; · iexact Hb
    isplitl [Hu]; · iexact Hu
    iexact Hnx
  iexists W; iexact HO

end Point

end Cert.KernelIdeal.Hand

end
-- ==== Proof.Ideal.Frame.lean ====
/- The run of the program: the data of its pipeline, the body at every point, and what the output and the arguments hold at the end. -/
module

public import proofs.«01_k».proof.Proof.Gen.KernelIdeal.Launch
public import proofs.«01_k».proof.Proof.Ideal.Point
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Run
variable (m : (ℓ : Loc nD τ sig) → Buf (Elt F) ℓ) (ρ : Dev nD → PrngReg)

/-- The stretches of host operations ahead of the call. -/
abbrev opss : List (List (HloOp τ sig (Elt F))) := [hostOps0, hostOps0_1, hostOps0_2, hostOps0_3, hostOps0_4]
/-- What each buffer holds when the call is reached. -/
def V (c : Dev nD) (b : Ref sig .tc) : Buf (Elt F) ((c.tc : Thread nD τ).loc b) := StableHlo.after (opss (F := F)).flatten (fun b => m (c, b)) b

/-- The tables the call finds. -/
def tbl : pre0.Contents (Elt F) := fun j => V m 0 (pre0.ref j)
theorem V_pre (c : Dev nD) (j) : V m c (pre0.ref j) = tbl m j := by obtain rfl : c = 0 := Subsingleton.elim _ _; rfl
abbrev Ok : Prop := ok0 (tbl m)
abbrev adm (hO : Ok m) : (pcfg0 (F := F)).Adm := ⟨tbl m, hO⟩
abbrev cfgM (hO : Ok m) : Pipeline.Cfg sig Λ₀ := cfg0 (adm m hO)

/-- The call's own cells. -/
abbrev osem0 : Fin 4 → SemLoc sig := fun j => ![SemLoc.dma 8, .dma 9, .dma 10, .dma 11] j
theorem ownSemFacts0 : Pipeline.OwnSemFacts spec0 osem0 := by decide
/-- The arrays the body reads itself. -/
abbrev H0 : Finset (Ref sig .tc) := {main_arg3, main_arg5}
theorem H0_sub : H0 ⊆ Pipeline.restRefsP sig pre0 spec0 := by decide

abbrev XG (c : Dev nD) : Buf (Elt F) (wgM.view.loc (c : Thread nD τ)) := V m c main_arg3
abbrev XD (c : Dev nD) : Buf (Elt F) (wdM.view.loc (c : Thread nD τ)) := V m c main_arg5

/-- Point number `n` of the grid. -/
def pt (n : ℕ) : grid0.Coords := grid0.coords ⟨min n 287, lt_of_le_of_lt (Nat.min_le_right _ _) (by rw [N_0]; decide)⟩
theorem coords_val (t : Fin grid0.N) : (grid0.coords t 0).val = t.val := by
  have h := Pipeline.Grid.coords_val (G := grid0) t 0 (S := 1) (B := 288) rfl rfl
  rw [h]
  have : t.val < 288 := lt_of_lt_of_eq t.isLt N_0
  omega
theorem pt_val (n : ℕ) : (pt n 0).val = min n 287 := coords_val _
theorem pt_eq (t : Fin grid0.N) : pt t.val = grid0.coords t := by
  unfold pt
  congr 1
  apply Fin.ext
  have : t.val < 288 := lt_of_lt_of_eq t.isLt N_0
  show min t.val 287 = t.val
  omega

/-- The words the body reads: the expert of block `n`, the next expert after it, the number of blocks used. -/
def Bw (c : Dev nD) (n : ℕ) : BitVec 32 := beW c (pt n) (V m c main_arg0)
def Nw (c : Dev nD) (n : ℕ) : BitVec 32 := nxW c (pt n) (V m c main_v17)
def Uw (c : Dev nD) : BitVec 32 := usW c (V m c main_arg1)
abbrev Un (c : Dev nD) : ℕ := (Uw m c).toNat

/-- What the run needs of the tables: experts in range, between one and 288 blocks used, and the table of next experts
    naming, all along the blocks of one expert, the expert of the blocks after them, or none after the last. -/
structure TabOk (c : Dev nD) : Prop where
  lt : ∀ n, n < 288 → (Bw m c n).toNat < 32
  pos : 1 ≤ Un m c
  le : Un m c ≤ 288
  neg : ∀ n, n < 288 → ¬ (Nw m c n).toNat < 32 → (Nw m c n).toInt < 0
  ne : ∀ n, n < Un m c → (Nw m c n).toNat < 32 → Nw m c n ≠ Bw m c n
  same : ∀ n, n + 1 < Un m c → Bw m c n = Bw m c (n + 1) → Nw m c (n + 1) = Nw m c n
  new : ∀ n, n + 1 < Un m c → Bw m c n ≠ Bw m c (n + 1) → Nw m c n = Bw m c (n + 1)
  last : ¬ (Nw m c (Un m c - 1)).toNat < 32

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
abbrev X4 (hO : Ok m) (c : Dev nD) (t : Fin (cfgM m hO).N) : Vec F S2048x128 .f32 := iblk m hO c 0 t
abbrev X6 (hO : Ok m) (c : Dev nD) (t : Fin (cfgM m hO).N) : Vec F S1x1x2048 .f32 := iblk m hO c 1 t
abbrev X8 (hO : Ok m) (c : Dev nD) (t : Fin (cfgM m hO).N) : Vec F S1x1x1024 .f32 := iblk m hO c 2 t

/-- What the body leaves in the output's block at point `t`. -/
def outAt (hO : Ok m) (c : Dev nD) (t : Fin (cfgM m hO).N) : Vec F S2048x128 .f32 :=
  if h : t.val < Un m c ∧ (Bw m c t.val).toNat < 32 then
    outV (X4 m hO c t) (X6 m hO c t) (X8 m hO c t) (castG (GW c (XG m c) (Bw m c t.val) h.2)) (castD (DW c (XD m c) (Bw m c t.val) h.2))
  else k0_pay1

/-- The state before point `n`. -/
def St (c : Dev nD) (n : ℕ) : sProp 𝕄 :=
  if n = 0 then Free c (XG m c) (XD m c) else Busy c (XG m c) (XD m c) (Bw m c (min (n - 1) (Un m c - 1))) (Nw m c (min (n - 1) (Un m c - 1)))
def Phi (c : Dev nD) (n : ℕ) : sProp 𝕄 :=
  iprop(St m c n ∗ (∃ r, prngReg c r) ∗ Tabs c (V m c main_arg0) (V m c main_arg1) (V m c main_v17))

/-- The data of the pipeline. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := Phi m c t.val
  q _ := fullShare
  owed _ := 0

theorem A_eq (hO : Ok m) (c : Dev nD) (w : Fin (cfgM m hO).W) : (dats m hO 0 c).A w = V m c (Pipeline.arrRef spec0 w) := by dsimp only [dats]
theorem after0 (hO : Ok m) (c : Dev nD) (t : Fin (cfgM m hO).N) : (dats m hO 0 c).after 0 t = iblk m hO c 0 t := by dsimp only [dats]; rfl
theorem after1 (hO : Ok m) (c : Dev nD) (t : Fin (cfgM m hO).N) : (dats m hO 0 c).after 1 t = iblk m hO c 1 t := by dsimp only [dats]; rfl
theorem after2 (hO : Ok m) (c : Dev nD) (t : Fin (cfgM m hO).N) : (dats m hO 0 c).after 2 t = iblk m hO c 2 t := by dsimp only [dats]; rfl
theorem after3 (hO : Ok m) (c : Dev nD) (t : Fin (cfgM m hO).N) : (dats m hO 0 c).after 3 t = outAt m hO c t := by dsimp only [dats]; rfl
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body at a point -/

abbrev ms0 (hO : Ok m) (t : Fin (cfgM m hO).N) : Memref sig .tc .vmem S2048x128 .f32 := spec0_0.stage ((cfgM m hO).slots t 0)
abbrev ms1 (hO : Ok m) (t : Fin (cfgM m hO).N) : Memref sig .tc .vmem S1x1x2048 .f32 := spec0_1.stage ((cfgM m hO).slots t 1)
abbrev ms2 (hO : Ok m) (t : Fin (cfgM m hO).N) : Memref sig .tc .vmem S1x1x1024 .f32 := spec0_2.stage ((cfgM m hO).slots t 2)
abbrev ms3 (hO : Ok m) (t : Fin (cfgM m hO).N) : Memref sig .tc .vmem S2048x128 .f32 := spec0_3.stage ((cfgM m hO).slots t 3)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)
abbrev hs3 (hO : Ok m) (t : Fin (cfgM m hO).N) : (ms3 m hO t).IsWhole := hstage0_3 (((cfgM m hO).slots t 3).cast nbuf0_3)

/-- The body at point `t`. -/
abbrev bodyAt (hO : Ok m) (t : Fin (cfgM m hO).N) :=
  cc0_ffn (F := F) (grid0.coords t) beM (Memref.isWhole_whole _) usM (Memref.isWhole_whole _) nxM (Memref.isWhole_whole _) (ms0 m hO t) (hs0 m hO t) wgM (Memref.isWhole_whole _) (ms1 m hO t) (hs1 m hO t) wdM (Memref.isWhole_whole _) (ms2 m hO t) (hs2 m hO t) (ms3 m hO t) (hs3 m hO t) sgM (Memref.isWhole_whole _) sdM (Memref.isWhole_whole _) bgM (Memref.isWhole_whole _) bdM (Memref.isWhole_whole _) stM (Memref.isWhole_whole _) cc0_scratch5

theorem defs₀_row (hO : Ok m) (t : Fin (cfgM m hO).N) : defs₀ (F := F) .tc (cfgM m hO).body ((cfgM m hO).bodyArgs t ((cfgM m hO).slots t)) = bodyAt m hO t := by
  unfold defs₀; rw [Defs.onTc_tc]

def bodyPre (hO : Ok m) (c : Dev nD) (t : Fin (cfgM m hO).N) : sProp 𝕄 :=
  iprop(Phi m c t.val ∗ (dats m hO 0 c).owesAt () t.castSucc
    ∗ (∃ d, owns (c : Thread nD τ) (ms0 m hO t) fullShare ((dats m hO 0 c).before 0 t d)) ∗ (∃ d, owns (c : Thread nD τ) (ms1 m hO t) fullShare ((dats m hO 0 c).before 1 t d))
    ∗ (∃ d, owns (c : Thread nD τ) (ms2 m hO t) fullShare ((dats m hO 0 c).before 2 t d)) ∗ (∃ d, owns (c : Thread nD τ) (ms3 m hO t) fullShare ((dats m hO 0 c).before 3 t d)))
def bodyPost (hO : Ok m) (c : Dev nD) (t : Fin (cfgM m hO).N) : sProp 𝕄 :=
  iprop(Phi m c (t.val + 1) ∗ (dats m hO 0 c).owesAt () t.succ
    ∗ owns (c : Thread nD τ) (ms0 m hO t) fullShare (X4 m hO c t) ∗ owns (c : Thread nD τ) (ms1 m hO t) fullShare (X6 m hO c t)
    ∗ owns (c : Thread nD τ) (ms2 m hO t) fullShare (X8 m hO c t) ∗ owns (c : Thread nD τ) (ms3 m hO t) fullShare (outAt m hO c t))

theorem cond_facts (c : Dev nD) (hT : TabOk m c) (n : ℕ) (hn : n < 288) :
    (k0_cond1 (pt n) = 1#1 ↔ n = 0) ∧ (k0_cond2 (pt n) (Uw m c) = 1#1 ↔ n < Un m c) ∧ (k0_cond5 (pt n) (Uw m c) = 1#1 ↔ Un m c ≤ n) := by
  have hv : (pt n 0).val = n := by rw [pt_val]; omega
  have hU : (Uw m c).toInt = (Un m c : Int) := by
    have h1 := hT.le
    have h2 : Un m c = (Uw m c).toNat := rfl
    rw [BitVec.toInt_eq_toNat_cond]; split <;> omega
  refine ⟨?_, ?_, ?_⟩
  · rw [k0_cond1_iff, hv]
  · rw [k0_cond2_iff, hv, hU]; omega
  · rw [k0_cond5_iff, hv, hU]; omega

theorem sound_body (hO : Ok m) (c : Dev nD) (hT : TabOk m c) (t : Fin (cfgM m hO).N) :
    bodyPre m hO c t ⊢ wp frame (wpE (defs₀ (F := F)) Variants.none c none) Set.univ (bodyAt m hO t) (fun _ => bodyPost m hO c t) := by
  have hN : t.val < 288 := by have h := t.isLt; exact lt_of_lt_of_eq h N_0
  have hp : pt t.val = grid0.coords t := pt_eq t
  obtain ⟨hc1, hc2, hc5⟩ := cond_facts m c hT t.val hN
  unfold bodyPre bodyPost bodyAt
  rw [← hp]
  unfold Dat.owesAt Pipeline.owesWithin
  rw [show (dats m hO 0 c).owed t.castSucc = 0 from rfl, show (dats m hO 0 c).owed t.succ = 0 from rfl]
  simp only [before0, before1, before2]
  unfold Phi
  have hlt := hT.lt t.val hN
  by_cases hu : t.val < Un m c
  · have hout : outAt m hO c t = outV (X4 m hO c t) (X6 m hO c t) (X8 m hO c t) (castG (GW c (XG m c) (Bw m c t.val) hlt)) (castD (DW c (XD m c) (Bw m c t.val) hlt)) :=
      dif_pos ⟨hu, hlt⟩
    have hS' : St m c (t.val + 1) = Busy c (XG m c) (XD m c) (Bw m c t.val) (Nw m c t.val) := by
      unfold St
      rw [if_neg (by omega), show min (t.val + 1 - 1) (Un m c - 1) = t.val by omega]
    rw [hout, hS']
    by_cases h0 : t.val = 0
    · have hS : St m c t.val = Free c (XG m c) (XD m c) := if_pos h0
      rw [hS]
      iintro ⟨⟨HS, Hr, HT⟩, ⟨%W, %hW, HO⟩, ⟨%d0, H0⟩, ⟨%d1, H1⟩, ⟨%d2, H2⟩, ⟨%d3, H3⟩⟩
      iapply (first_point c (pt t.val) (ms0 m hO t) (hs0 m hO t) (ms1 m hO t) (hs1 m hO t) (ms2 m hO t) (hs2 m hO t) (ms3 m hO t) (hs3 m hO t) (XG m c) (XD m c)
        (V m c main_arg0) (V m c main_arg1) (V m c main_v17) (Bw m c t.val) (Uw m c) rfl rfl hlt (hc1.2 h0) (hc2.2 hu) (fun h => absurd (hc5.1 h) (by omega))
        (hT.ne _ hu) (hT.neg _ hN) (X4 m hO c t) (X6 m hO c t) (X8 m hO c t) W _)
      isplitl [H0]; · iexact H0
      isplitl [H1]; · iexact H1
      isplitl [H2]; · iexact H2
      isplitl [H3]; · iexists _; iexact H3
      isplitl [HS]; · iexact HS
      isplitl [HT]; · iexact HT
      isplitl [HO]; · iexact HO
      iintro ⟨H0, H1, H2, H3, HS, HT, ⟨%W', HO⟩⟩
      isplitl [HS Hr HT]
      · isplitl [HS]; · iexact HS
        isplitl [Hr]; · iexact Hr
        iexact HT
      isplitl [HO]
      · iexists W'; isplitr; · ipureintro; exact fun _ _ => Or.inl trivial
        iexact HO
      isplitl [H0]; · iexact H0
      isplitl [H1]; · iexact H1
      isplitl [H2]; · iexact H2
      iexact H3
    · have hS : St m c t.val = Busy c (XG m c) (XD m c) (Bw m c (t.val - 1)) (Nw m c (t.val - 1)) := by
        unfold St
        rw [if_neg h0, show min (t.val - 1) (Un m c - 1) = t.val - 1 by omega]
      have hsame : Bw m c (t.val - 1) = Bw m c t.val → Nw m c t.val = Nw m c (t.val - 1) := by
        have h := hT.same (t.val - 1) (by omega)
        rwa [show t.val - 1 + 1 = t.val by omega] at h
      have hnew : Bw m c (t.val - 1) ≠ Bw m c t.val → Nw m c (t.val - 1) = Bw m c t.val := by
        have h := hT.new (t.val - 1) (by omega)
        rwa [show t.val - 1 + 1 = t.val by omega] at h
      rw [hS]
      iintro ⟨⟨HS, Hr, HT⟩, ⟨%W, %hW, HO⟩, ⟨%d0, H0⟩, ⟨%d1, H1⟩, ⟨%d2, H2⟩, ⟨%d3, H3⟩⟩
      iapply (mid_point c (pt t.val) (ms0 m hO t) (hs0 m hO t) (ms1 m hO t) (hs1 m hO t) (ms2 m hO t) (hs2 m hO t) (ms3 m hO t) (hs3 m hO t) (XG m c) (XD m c)
        (V m c main_arg0) (V m c main_arg1) (V m c main_v17) (Bw m c t.val) (Uw m c) rfl rfl hlt (fun h => h0 (hc1.1 h)) (hc2.2 hu) (fun h => absurd (hc5.1 h) (by omega))
        (Bw m c (t.val - 1)) (Nw m c (t.val - 1)) hsame hnew
        (hT.ne _ hu) (hT.neg _ hN) (X4 m hO c t) (X6 m hO c t) (X8 m hO c t) W _)
      isplitl [H0]; · iexact H0
      isplitl [H1]; · iexact H1
      isplitl [H2]; · iexact H2
      isplitl [H3]; · iexists _; iexact H3
      isplitl [HS]; · iexact HS
      isplitl [HT]; · iexact HT
      isplitl [HO]; · iexact HO
      iintro ⟨H0, H1, H2, H3, HS, HT, ⟨%W', HO⟩⟩
      isplitl [HS Hr HT]
      · isplitl [HS]; · iexact HS
        isplitl [Hr]; · iexact Hr
        iexact HT
      isplitl [HO]
      · iexists W'; isplitr; · ipureintro; exact fun _ _ => Or.inl trivial
        iexact HO
      isplitl [H0]; · iexact H0
      isplitl [H1]; · iexact H1
      isplitl [H2]; · iexact H2
      iexact H3
  · have hout : outAt m hO c t = k0_pay1 := dif_neg (fun h => hu h.1)
    have h0 : t.val ≠ 0 := by have := hT.pos; omega
    have hS' : St m c (t.val + 1) = St m c t.val := by
      unfold St
      rw [if_neg (by omega), if_neg h0, show min (t.val + 1 - 1) (Un m c - 1) = Un m c - 1 by omega, show min (t.val - 1) (Un m c - 1) = Un m c - 1 by omega]
    rw [hout, hS']
    iintro ⟨⟨HS, Hr, HT⟩, ⟨%W, %hW, HO⟩, ⟨%d0, H0⟩, ⟨%d1, H1⟩, ⟨%d2, H2⟩, ⟨%d3, H3⟩⟩
    iapply (tail_point c (pt t.val) (ms0 m hO t) (hs0 m hO t) (ms1 m hO t) (hs1 m hO t) (ms2 m hO t) (hs2 m hO t) (ms3 m hO t) (hs3 m hO t)
        (V m c main_arg0) (V m c main_arg1) (V m c main_v17) (Bw m c t.val) (Uw m c) rfl rfl hlt (fun h => h0 (hc1.1 h)) (fun h => hu (hc2.1 h)) (hc5.2 (by omega))
        (St m c t.val) (X4 m hO c t) (X6 m hO c t) (X8 m hO c t) W _)
    isplitl [H0]; · iexact H0
    isplitl [H1]; · iexact H1
    isplitl [H2]; · iexact H2
    isplitl [H3]; · iexists _; iexact H3
    isplitl [HS]; · iexact HS
    isplitl [HT]; · iexact HT
    isplitl [HO]; · iexact HO
    iintro ⟨H0, H1, H2, H3, HS, HT, ⟨%W', HO⟩⟩
    isplitl [HS Hr HT]
    · isplitl [HS]; · iexact HS
      isplitl [Hr]; · iexact Hr
      iexact HT
    isplitl [HO]
    · iexists W'; isplitr; · ipureintro; exact fun _ _ => Or.inl trivial
      iexact HO
    isplitl [H0]; · iexact H0
    isplitl [H1]; · iexact H1
    isplitl [H2]; · iexact H2
    iexact H3

theorem tbl_used : (tbl m).atD 1 ![0] = Uw m 0 := by
  unfold Pipeline.Prefetch.Contents.atD
  rw [dif_pos (fun a => by fin_cases a; decide)]
  rfl
theorem idle_eq (hO : Ok m) : (cfgM m hO).idle = idle0 (tbl m) := rfl
theorem idle0_three (pf : pre0.Contents (Elt F)) (u : BitVec 32) (hu : pf.atD 1 ![0] = u) :
    idle0 pf 3 = fun i => (!(k0_cond2 i u == 1#1) && !(k0_cond5 i u == 1#1)) := by subst hu; rfl
theorem idle3 (hO : Ok m) (c : Dev nD) (hT : TabOk m c) (t : Fin (cfgM m hO).N) : (cfgM m hO).idle (3 : Fin 4) ((cfgM m hO).grid.coords t) = false := by
  have hN : t.val < 288 := by have h := t.isLt; exact lt_of_lt_of_eq h N_0
  obtain rfl : c = 0 := Subsingleton.elim _ _
  obtain ⟨-, hc2, hc5⟩ := cond_facts m 0 hT t.val hN
  refine (congrFun (congrFun (idle_eq m hO) 3) ((cfgM m hO).grid.coords t)).trans ?_
  refine (congrFun (idle0_three (tbl m) (Uw m 0) (tbl_used m)) (grid0.coords t)).trans ?_
  rw [← pt_eq t]
  rcases Nat.lt_or_ge t.val (Un m 0) with h | h
  · rw [hc2.2 h]; rfl
  · rw [hc5.2 h]; simp

theorem Phi_castSucc (hO : Ok m) (c : Dev nD) (t : Fin (cfgM m hO).N) : (dats m hO 0 c).Φ t.castSucc = Phi m c t.val := by
  dsimp only [dats]
  exact Pipeline.Dat.Φ_castSucc (fun n _ => Phi m c n) t
theorem Phi_succ (hO : Ok m) (c : Dev nD) (t : Fin (cfgM m hO).N) : (dats m hO 0 c).Φ t.succ = Phi m c (t.val + 1) := by
  dsimp only [dats]
  exact congrArg (Phi m c) (Fin.val_succ t)
theorem post_shape {A A' B C C' D D' E E' G G' : sProp 𝕄} (hA : A ⊢ A') (hC : C ⊢ C') (hD : D ⊢ D') (hE : E ⊢ E') (hG : G ⊢ G') :
    iprop(A ∗ B ∗ C ∗ D ∗ E ∗ G) ⊢ iprop(A' ∗ B ∗ C' ∗ D' ∗ E' ∗ G') := by
  iintro ⟨HA, HB, HC, HD, HE, HG⟩
  isplitl [HA]; · iapply hA; iexact HA
  isplitl [HB]; · iexact HB
  isplitl [HC]; · iapply hC; iexact HC
  isplitl [HD]; · iapply hD; iexact HD
  isplitl [HE]; · iapply hE; iexact HE
  iapply hG; iexact HG
theorem live_post {P X Y : sProp 𝕄} (b fl : Bool) (hb : b = false) (h : P ⊢ Y) :
    P ⊢ match b with
      | true => match fl with
        | false => X
        | true => Y
      | false => Y := by subst hb; exact h

theorem body_obligation (hO : Ok m) (c : Dev nD) (hT : TabOk m c) :
    BodyObligation (dats (F := F) m hO 0 c) (defs₀ (F := F)) Variants.none () Set.univ := fun t => by
  rw [bigSep_W0, bigSep_W0, defs₀_row]
  refine triple_restated (sound_body m hO c hT t) rfl ?_ fun _ => ?_
  · unfold bodyPre
    exact .rfl
  · have h3 := idle3 m hO c hT t
    unfold bodyPost
    refine post_shape (BIBase.Entails.of_eq (Phi_succ m hO c t).symm) (BIBase.Entails.of_eq (congrArg (owns (c : Thread nD τ) (ms0 m hO t) fullShare) (after0 m hO c t).symm))
      (BIBase.Entails.of_eq (congrArg (owns (c : Thread nD τ) (ms1 m hO t) fullShare) (after1 m hO c t).symm))
      (BIBase.Entails.of_eq (congrArg (owns (c : Thread nD τ) (ms2 m hO t) fullShare) (after2 m hO c t).symm)) ?_
    have hY : (owns (c : Thread nD τ) (ms3 m hO t) fullShare (outAt m hO c t) : sProp 𝕄) ⊢ owns (c : Thread nD τ) (ms3 m hO t) fullShare ((dats m hO 0 c).after 3 t) :=
      BIBase.Entails.of_eq (congrArg (owns (c : Thread nD τ) (ms3 m hO t) fullShare) (after3 m hO c t).symm)
    rw [h3]
    exact hY

/-! ## The launch -/

theorem hmain : Pipeline.HMainP (Ix := Unit) (Name := ℕ) (U := Pipeline.UD sig nD τ) (Lvl := ℕ) pcfgs 0 defs₀ Variants.none m (main (F := F)) (V m) :=
  Pipeline.hmainP_prefixes pcfgs 0 defs₀ Variants.none m main opss
    ⟨hostOps0_sub, hostOps0_1_sub, hostOps0_2_sub, hostOps0_3_sub, hostOps0_4_sub⟩ (by refine ⟨?_, ?_, ?_, ?_, ?_⟩ <;> (repeat' constructor)) main_chain

theorem PhiD_eq (c : Dev nD) : (Pipeline.ΦD osem0 spec0 H0 (V m) c : sProp 𝕄)
    = iprop(iprop((∃ f, sgM.view.loc (c : Thread nD τ) ↦{fullShare} f) ∗ (∃ f, sdM.view.loc (c : Thread nD τ) ↦{fullShare} f)
        ∗ (∃ f, bgM.view.loc (c : Thread nD τ) ↦{fullShare} f) ∗ (∃ f, bdM.view.loc (c : Thread nD τ) ↦{fullShare} f) ∗ (∃ f, stM.view.loc (c : Thread nD τ) ↦{fullShare} f))
      ∗ (∃ r, prngReg c r)
      ∗ iprop(semVal ((c : Thread nD τ), gcell 0) 0 ∗ semVal ((c : Thread nD τ), gcell 1) 0 ∗ semVal ((c : Thread nD τ), dcell 0) 0 ∗ semVal ((c : Thread nD τ), dcell 1) 0)
      ∗ iprop((wgM.view.loc (c : Thread nD τ) ↦{fullShare} XG m c) ∗ (wdM.view.loc (c : Thread nD τ) ↦{fullShare} XD m c))) := by
  rw [Pipeline.ΦD_eq, scopedRest0_eq, Pipeline.ownSems0_eq_of_list c osem0 [0, 1, 2, 3] (by decide) (by decide),
    BI.bigSep_eq_bigSepL_of_eq [main_arg3, main_arg5] (by decide) (by decide)]
  rfl

theorem PhiT_eq (c : Dev nD) : (Pipeline.ΦT pre0 (tbl m) c : sProp 𝕄) = Tabs c (V m c main_arg0) (V m c main_arg1) (V m c main_v17) := by
  obtain rfl : c = 0 := Subsingleton.elim _ _
  unfold Pipeline.ΦT Pipeline.prefHeld Tabs
  rw [show (Finset.univ : Finset (Fin 3)) = insert 0 (insert 1 {2}) from by decide, bigSep_insert (by decide), bigSep_insert (by decide), bigSep_singleton]
  rfl

theorem enter (c : Dev nD) : iprop(Pipeline.ΦD osem0 spec0 H0 (V m) c ∗ Pipeline.ΦT pre0 (tbl m) c) ⊢ Phi m c 0 := by
  rw [PhiD_eq, PhiT_eq]
  unfold Phi
  rw [show St m c 0 = Free c (XG m c) (XD m c) from if_pos rfl]
  unfold Free CastAny
  iintro ⟨⟨⟨H1, H2, H3, H4, H5⟩, Hr, ⟨Q0, Q1, Q2, Q3⟩, ⟨Hg, Hd⟩⟩, HT⟩
  isplitr [Hr HT]
  · isplitl [H1]; · iexact H1
    isplitl [H2]; · iexact H2
    isplitl [H3 H4]
    · isplitl [H3]; · iexact H3
      iexact H4
    isplitl [H5]; · iexact H5
    isplitl [Q0]; · iexact Q0
    isplitl [Q1]; · iexact Q1
    isplitl [Q2]; · iexact Q2
    isplitl [Q3]; · iexact Q3
    isplitl [Hg]; · iexact Hg
    iexact Hd
  isplitl [Hr]; · iexact Hr
  iexact HT

theorem leave (c : Dev nD) (hT : TabOk m c) : Phi m c 288 ⊢ Pipeline.ΦD osem0 spec0 H0 (V m) c := by
  rw [PhiD_eq]
  unfold Phi
  have hS : St m c 288 = Busy c (XG m c) (XD m c) (Bw m c (Un m c - 1)) (Nw m c (Un m c - 1)) := by
    unfold St
    have := hT.le
    rw [if_neg (by decide), show min (288 - 1) (Un m c - 1) = Un m c - 1 by omega]
  rw [hS]
  iintro ⟨HS, Hr, -⟩
  ihave HS := (Busy_free c (XG m c) (XD m c) _ _ hT.last) $$ HS
  unfold Free CastAny
  icases HS with ⟨H1, H2, ⟨H3, H4⟩, H5, Q0, Q1, Q2, Q3, Hg, Hd⟩
  isplitl [H1 H2 H3 H4 H5]
  · isplitl [H1]; · iexact H1
    isplitl [H2]; · iexact H2
    isplitl [H3]; · iexact H3
    isplitl [H4]; · iexact H4
    iexact H5
  isplitl [Hr]; · iexact Hr
  isplitl [Q0 Q1 Q2 Q3]
  · isplitl [Q0]; · iexact Q0
    isplitl [Q1]; · iexact Q1
    isplitl [Q2]; · iexact Q2
    iexact Q3
  isplitl [Hg]; · iexact Hg
  iexact Hd

set_option backward.isDefEq.respectTransparency.types false in
/-- From any memory whose tables are in order, every run ends, with the output's array at the blocks the body left, every other
    buffer of the program at what it held at the call, and every semaphore at zero. -/
theorem run_main (hO : Ok m) (hT : ∀ c, TabOk m c) :
    θ_run defs (onTc (τ := τ) (main (F := F))) (s₀ m ρ)
      (fun r => Pipeline.FramePost (fun p => Pipeline.pin pcfgs (fun _ => adm m hO) p) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO c (hT c)).loose) (hshare := fun c => (dats m hO 0 c).share_full fun _ => rfl)
    (howed := fun _ _ => rfl) (V := V m) (hmain := hmain m) (hA := A_eq m hO) (hpf := V_pre m)
    (hin := enter m) (hout := fun c => leave m c (hT c))

end Run

end Cert.KernelIdeal.Hand

end
-- ==== Proof.Ideal.Tables.lean ====
/- The tables the call finds: what the precondition says of them, and the condition the call's blocks rest on. -/
module

public import proofs.«01_k».proof.Proof.Gen.KernelIdeal.Launch
public import proofs.«01_k».proof.Proof.Ideal.Frame
public import proofs.«01_k».proof.Proof.Words
public import proofs.«01_k».proof.Proof.Gen.Pre_blocks_sorted
public import proofs.«01_k».proof.Defs
public import Idealize.ShloMosaic.Lib.StableHlo.RunRead
public import Idealize.ShloMosaic.Lib.StableHlo.Predicate
public import Idealize.ShloMosaic.Lib.ReduceAll
public import Idealize.ShloMosaic.Lib.Pointwise
public import Idealize.ShloMosaic.Lib.PlanTiles.Rows
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Transfers
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

theorem coord_toNat (i : grid0.Coords) : (Scalar.indexCast (BitVec.ofNat 32 (i 0).val) : BitVec 32).toNat = (i 0).val := by
  have h : (i 0).val < 288 := (i 0).isLt
  show (BitVec.ofNat 32 (i 0).val).toNat = _
  rw [BitVec.toNat_ofNat, Nat.mod_eq_of_lt (by omega)]

theorem off1_eq (i : grid0.Coords) : k0_off1 i = ![(i 0).val] := by
  unfold k0_off1; dsimp only; rw [coord_toNat]
theorem off12_eq (i : grid0.Coords) : k0_off12 i = ![(i 0).val] := by
  unfold k0_off12; dsimp only; rw [coord_toNat]

/-- An entry of a table, read through the body's one-word window. -/
theorem beW_eq (c : Dev nD) (i : grid0.Coords) (X) : beW (F := F) c i X = X (ValueIdx.ix1 ⟨(i 0).val, (i 0).isLt⟩) := by
  refine congrArg X ?_
  funext a
  fin_cases a
  refine Fin.ext ?_
  have := congrFun (off1_eq i) 0
  show k0_off1 i 0 + _ = _
  rw [this]; rfl
theorem nxW_eq (c : Dev nD) (i : grid0.Coords) (X) : nxW (F := F) c i X = X (ValueIdx.ix1 ⟨(i 0).val, (i 0).isLt⟩) := by
  refine congrArg X ?_
  funext a
  fin_cases a
  refine Fin.ext ?_
  have := congrFun (off12_eq i) 0
  show k0_off12 i 0 + _ = _
  rw [this]; rfl
theorem usW_eq (c : Dev nD) (X) : usW (F := F) c X = X (ValueIdx.ix1 0) := by
  refine congrArg X ?_
  funext a
  fin_cases a
  rfl

/-- The greater-and-in-use table the host takes the least of. -/
def maskT (B : IVec S288 32) (U : IVec S1 32) : IVec S288x288 32 :=
  select (andi
      (cmpi .sgt (broadcastInDim S288x288 ![0, 1] bcast_S1x288_S288x288_0_1 (broadcastInDim S1x288 ![1] bcast_S288_S1x288_1 B))
        (broadcastInDim S288x288 ![0, 1] bcast_S288x1_S288x288_0_1 (broadcastInDim S288x1 ![0] bcast_S288_S288x1_0 B)))
      (broadcastInDim S288x288 ![0, 1] bcast_S1x288_S288x288_0_1
        (cmpi .slt (broadcastInDim S1x288 ![1] bcast_S288_S1x288_1 (iotaInDim S288 32 0))
          (broadcastInDim S1x288 ![] bcast_S_S1x288 (shapeCast S_ U shapeCasts_S1_S_)))))
    (broadcastInDim S288x288 ![0, 1] bcast_S1x288_S288x288_0_1 (broadcastInDim S1x288 ![1] bcast_S288_S1x288_1 B))
    (broadcastInDim S288x288 ![] bcast_S_S288x288 (constantI S_ 32 32#32))
/-- Its least along each row. -/
def leastT (B : IVec S288 32) (U : IVec S1 32) : IVec S288 32 :=
  Host.reduce IntOp.minsi (maskT B U) (constantI S_ 32 2147483647#32) reducesTo_S288x288_S288_d1 h_S_
/-- The table of next experts, as the host computes it. -/
def nextT (B : IVec S288 32) (U : IVec S1 32) : IVec S288 32 :=
  select (cmpi .slt (leastT B U) (broadcastInDim S288 ![] bcast_S_S288 (constantI S_ 32 32#32))) (leastT B U)
    (broadcastInDim S288 ![] bcast_S_S288 (constantI S_ 32 4294967295#32))

theorem maskT_apply (B : IVec S288 32) (U : IVec S1 32) (i j : Fin 288) :
    maskT B U (ValueIdx.ix2 i j) = Cert.Words.pick (fun n => B (ValueIdx.ix1 n)) (U (ValueIdx.ix1 0)) i j := by
  unfold maskT Cert.Words.pick
  pointwise
  show Scalar.select (IntOp.andi (IntOp.cmpi CmpIPredicate.sgt (B (ValueIdx.ix1 j)) (B (ValueIdx.ix1 i)))
    (IntOp.cmpi CmpIPredicate.slt (BitVec.ofNat 32 j.val) (U (ValueIdx.ix1 0)))) (B (ValueIdx.ix1 j)) 32#32 = _
  rw [WordCmp.cmpi_sgt_eq, WordCmp.cmpi_slt_eq, WordCmp.toInt_ofNat_of_lt (by have := j.isLt; omega)]
  by_cases h1 : (B (ValueIdx.ix1 i)).toInt < (B (ValueIdx.ix1 j)).toInt <;>
    by_cases h2 : (j.val : ℤ) < (U (ValueIdx.ix1 0)).toInt <;> simp only [h1, h2, decide_true, decide_false, and_self, and_true, true_and, and_false, false_and, if_true, if_false] <;> rfl

theorem leastT_apply (B : IVec S288 32) (U : IVec S1 32) (i : Fin 288) :
    leastT B U (ValueIdx.ix1 i) = (Finset.univ : Finset (Fin 288)).fold IntOp.minsi 2147483647#32
      (Cert.Words.pick (fun n => B (ValueIdx.ix1 n)) (U (ValueIdx.ix1 0)) i) := by
  unfold leastT
  rw [Host.reduce_eq_fold_single IntOp.minsi _ _ _ (by decide)]
  refine congrArg (fun g => (Finset.univ : Finset (Fin 288)).fold IntOp.minsi 2147483647#32 g) ?_
  funext j
  refine Eq.trans ?_ (maskT_apply B U i j)
  refine congrArg (maskT B U) ?_
  funext a
  fin_cases a <;> rfl

theorem nextT_apply (B : IVec S288 32) (U : IVec S1 32) (i : Fin 288) :
    nextT B U (ValueIdx.ix1 i) = Cert.Words.next (fun n => B (ValueIdx.ix1 n)) (U (ValueIdx.ix1 0)) i := by
  unfold nextT Cert.Words.next
  rw [← leastT_apply]
  pointwise
  rw [WordCmp.cmpi_slt_eq, show ((32#32 : BitVec 32).toInt) = 32 from by decide]
  by_cases h1 : (leastT B U (ValueIdx.ix1 i)).toInt < 32 <;> simp only [h1, decide_true, decide_false, if_true, if_false] <;> rfl

section Tables
variable (m : (ℓ : Loc nD τ sig) → Buf (Elt F) ℓ)

theorem V_arg0 (c : Dev nD) : V m c main_arg0 = m (c, main_arg0) := by unfold V opss; after_reads_simp
theorem V_arg1 (c : Dev nD) : V m c main_arg1 = m (c, main_arg1) := by unfold V opss; after_reads_simp
theorem V_arg2 (c : Dev nD) : V m c main_arg2 = m (c, main_arg2) := by unfold V opss; after_reads_simp
theorem V_arg3 (c : Dev nD) : V m c main_arg3 = m (c, main_arg3) := by unfold V opss; after_reads_simp
theorem V_arg4 (c : Dev nD) : V m c main_arg4 = m (c, main_arg4) := by unfold V opss; after_reads_simp
theorem V_arg5 (c : Dev nD) : V m c main_arg5 = m (c, main_arg5) := by unfold V opss; after_reads_simp
theorem V_arg6 (c : Dev nD) : V m c main_arg6 = m (c, main_arg6) := by unfold V opss; after_reads_simp

/-- The table of experts and the number of blocks in use, as words. -/
def bT (c : Dev nD) (n : Fin 288) : BitVec 32 := m (c, main_arg0) (ValueIdx.ix1 n)
def uT (c : Dev nD) : BitVec 32 := m (c, main_arg1) (ValueIdx.ix1 0)

theorem of_main_v11 (h1 : main_v11.ty = ⟨S288x288, .i1⟩) (h2 h3) (v : BufTy.Contents (Elt F) ⟨S288x288, .i1⟩) : (StableHlo.TRef.of main_v11 h1 h2 h3 : StableHlo.TRef sig ⟨S288x288, .i1⟩).ofBuf (Val := Elt F) v = v := rfl
theorem to_main_v11 (h1 : main_v11.ty = ⟨S288x288, .i1⟩) (h2 h3) (v : BufTy.Contents (Elt F) ⟨S288x288, .i1⟩) : (StableHlo.TRef.of main_v11 h1 h2 h3 : StableHlo.TRef sig ⟨S288x288, .i1⟩).toBuf (Val := Elt F) v = v := rfl
theorem of_main_v12 (h1 : main_v12.ty = ⟨S1x288, .i32⟩) (h2 h3) (v : BufTy.Contents (Elt F) ⟨S1x288, .i32⟩) : (StableHlo.TRef.of main_v12 h1 h2 h3 : StableHlo.TRef sig ⟨S1x288, .i32⟩).ofBuf (Val := Elt F) v = v := rfl
theorem to_main_v12 (h1 : main_v12.ty = ⟨S1x288, .i32⟩) (h2 h3) (v : BufTy.Contents (Elt F) ⟨S1x288, .i32⟩) : (StableHlo.TRef.of main_v12 h1 h2 h3 : StableHlo.TRef sig ⟨S1x288, .i32⟩).toBuf (Val := Elt F) v = v := rfl
theorem of_main_c (h1 : main_c.ty = ⟨S_, .i32⟩) (h2 h3) (v : BufTy.Contents (Elt F) ⟨S_, .i32⟩) : (StableHlo.TRef.of main_c h1 h2 h3 : StableHlo.TRef sig ⟨S_, .i32⟩).ofBuf (Val := Elt F) v = v := rfl
theorem to_main_c (h1 : main_c.ty = ⟨S_, .i32⟩) (h2 h3) (v : BufTy.Contents (Elt F) ⟨S_, .i32⟩) : (StableHlo.TRef.of main_c h1 h2 h3 : StableHlo.TRef sig ⟨S_, .i32⟩).toBuf (Val := Elt F) v = v := rfl
theorem of_main_v13 (h1 : main_v13.ty = ⟨S288x288, .i32⟩) (h2 h3) (v : BufTy.Contents (Elt F) ⟨S288x288, .i32⟩) : (StableHlo.TRef.of main_v13 h1 h2 h3 : StableHlo.TRef sig ⟨S288x288, .i32⟩).ofBuf (Val := Elt F) v = v := rfl
theorem to_main_v13 (h1 : main_v13.ty = ⟨S288x288, .i32⟩) (h2 h3) (v : BufTy.Contents (Elt F) ⟨S288x288, .i32⟩) : (StableHlo.TRef.of main_v13 h1 h2 h3 : StableHlo.TRef sig ⟨S288x288, .i32⟩).toBuf (Val := Elt F) v = v := rfl
theorem of_main_v14 (h1 : main_v14.ty = ⟨S288, .i32⟩) (h2 h3) (v : BufTy.Contents (Elt F) ⟨S288, .i32⟩) : (StableHlo.TRef.of main_v14 h1 h2 h3 : StableHlo.TRef sig ⟨S288, .i32⟩).ofBuf (Val := Elt F) v = v := rfl
theorem to_main_v14 (h1 : main_v14.ty = ⟨S288, .i32⟩) (h2 h3) (v : BufTy.Contents (Elt F) ⟨S288, .i32⟩) : (StableHlo.TRef.of main_v14 h1 h2 h3 : StableHlo.TRef sig ⟨S288, .i32⟩).toBuf (Val := Elt F) v = v := rfl
theorem of_main_c_2 (h1 : main_c_2.ty = ⟨S_, .i32⟩) (h2 h3) (v : BufTy.Contents (Elt F) ⟨S_, .i32⟩) : (StableHlo.TRef.of main_c_2 h1 h2 h3 : StableHlo.TRef sig ⟨S_, .i32⟩).ofBuf (Val := Elt F) v = v := rfl
theorem to_main_c_2 (h1 : main_c_2.ty = ⟨S_, .i32⟩) (h2 h3) (v : BufTy.Contents (Elt F) ⟨S_, .i32⟩) : (StableHlo.TRef.of main_c_2 h1 h2 h3 : StableHlo.TRef sig ⟨S_, .i32⟩).toBuf (Val := Elt F) v = v := rfl
theorem of_main_v16 (h1 : main_v16.ty = ⟨S288, .i1⟩) (h2 h3) (v : BufTy.Contents (Elt F) ⟨S288, .i1⟩) : (StableHlo.TRef.of main_v16 h1 h2 h3 : StableHlo.TRef sig ⟨S288, .i1⟩).ofBuf (Val := Elt F) v = v := rfl
theorem to_main_v16 (h1 : main_v16.ty = ⟨S288, .i1⟩) (h2 h3) (v : BufTy.Contents (Elt F) ⟨S288, .i1⟩) : (StableHlo.TRef.of main_v16 h1 h2 h3 : StableHlo.TRef sig ⟨S288, .i1⟩).toBuf (Val := Elt F) v = v := rfl
theorem of_main_v17 (h1 : main_v17.ty = ⟨S288, .i32⟩) (h2 h3) (v : BufTy.Contents (Elt F) ⟨S288, .i32⟩) : (StableHlo.TRef.of main_v17 h1 h2 h3 : StableHlo.TRef sig ⟨S288, .i32⟩).ofBuf (Val := Elt F) v = v := rfl
theorem to_main_v17 (h1 : main_v17.ty = ⟨S288, .i32⟩) (h2 h3) (v : BufTy.Contents (Elt F) ⟨S288, .i32⟩) : (StableHlo.TRef.of main_v17 h1 h2 h3 : StableHlo.TRef sig ⟨S288, .i32⟩).toBuf (Val := Elt F) v = v := rfl

theorem V_next (c : Dev nD) : V m c main_v17 = nextT (m (c, main_arg0)) (m (c, main_arg1)) := by
  unfold V opss
  after_reads_simp
  unfold nextT leastT maskT
  simp only [StableHlo.TRef.ofBuf_toBuf, id_eq]
  simp only [of_main_v11, to_main_v11, of_main_v12, to_main_v12, of_main_c, to_main_c, of_main_v13, to_main_v13, of_main_v14, to_main_v14, of_main_c_2, to_main_c_2, of_main_v16, to_main_v16, of_main_v17, to_main_v17]
  rfl
end Tables

section Precondition
variable (m : (ℓ : Loc nD τ sig) → Buf (Elt F) ℓ)

/-- The precondition, at any device: the experts in order, the number of blocks in use in range. -/
def PreHolds : Prop := ∀ c : Dev nD,
  Cert.Pre_blocks_sorted.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1

instance : Subsingleton S_.Idx := ⟨fun a b => funext fun i => i.elim0⟩

theorem sorted_of (h : PreHolds m) (c : Dev nD) : Cert.Words.Sorted (bT m c) (uT m c) := by
  have e := congrFun (h c) ValueIdx.ix0
  unfold Cert.Pre_blocks_sorted.fn Cert.Pre_blocks_sorted.fn_part1 at e
  dsimp only at e
  have hand : ∀ (x y : IVec Cert.Pre_blocks_sorted.S_ 1), andi x y ValueIdx.ix0 = 1#1 → x ValueIdx.ix0 = 1#1 ∧ y ValueIdx.ix0 = 1#1 :=
    fun x y hxy => IntOp.andi_eq_one.1 hxy
  obtain ⟨e, e5⟩ := hand _ _ e
  obtain ⟨e, e4⟩ := hand _ _ e
  obtain ⟨e, e3⟩ := hand _ _ e
  obtain ⟨e1, e2⟩ := hand _ _ e
  haveI : Subsingleton Cert.Pre_blocks_sorted.S_.Idx := ⟨fun a b => funext fun i => i.elim0⟩
  have a1 := Host.reduce_andi_all _ _ _ _ _ e1
  have a2 := Host.reduce_andi_all _ _ _ _ _ e2
  have a3 := Host.reduce_andi_all _ _ _ _ _ e3
  have z0 : ((0#32 : BitVec 32)).toInt = 0 := by decide
  have z1 : ((1#32 : BitVec 32)).toInt = 1 := by decide
  have z32 : ((32#32 : BitVec 32)).toInt = 32 := by decide
  have z288 : ((288#32 : BitVec 32)).toInt = 288 := by decide
  have hsc : ∀ h, shapeCast Cert.Pre_blocks_sorted.S_ (m ((c.tc : Thread nD τ).loc main_arg1)) h ValueIdx.ix0 = uT m c := by
    intro h'
    have : ∀ (X : IVec Cert.Pre_blocks_sorted.S1 32), shapeCast Cert.Pre_blocks_sorted.S_ X h' ValueIdx.ix0 = X (ValueIdx.ix1 0) := by
      intro X; pointwise; rfl
    exact this _
  have hsl : ∀ (k : ℕ) (n : ℕ) (hn : n < 287) (hk : k ≤ 1) (h : Cert.Pre_blocks_sorted.S288.Slices ![k] Cert.Pre_blocks_sorted.S287),
      extractStridedSlice Cert.Pre_blocks_sorted.S287 ![k] (m ((c.tc : Thread nD τ).loc main_arg0)) h (ValueIdx.ix1 ⟨n, hn⟩) = bT m c ⟨k + n, by omega⟩ := by
    intro k n hn hk h'
    unfold extractStridedSlice
    refine congrArg (m ((c.tc : Thread nD τ).loc main_arg0)) (funext fun a => ?_)
    fin_cases a
    rfl
  refine ⟨fun n => ?_, fun n => ?_, fun n hn => ?_, ?_, ?_⟩
  · have := a1 (ValueIdx.ix1 n)
    change IntOp.cmpi .sge (bT m c n) 0#32 = 1#1 at this
    rw [WordCmp.cmpi_sge_eq, WordCmp.ofBool_decide_eq_one_iff] at this
    omega
  · have := a2 (ValueIdx.ix1 n)
    change IntOp.cmpi .slt (bT m c n) 32#32 = 1#1 at this
    rw [WordCmp.cmpi_slt_eq, WordCmp.ofBool_decide_eq_one_iff] at this
    omega
  · have := a3 (ValueIdx.ix1 ⟨n, by omega⟩)
    change IntOp.cmpi .sge (extractStridedSlice (s := Cert.Pre_blocks_sorted.S288) Cert.Pre_blocks_sorted.S287 ![1] _ _ _) (extractStridedSlice (s := Cert.Pre_blocks_sorted.S288) Cert.Pre_blocks_sorted.S287 ![0] _ _ _) = 1#1 at this
    rw [hsl 1 n (by omega) (by omega), hsl 0 n (by omega) (by omega)] at this
    rw [WordCmp.cmpi_sge_eq, WordCmp.ofBool_decide_eq_one_iff] at this
    have f1 : (⟨1 + n, by omega⟩ : Fin 288) = ⟨n + 1, hn⟩ := Fin.ext (Nat.add_comm _ _)
    have f0 : (⟨0 + n, by omega⟩ : Fin 288) = ⟨n, by omega⟩ := Fin.ext (Nat.zero_add _)
    rw [f1, f0] at this
    exact this
  · change IntOp.cmpi .sge _ 1#32 = 1#1 at e4
    rw [WordCmp.cmpi_sge_eq, WordCmp.ofBool_decide_eq_one_iff] at e4
    rw [hsc, z1] at e4; exact e4
  · change IntOp.cmpi .sle _ 288#32 = 1#1 at e5
    rw [WordCmp.cmpi_sle_eq, WordCmp.ofBool_decide_eq_one_iff] at e5
    rw [hsc, z288] at e5; exact e5

theorem pt_fin (n : ℕ) (h : n < 288) : (⟨(pt n 0).val, (pt n 0).isLt⟩ : Fin 288) = ⟨n, h⟩ := Fin.ext (by simp only [pt_val]; omega)

theorem Bw_eq (c : Dev nD) (n : ℕ) (h : n < 288) : Bw m c n = bT m c ⟨n, h⟩ := by
  unfold Bw bT; rw [beW_eq, V_arg0, pt_fin n h]
theorem Nw_eq (c : Dev nD) (n : ℕ) (h : n < 288) : Nw m c n = Cert.Words.next (bT m c) (uT m c) ⟨n, h⟩ := by
  unfold Nw; rw [nxW_eq, V_next, pt_fin n h, nextT_apply]; rfl
theorem Uw_eq (c : Dev nD) : Uw m c = uT m c := by
  unfold Uw uT; rw [usW_eq, V_arg1]

variable {m}

theorem tab_ok (h : PreHolds m) (c : Dev nD) : TabOk m c := by
  have hs := sorted_of m h c
  have hu : ((Un m c : ℕ) : ℤ) = (uT m c).toInt := by
    show (((Uw m c).toNat : ℕ) : ℤ) = _
    rw [Uw_eq]; exact Cert.Words.toNat_of (by have := hs.upos; omega)
  have h1 := hs.upos
  have h2 := hs.ule
  refine ⟨fun n hn => ?_, ?_, ?_, fun n hn hx => ?_, fun n hn hx => ?_, fun n hn hx => ?_, fun n hn hx => ?_, ?_⟩
  · rw [Bw_eq m c n hn]; exact hs.lt _
  · omega
  · omega
  · rw [Nw_eq m c n hn] at hx ⊢; exact hs.neg _ hx
  · rw [Nw_eq m c n (by omega)] at hx ⊢; rw [Bw_eq m c n (by omega)]; exact hs.ne _ hx
  · rw [Bw_eq m c n (by omega), Bw_eq m c (n + 1) (by omega)] at hx
    rw [Nw_eq m c n (by omega), Nw_eq m c (n + 1) (by omega)]; exact hs.same _ _ hx
  · rw [Bw_eq m c n (by omega), Bw_eq m c (n + 1) (by omega)] at hx
    rw [Nw_eq m c n (by omega), Bw_eq m c (n + 1) (by omega)]; exact hs.new n (by omega) (by omega) hx
  · rw [Nw_eq m c _ (by omega)]; exact hs.last _ (by show ((Un m c - 1 : ℕ) : ℤ) + 1 = _; omega)

theorem tblB (i : grid0.Coords) : (tbl m).at 0 (Rect.unit (s := S288) (k0_off1 i) S1.size (k0_off1_inb i)) numel1_S1 = bT m 0 ⟨(i 0).val, (i 0).isLt⟩ := by
  have := beW_eq (F := F) 0 i (V m 0 main_arg0)
  rw [V_arg0] at this
  exact (show _ = beW (F := F) 0 i (V m 0 main_arg0) from rfl).trans (by rw [V_arg0]; exact this)
theorem tblU : (tbl m).at 1 (Rect.unit (s := S1) ![0] S1.size inb_S1_S1_0) numel1_S1 = uT m 0 := by
  have := usW_eq (F := F) 0 (V m 0 main_arg1)
  rw [V_arg1] at this
  exact (show _ = usW (F := F) 0 (V m 0 main_arg1) from rfl).trans (by rw [V_arg1]; exact this)

/-- The row of blocks the first window stages at point `i`: the point's own, or the last in use. -/
theorem minsi_val (h : PreHolds m) (i : grid0.Coords) :
    (Scalar.minsi (BitVec.ofNat 32 (i 0).val) (Scalar.subi (uT m 0) 1#32)).toNat = min (i 0).val ((uT m 0).toNat - 1) := by
  have hs := sorted_of m h 0
  have hi : (i 0).val < 288 := (i 0).isLt
  have hu := Cert.Words.toNat_of (w := uT m 0) (by have := hs.upos; omega)
  have h1 := hs.upos
  have h2 := hs.ule
  have e : Scalar.subi (uT m 0) 1#32 = BitVec.ofNat 32 ((uT m 0).toNat - 1) := by
    apply BitVec.eq_of_toNat_eq
    show (uT m 0 - 1#32).toNat = _
    rw [BitVec.toNat_sub_of_le (by show 1#32 ≤ uT m 0; rw [BitVec.le_def]; show 1 ≤ _; omega), BitVec.toNat_ofNat ((uT m 0).toNat - 1), Nat.mod_eq_of_lt (by omega)]
    exact rfl
  rw [e]
  show (IntOp.minsi _ _).toNat = _
  rw [PlanTiles.minsi_word (by omega) (by omega), BitVec.toNat_ofNat, Nat.mod_eq_of_lt (by omega)]
  omega

theorem ix0_0 (h : PreHolds m) (i : grid0.Coords) :
    cc0_transform_0 inb_S1_S1_0 numel1_S1 (tbl m) i = ![min (i 0).val ((uT m 0).toNat - 1), 0] := by
  unfold cc0_transform_0
  dsimp only
  rw [tblU, minsi_val h]; rfl
theorem ix0_1 (i : grid0.Coords) :
    cc0_transform_2 k0_off1_inb numel1_S1 (tbl m) i = ![(bT m 0 ⟨(i 0).val, (i 0).isLt⟩).toNat, 0, 0] := by
  unfold cc0_transform_2
  dsimp only
  have := tblB (m := m) i
  unfold k0_off1 at this
  dsimp only at this
  rw [this]; rfl
theorem ix0_2 (i : grid0.Coords) :
    cc0_transform_4 k0_off1_inb numel1_S1 (tbl m) i = ![(bT m 0 ⟨(i 0).val, (i 0).isLt⟩).toNat, 0, 0] := by
  unfold cc0_transform_4
  dsimp only
  have := tblB (m := m) i
  unfold k0_off1 at this
  dsimp only at this
  rw [this]; rfl

theorem ok_of (h : PreHolds m) : Ok m := by
  have hs := sorted_of m h 0
  refine ⟨fun i => ⟨?_, .inl rfl⟩, fun i => ⟨?_, .inl rfl⟩, fun i => ⟨?_, .inl rfl⟩⟩
  · rw [ix0_0 h]
    have hi : (i 0).val < 288 := (i 0).isLt
    intro a
    fin_cases a
    · show (min (i 0).val ((uT m 0).toNat - 1) + 1) * 2048 ≤ 589824; omega
    · show (0 + 1) * 128 ≤ 128; omega
  · rw [ix0_1]
    have hb := hs.lt ⟨(i 0).val, (i 0).isLt⟩
    intro a
    fin_cases a
    · show ((bT m 0 ⟨(i 0).val, (i 0).isLt⟩).toNat + 1) * 1 ≤ 32; omega
    · show (0 + 1) * 1 ≤ 1; omega
    · show (0 + 1) * 2048 ≤ 2048; omega
  · rw [ix0_2]
    have hb := hs.lt ⟨(i 0).val, (i 0).isLt⟩
    intro a
    fin_cases a
    · show ((bT m 0 ⟨(i 0).val, (i 0).isLt⟩).toNat + 1) * 1 ≤ 32; omega
    · show (0 + 1) * 1 ≤ 1; omega
    · show (0 + 1) * 1024 ≤ 1024; omega

/-- The program runs: the call's output is what its data say, the arguments end as they began, and every counter reads zero. -/
theorem run_args (ρ : Dev nD → PrngReg) (h : PreHolds m) : θ_run defs (onTc (τ := τ) (main (F := F))) ⟨m, fun _ => 0, ρ⟩ (fun r => (∀ c : Dev nD,
    r.2.mem (((spec0 3).arr.view.loc (c.tc : Thread nD τ))) = (dats m (ok_of h) 0 c).arrAt 3 grid0.N
    ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)))
    ∧ r.2.sem = fun _ => 0) := by
  refine (θ_run _ _ _).mono (fun r hr => ⟨fun c => ?_, hr.2⟩) (run_main m ρ (ok_of h) (tab_ok h))
  have hc := hr.1 c
  refine ⟨hc.1 3, ?_, ?_, ?_, ?_, ?_, ?_, ?_⟩
  · exact (hc.2 main_arg0 (Pipeline.mem_restRefs_of main_arg0 (by decide) (by decide : ∀ w, (spec0 w).arr.view.ref ≠ main_arg0))).trans (V_arg0 m c)
  · exact (hc.2 main_arg1 (Pipeline.mem_restRefs_of main_arg1 (by decide) (by decide : ∀ w, (spec0 w).arr.view.ref ≠ main_arg1))).trans (V_arg1 m c)
  · exact ((hc.1 0).trans ((dats m (ok_of h) 0 c).arrAt_in 0 rfl _)).trans ((A_eq m (ok_of h) c 0).trans (V_arg2 m c))
  · exact (hc.2 main_arg3 (Pipeline.mem_restRefs_of main_arg3 (by decide) (by decide : ∀ w, (spec0 w).arr.view.ref ≠ main_arg3))).trans (V_arg3 m c)
  · exact (hc.2 main_arg4 (Pipeline.mem_restRefs_of main_arg4 (by decide) (by decide : ∀ w, (spec0 w).arr.view.ref ≠ main_arg4))).trans (V_arg4 m c)
  · exact (hc.2 main_arg5 (Pipeline.mem_restRefs_of main_arg5 (by decide) (by decide : ∀ w, (spec0 w).arr.view.ref ≠ main_arg5))).trans (V_arg5 m c)
  · exact (hc.2 main_arg6 (Pipeline.mem_restRefs_of main_arg6 (by decide) (by decide : ∀ w, (spec0 w).arr.view.ref ≠ main_arg6))).trans (V_arg6 m c)
end Precondition

end Cert.KernelIdeal.Hand

end
-- ==== Proof.Spec.lean ====
/- The feed-forward of one row through one expert, in plain numbers: what both programs compute. -/
module

public import Idealize.ShloMosaic.PureOps.Ideal
public import Idealize.ShloMosaic.Lib.Pointwise
public import Idealize.ShloMosaic.Lib.IdealHost
public import Idealize.ShloMosaic.Lib.ValueIdx

@[expose] public section

noncomputable section

namespace Cert.Spec

open Idealize.ShloMosaic

/-- The first product of the row with its bias: 2048 numbers, the gate's half first, then the linear half. -/
def pre (x : Fin 1024 → EReal) (W : Fin 1024 → Fin 2048 → EReal) (bg : Fin 2048 → EReal) (n : Fin 2048) : EReal :=
  (∑ k : Fin 1024, x k * W k n) + bg n

/-- The gate's clip: at most 7. -/
def gate (z : EReal) : EReal := min z (Ideal.ofBits .f32 0x40E00000#32)

/-- The linear half's clip: between −7 and 7. -/
def lin (z : EReal) : EReal := min (Ideal.ofBits .f32 0x40E00000#32) (max (Ideal.ofBits .f32 0xC0E00000#32) z)

/-- The clipped gate times its sigmoid at slope 1.702, times the clipped linear half plus one. -/
def act (x : Fin 1024 → EReal) (W : Fin 1024 → Fin 2048 → EReal) (bg : Fin 2048 → EReal) (j : Fin 1024) : EReal :=
  gate (pre x W bg ⟨j.val, by omega⟩)
    * Ideal.logistic (Ideal.ofBits .f32 0x3FD9DB23#32 * gate (pre x W bg ⟨j.val, by omega⟩))
    * (lin (pre x W bg ⟨1024 + j.val, by omega⟩) + 1)

/-- The second product with its bias. -/
def ffn (x : Fin 1024 → EReal) (W : Fin 1024 → Fin 2048 → EReal) (bg : Fin 2048 → EReal)
    (D : Fin 1024 → Fin 1024 → EReal) (bd : Fin 1024 → EReal) (n : Fin 1024) : EReal :=
  (∑ j : Fin 1024, act x W bg j * D j n) + bd n

end Cert.Spec

end
-- ==== Proof.Ideal.Pay.lean ====
/- What the body's arithmetic leaves at one element of its block, in the plain numbers of `Cert.Spec`. -/
module

public import proofs.«01_k».proof.Proof.Ideal.Base
public import proofs.«01_k».proof.Proof.Spec
public import Idealize.ShloMosaic.Lib.Tactic

@[expose] public section

set_option maxRecDepth 16384

noncomputable section

namespace Cert.KernelIdeal.Hand

open Cert.KernelIdeal Cert.KernelIdeal.Gen Cert.Spec
open Idealize.ShloMosaic Idealize.ShloMosaic.TcCoe

/-- The eight pieces side by side. -/
def catV (v17 v18 v19 v20 v21 v22 v23 v24 : FVec Ideal S256x128 .f32) : FVec Ideal S256x1024 .f32 :=
  concatenate S256x1024 1 [⟨S256x128, v17⟩, ⟨S256x128, v18⟩, ⟨S256x128, v19⟩, ⟨S256x128, v20⟩, ⟨S256x128, v21⟩, ⟨S256x128, v22⟩, ⟨S256x128, v23⟩, ⟨S256x128, v24⟩] concatenates_S256x128_S256x128_S256x128_S256x128_S256x128_S256x128_S256x128_S256x128_S256x1024_d1

theorem pay4_apply (v17 v18 v19 v20 v21 v22 v23 v24 : FVec Ideal S256x128 .f32) (v27 : FVec Ideal S1024x2048 .bf16) (v29 : FVec Ideal S1x1x2048 .f32)
    (r : Fin 256) (n : Fin 2048) :
    k0_pay4 (F := Ideal) v17 v18 v19 v20 v21 v22 v23 v24 v27 v29 (ix2 r n)
      = pre (fun k => catV v17 v18 v19 v20 v21 v22 v23 v24 (ix2 r k)) (fun k n => v27 (ix2 k n)) (fun n => v29 (ix3 0 0 n)) n := by
  unfold k0_pay4 pre
  change addf (matmul dot_S256x1024_S1024x2048_S256x2048_1_0_0_1_n_n none (truncf .bf16 (catV v17 v18 v19 v20 v21 v22 v23 v24) bitsLt_bf16_f32) v27 (constant S256x2048 .f32 0x00000000#32)) (broadcastTo S256x2048 (shapeCast S1x2048 v29 shapeCasts_S1x1x2048_S1x2048) broadcasts_S1x2048_S256x2048) (ix2 r n) = _
  generalize catV v17 v18 v19 v20 v21 v22 v23 v24 = X
  pointwise

theorem pay8_apply (v35 v40 v42 : FVec Ideal S256x1024 .f32) (v49 : FVec Ideal S1024x1024 .bf16) (v51 : FVec Ideal S1x1x1024 .f32)
    (r : Fin 256) (n : Fin 1024) :
    k0_pay8 (F := Ideal) v35 v40 v42 v49 v51 (ix2 r n)
      = (∑ j : Fin 1024, (v35 (ix2 r j) * Ideal.logistic (v42 (ix2 r j)) * (v40 (ix2 r j) + 1)) * v49 (ix2 j n)) + v51 (ix3 0 0 n) := by
  unfold k0_pay8
  pointwise

theorem pay5_apply (v17 v18 v19 v20 v21 v22 v23 v24 : FVec Ideal S256x128 .f32) (v27 : FVec Ideal S1024x2048 .bf16) (v29 : FVec Ideal S1x1x2048 .f32)
    (r : Fin 256) (j : Fin 1024) :
    k0_pay5 (F := Ideal) v17 v18 v19 v20 v21 v22 v23 v24 v27 v29 (ix2 r j)
      = gate (k0_pay4 (F := Ideal) v17 v18 v19 v20 v21 v22 v23 v24 v27 v29 (ix2 r ⟨j.val, by omega⟩)) := by
  unfold k0_pay5 gate
  generalize k0_pay4 (F := Ideal) v17 v18 v19 v20 v21 v22 v23 v24 v27 v29 = X
  pointwise

theorem pay6_apply (v17 v18 v19 v20 v21 v22 v23 v24 : FVec Ideal S256x128 .f32) (v27 : FVec Ideal S1024x2048 .bf16) (v29 : FVec Ideal S1x1x2048 .f32)
    (r : Fin 256) (j : Fin 1024) :
    k0_pay6 (F := Ideal) v17 v18 v19 v20 v21 v22 v23 v24 v27 v29 (ix2 r j)
      = lin (k0_pay4 (F := Ideal) v17 v18 v19 v20 v21 v22 v23 v24 v27 v29 (ix2 r ⟨1024 + j.val, by omega⟩)) := by
  unfold k0_pay6 lin
  generalize k0_pay4 (F := Ideal) v17 v18 v19 v20 v21 v22 v23 v24 v27 v29 = X
  pointwise

theorem pay7_apply (v17 v18 v19 v20 v21 v22 v23 v24 : FVec Ideal S256x128 .f32) (v27 : FVec Ideal S1024x2048 .bf16) (v29 : FVec Ideal S1x1x2048 .f32)
    (r : Fin 256) (j : Fin 1024) :
    k0_pay7 (F := Ideal) v17 v18 v19 v20 v21 v22 v23 v24 v27 v29 (ix2 r j)
      = Ideal.ofBits .f32 0x3FD9DB23#32 * k0_pay5 (F := Ideal) v17 v18 v19 v20 v21 v22 v23 v24 v27 v29 (ix2 r j) := by
  unfold k0_pay7
  generalize k0_pay5 (F := Ideal) v17 v18 v19 v20 v21 v22 v23 v24 v27 v29 = X
  pointwise

theorem ffn_apply (v17 v18 v19 v20 v21 v22 v23 v24 : FVec Ideal S256x128 .f32) (v27 : FVec Ideal S1024x2048 .bf16) (v29 : FVec Ideal S1x1x2048 .f32)
    (v49 : FVec Ideal S1024x1024 .bf16) (v51 : FVec Ideal S1x1x1024 .f32) (r : Fin 256) (n : Fin 1024) :
    k0_pay8 (F := Ideal) (k0_pay5 v17 v18 v19 v20 v21 v22 v23 v24 v27 v29) (k0_pay6 v17 v18 v19 v20 v21 v22 v23 v24 v27 v29) (k0_pay7 v17 v18 v19 v20 v21 v22 v23 v24 v27 v29) v49 v51 (ix2 r n)
      = ffn (fun k => catV v17 v18 v19 v20 v21 v22 v23 v24 (ix2 r k)) (fun k n => v27 (ix2 k n)) (fun n => v29 (ix3 0 0 n))
          (fun j n => v49 (ix2 j n)) (fun n => v51 (ix3 0 0 n)) n := by
  rw [pay8_apply]
  unfold ffn act
  simp only [pay5_apply, pay6_apply, pay7_apply, pay4_apply]

theorem catV_apply (X4 : FVec Ideal S2048x128 .f32) (v : Fin 8 → FVec Ideal S256x128 .f32)
    (hv : ∀ s r q, v s (ix2 r q) = X4 (ix2 ⟨r.val * 8 + s.val, by omega⟩ q)) (r : Fin 256) (k : Fin 1024) :
    catV (v 0) (v 1) (v 2) (v 3) (v 4) (v 5) (v 6) (v 7) (ix2 r k) = X4 (ix2 ⟨r.val * 8 + k.val / 128, by omega⟩ ⟨k.val % 128, by omega⟩) := by
  have h : catV (v 0) (v 1) (v 2) (v 3) (v 4) (v 5) (v 6) (v 7) (ix2 r k) = v ⟨k.val / 128, by omega⟩ (ix2 r ⟨k.val % 128, by omega⟩) := by
    have hk : k.val / 128 < 8 := by omega
    unfold catV
    have hf : ∀ s : Fin 8, k.val / 128 = s.val → (⟨k.val / 128, hk⟩ : Fin 8) = s := fun s hs => Fin.ext hs
    have hs : ∀ (s : Fin 8) (z z' : Fin 128), z.val = z'.val → v s (ix2 r z) = v s (ix2 r z') := fun s z z' hz => by rw [Fin.ext hz]
    rcases (by omega : k.val / 128 = 0 ∨ k.val / 128 = 1 ∨ k.val / 128 = 2 ∨ k.val / 128 = 3 ∨ k.val / 128 = 4 ∨ k.val / 128 = 5 ∨ k.val / 128 = 6 ∨ k.val / 128 = 7) with h | h | h | h | h | h | h | h
    · rw [hf 0 h]
      pointwise
      rw [dif_pos (by omega)]
      exact hs _ _ _ (by show _ = k.val % 128; simp only []; omega)
    · rw [hf 1 h]
      pointwise
      rw [dif_neg (by omega), dif_pos (by omega)]
      exact hs _ _ _ (by show _ = k.val % 128; simp only []; omega)
    · rw [hf 2 h]
      pointwise
      rw [dif_neg (by omega), dif_neg (by omega), dif_pos (by omega)]
      exact hs _ _ _ (by show _ = k.val % 128; simp only []; omega)
    · rw [hf 3 h]
      pointwise
      rw [dif_neg (by omega), dif_neg (by omega), dif_neg (by omega), dif_pos (by omega)]
      exact hs _ _ _ (by show _ = k.val % 128; simp only []; omega)
    · rw [hf 4 h]
      pointwise
      rw [dif_neg (by omega), dif_neg (by omega), dif_neg (by omega), dif_neg (by omega), dif_pos (by omega)]
      exact hs _ _ _ (by show _ = k.val % 128; simp only []; omega)
    · rw [hf 5 h]
      pointwise
      rw [dif_neg (by omega), dif_neg (by omega), dif_neg (by omega), dif_neg (by omega), dif_neg (by omega), dif_pos (by omega)]
      exact hs _ _ _ (by show _ = k.val % 128; simp only []; omega)
    · rw [hf 6 h]
      pointwise
      rw [dif_neg (by omega), dif_neg (by omega), dif_neg (by omega), dif_neg (by omega), dif_neg (by omega), dif_neg (by omega), dif_pos (by omega)]
      exact hs _ _ _ (by show _ = k.val % 128; simp only []; omega)
    · rw [hf 7 h]
      pointwise
      rw [dif_neg (by omega), dif_neg (by omega), dif_neg (by omega), dif_neg (by omega), dif_neg (by omega), dif_neg (by omega), dif_neg (by omega)]
      exact hs _ _ _ (by show _ = k.val % 128; simp only []; omega)
  rw [h, hv]

end Cert.KernelIdeal.Hand

end
-- ==== Proof.Ideal.Out.lean ====
/- One block of the result, element by element. -/
module

public import proofs.«01_k».proof.Proof.Ideal.Pay
public import Idealize.ShloMosaic.Lib.Pipeline.ValueKit.Tiles

@[expose] public section

set_option maxRecDepth 16384

noncomputable section

namespace Cert.KernelIdeal.Hand

open Cert.KernelIdeal Cert.KernelIdeal.Gen Cert.Spec
open Idealize.ShloMosaic Idealize.ShloMosaic.TcCoe

variable (X4 : FVec Ideal S2048x128 .f32) (X6 : FVec Ideal S1x1x2048 .f32) (X8 : FVec Ideal S1x1x1024 .f32)
  (BG : FVec Ideal S1024x2048 .bf16) (BD : FVec Ideal S1024x1024 .bf16)

/-- Every eighth row of the block, from each of its first eight. -/
def piece (X4 : FVec Ideal S2048x128 .f32) : Fin 8 → FVec Ideal S256x128 .f32 :=
  ![(fun y => X4 ((⟨![0, 0], S256x128.size, ![8, 1], inb_S2048x128_S256x128_0_0_s_8_1⟩ : LoadRect S2048x128).idx y)),
    (fun y => X4 ((⟨![1, 0], S256x128.size, ![8, 1], inb_S2048x128_S256x128_1_0_s_8_1⟩ : LoadRect S2048x128).idx y)),
    (fun y => X4 ((⟨![2, 0], S256x128.size, ![8, 1], inb_S2048x128_S256x128_2_0_s_8_1⟩ : LoadRect S2048x128).idx y)),
    (fun y => X4 ((⟨![3, 0], S256x128.size, ![8, 1], inb_S2048x128_S256x128_3_0_s_8_1⟩ : LoadRect S2048x128).idx y)),
    (fun y => X4 ((⟨![4, 0], S256x128.size, ![8, 1], inb_S2048x128_S256x128_4_0_s_8_1⟩ : LoadRect S2048x128).idx y)),
    (fun y => X4 ((⟨![5, 0], S256x128.size, ![8, 1], inb_S2048x128_S256x128_5_0_s_8_1⟩ : LoadRect S2048x128).idx y)),
    (fun y => X4 ((⟨![6, 0], S256x128.size, ![8, 1], inb_S2048x128_S256x128_6_0_s_8_1⟩ : LoadRect S2048x128).idx y)),
    (fun y => X4 ((⟨![7, 0], S256x128.size, ![8, 1], inb_S2048x128_S256x128_7_0_s_8_1⟩ : LoadRect S2048x128).idx y))]

theorem piece_apply (s : Fin 8) (r : Fin 256) (q : Fin 128) : piece X4 s (ix2 r q) = X4 (ix2 ⟨r.val * 8 + s.val, by omega⟩ q) := by
  have key : ∀ (k : ℕ) (hk : k < 8) (R : LoadRect S2048x128) (y : R.shape.Idx), R.off = ![k, 0] → R.stride = ![8, 1] →
      (∀ h, (y ⟨0, h⟩).val = r.val) → (∀ h, (y ⟨1, h⟩).val = q.val) → R.idx y = ix2 ⟨r.val * 8 + k, by omega⟩ q := by
    intro k hk R y ho hs h0 h1
    funext a
    apply Fin.ext
    rw [LoadRect.idx_apply, ho, hs]
    fin_cases a
    · show k + 8 * (y ⟨0, _⟩).val = r.val * 8 + k
      rw [h0]; omega
    · show 0 + 1 * (y ⟨1, _⟩).val = q.val
      rw [h1]; omega
  fin_cases s
  · exact congrArg X4 (key 0 (by decide) _ _ rfl rfl (fun _ => rfl) (fun _ => rfl))
  · exact congrArg X4 (key 1 (by decide) _ _ rfl rfl (fun _ => rfl) (fun _ => rfl))
  · exact congrArg X4 (key 2 (by decide) _ _ rfl rfl (fun _ => rfl) (fun _ => rfl))
  · exact congrArg X4 (key 3 (by decide) _ _ rfl rfl (fun _ => rfl) (fun _ => rfl))
  · exact congrArg X4 (key 4 (by decide) _ _ rfl rfl (fun _ => rfl) (fun _ => rfl))
  · exact congrArg X4 (key 5 (by decide) _ _ rfl rfl (fun _ => rfl) (fun _ => rfl))
  · exact congrArg X4 (key 6 (by decide) _ _ rfl rfl (fun _ => rfl) (fun _ => rfl))
  · exact congrArg X4 (key 7 (by decide) _ _ rfl rfl (fun _ => rfl) (fun _ => rfl))

/-- The second product with its bias, for the block's row r. -/
theorem core (r : Fin 256) (n : Fin 1024) :
    k0_pay8 (F := Ideal) (k0_pay5 (piece X4 0) (piece X4 1) (piece X4 2) (piece X4 3) (piece X4 4) (piece X4 5) (piece X4 6) (piece X4 7) BG X6) (k0_pay6 (piece X4 0) (piece X4 1) (piece X4 2) (piece X4 3) (piece X4 4) (piece X4 5) (piece X4 6) (piece X4 7) BG X6) (k0_pay7 (piece X4 0) (piece X4 1) (piece X4 2) (piece X4 3) (piece X4 4) (piece X4 5) (piece X4 6) (piece X4 7) BG X6) BD X8 (ix2 r n)
      = ffn (fun k => X4 (ix2 ⟨r.val * 8 + k.val / 128, by omega⟩ ⟨k.val % 128, by omega⟩)) (fun k n => BG (ix2 k n)) (fun n => X6 (ix3 0 0 n))
          (fun j n => BD (ix2 j n)) (fun n => X8 (ix3 0 0 n)) n := by
  rw [ffn_apply]
  congr 1
  funext k
  exact catV_apply X4 (piece X4) (piece_apply X4) r k

theorem slice_0 (v35 v40 v42 : FVec Ideal S256x1024 .f32) (v49 : FVec Ideal S1024x1024 .bf16) (v51 : FVec Ideal S1x1x1024 .f32) (r : Fin 256) (q : Fin 128) :
    k0_pay9 (F := Ideal) v35 v40 v42 v49 v51 (ix2 r q) = k0_pay8 (F := Ideal) v35 v40 v42 v49 v51 (ix2 r ⟨0 * 128 + q.val, by omega⟩) := by
  unfold k0_pay9
  generalize k0_pay8 (F := Ideal) v35 v40 v42 v49 v51 = X
  pointwise

theorem slice_1 (v35 v40 v42 : FVec Ideal S256x1024 .f32) (v49 : FVec Ideal S1024x1024 .bf16) (v51 : FVec Ideal S1x1x1024 .f32) (r : Fin 256) (q : Fin 128) :
    k0_pay10 (F := Ideal) v35 v40 v42 v49 v51 (ix2 r q) = k0_pay8 (F := Ideal) v35 v40 v42 v49 v51 (ix2 r ⟨1 * 128 + q.val, by omega⟩) := by
  unfold k0_pay10
  generalize k0_pay8 (F := Ideal) v35 v40 v42 v49 v51 = X
  pointwise

theorem slice_2 (v35 v40 v42 : FVec Ideal S256x1024 .f32) (v49 : FVec Ideal S1024x1024 .bf16) (v51 : FVec Ideal S1x1x1024 .f32) (r : Fin 256) (q : Fin 128) :
    k0_pay11 (F := Ideal) v35 v40 v42 v49 v51 (ix2 r q) = k0_pay8 (F := Ideal) v35 v40 v42 v49 v51 (ix2 r ⟨2 * 128 + q.val, by omega⟩) := by
  unfold k0_pay11
  generalize k0_pay8 (F := Ideal) v35 v40 v42 v49 v51 = X
  pointwise

theorem slice_3 (v35 v40 v42 : FVec Ideal S256x1024 .f32) (v49 : FVec Ideal S1024x1024 .bf16) (v51 : FVec Ideal S1x1x1024 .f32) (r : Fin 256) (q : Fin 128) :
    k0_pay12 (F := Ideal) v35 v40 v42 v49 v51 (ix2 r q) = k0_pay8 (F := Ideal) v35 v40 v42 v49 v51 (ix2 r ⟨3 * 128 + q.val, by omega⟩) := by
  unfold k0_pay12
  generalize k0_pay8 (F := Ideal) v35 v40 v42 v49 v51 = X
  pointwise

theorem slice_4 (v35 v40 v42 : FVec Ideal S256x1024 .f32) (v49 : FVec Ideal S1024x1024 .bf16) (v51 : FVec Ideal S1x1x1024 .f32) (r : Fin 256) (q : Fin 128) :
    k0_pay13 (F := Ideal) v35 v40 v42 v49 v51 (ix2 r q) = k0_pay8 (F := Ideal) v35 v40 v42 v49 v51 (ix2 r ⟨4 * 128 + q.val, by omega⟩) := by
  unfold k0_pay13
  generalize k0_pay8 (F := Ideal) v35 v40 v42 v49 v51 = X
  pointwise

theorem slice_5 (v35 v40 v42 : FVec Ideal S256x1024 .f32) (v49 : FVec Ideal S1024x1024 .bf16) (v51 : FVec Ideal S1x1x1024 .f32) (r : Fin 256) (q : Fin 128) :
    k0_pay14 (F := Ideal) v35 v40 v42 v49 v51 (ix2 r q) = k0_pay8 (F := Ideal) v35 v40 v42 v49 v51 (ix2 r ⟨5 * 128 + q.val, by omega⟩) := by
  unfold k0_pay14
  generalize k0_pay8 (F := Ideal) v35 v40 v42 v49 v51 = X
  pointwise

theorem slice_6 (v35 v40 v42 : FVec Ideal S256x1024 .f32) (v49 : FVec Ideal S1024x1024 .bf16) (v51 : FVec Ideal S1x1x1024 .f32) (r : Fin 256) (q : Fin 128) :
    k0_pay15 (F := Ideal) v35 v40 v42 v49 v51 (ix2 r q) = k0_pay8 (F := Ideal) v35 v40 v42 v49 v51 (ix2 r ⟨6 * 128 + q.val, by omega⟩) := by
  unfold k0_pay15
  generalize k0_pay8 (F := Ideal) v35 v40 v42 v49 v51 = X
  pointwise

theorem slice_7 (v35 v40 v42 : FVec Ideal S256x1024 .f32) (v49 : FVec Ideal S1024x1024 .bf16) (v51 : FVec Ideal S1x1x1024 .f32) (r : Fin 256) (q : Fin 128) :
    k0_pay16 (F := Ideal) v35 v40 v42 v49 v51 (ix2 r q) = k0_pay8 (F := Ideal) v35 v40 v42 v49 v51 (ix2 r ⟨7 * 128 + q.val, by omega⟩) := by
  unfold k0_pay16
  generalize k0_pay8 (F := Ideal) v35 v40 v42 v49 v51 = X
  pointwise

theorem outV_apply (p : Fin 2048) (q : Fin 128) :
    outV (F := Ideal) X4 X6 X8 BG BD (ix2 p q)
      = ffn (fun k => X4 (ix2 ⟨p.val / 8 * 8 + k.val / 128, by omega⟩ ⟨k.val % 128, by omega⟩)) (fun k n => BG (ix2 k n)) (fun n => X6 (ix3 0 0 n))
          (fun j n => BD (ix2 j n)) (fun n => X8 (ix3 0 0 n)) ⟨p.val % 8 * 128 + q.val, by omega⟩ := by
  have key : ∀ (k : ℕ) (hk : k < 8) (r : Rect S2048x128) (ho : r.off = ![k, 0]) (hs : r.stride = ![8, 1]) (hz : r.size = S256x128.size) (x : r.shape.Idx),
      r.emb x = ix2 p q → p.val % 8 = k ∧ (∀ h, (x ⟨0, h⟩).val = p.val / 8) ∧ (∀ h, (x ⟨1, h⟩).val = q.val) := by
    intro k hk r ho hs hz x hx
    have e0 : k + 8 * (x ⟨0, show 0 < 2 by decide⟩).val = p.val := by
      have := congrArg (fun i : S2048x128.Idx => (i 0).val) hx
      dsimp only at this
      rw [Rect.emb_apply, ho, hs] at this
      exact this
    have e1 : 0 + 1 * (x ⟨1, show 1 < 2 by decide⟩).val = q.val := by
      have := congrArg (fun i : S2048x128.Idx => (i 1).val) hx
      dsimp only at this
      rw [Rect.emb_apply, ho, hs] at this
      exact this
    exact ⟨by omega, fun _ => by omega, fun _ => by omega⟩
  have fin : ∀ (k : ℕ) (hk : k < 8) (W : FVec Ideal S256x128 .f32)
      (hW : ∀ (r : Fin 256) (q : Fin 128), W (ix2 r q) = ffn (fun k => X4 (ix2 ⟨r.val * 8 + k.val / 128, by omega⟩ ⟨k.val % 128, by omega⟩)) (fun k n => BG (ix2 k n)) (fun n => X6 (ix3 0 0 n))
          (fun j n => BD (ix2 j n)) (fun n => X8 (ix3 0 0 n)) ⟨k * 128 + q.val, by omega⟩)
      (x : S256x128.Idx), p.val % 8 = k → (x 0).val = p.val / 8 → (x 1).val = q.val →
      W x = ffn (fun k => X4 (ix2 ⟨p.val / 8 * 8 + k.val / 128, by omega⟩ ⟨k.val % 128, by omega⟩)) (fun k n => BG (ix2 k n)) (fun n => X6 (ix3 0 0 n))
          (fun j n => BD (ix2 j n)) (fun n => X8 (ix3 0 0 n)) ⟨p.val % 8 * 128 + q.val, by omega⟩ := by
    intro k hk W hW x hp h0 h1
    have hx : x = ix2 ⟨p.val / 8, by omega⟩ q := by
      funext a; apply Fin.ext
      fin_cases a
      · exact h0
      · exact h1
    subst hp
    rw [hx, hW]
  unfold outV
  refine View.canon_eq_of_allAt _ _ _ (outL_cover ..) ?_
  unfold outL
  refine View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_nil _ _))))))))
  · intro x hx
    obtain ⟨a, b, c⟩ := key 7 (by decide) _ rfl rfl rfl x hx
    exact fin 7 (by decide) _ (fun r q => (slice_7 _ _ _ _ _ r q).trans (core X4 X6 X8 BG BD r _)) x a (b _) (c _)
  · intro x hx
    obtain ⟨a, b, c⟩ := key 6 (by decide) _ rfl rfl rfl x hx
    exact fin 6 (by decide) _ (fun r q => (slice_6 _ _ _ _ _ r q).trans (core X4 X6 X8 BG BD r _)) x a (b _) (c _)
  · intro x hx
    obtain ⟨a, b, c⟩ := key 5 (by decide) _ rfl rfl rfl x hx
    exact fin 5 (by decide) _ (fun r q => (slice_5 _ _ _ _ _ r q).trans (core X4 X6 X8 BG BD r _)) x a (b _) (c _)
  · intro x hx
    obtain ⟨a, b, c⟩ := key 4 (by decide) _ rfl rfl rfl x hx
    exact fin 4 (by decide) _ (fun r q => (slice_4 _ _ _ _ _ r q).trans (core X4 X6 X8 BG BD r _)) x a (b _) (c _)
  · intro x hx
    obtain ⟨a, b, c⟩ := key 3 (by decide) _ rfl rfl rfl x hx
    exact fin 3 (by decide) _ (fun r q => (slice_3 _ _ _ _ _ r q).trans (core X4 X6 X8 BG BD r _)) x a (b _) (c _)
  · intro x hx
    obtain ⟨a, b, c⟩ := key 2 (by decide) _ rfl rfl rfl x hx
    exact fin 2 (by decide) _ (fun r q => (slice_2 _ _ _ _ _ r q).trans (core X4 X6 X8 BG BD r _)) x a (b _) (c _)
  · intro x hx
    obtain ⟨a, b, c⟩ := key 1 (by decide) _ rfl rfl rfl x hx
    exact fin 1 (by decide) _ (fun r q => (slice_1 _ _ _ _ _ r q).trans (core X4 X6 X8 BG BD r _)) x a (b _) (c _)
  · intro x hx
    obtain ⟨a, b, c⟩ := key 0 (by decide) _ rfl rfl rfl x hx
    exact fin 0 (by decide) _ (fun r q => (slice_0 _ _ _ _ _ r q).trans (core X4 X6 X8 BG BD r _)) x a (b _) (c _)

end Cert.KernelIdeal.Hand

end
-- ==== Proof.Ref.lean ====
/- The reference, read at an index: block b's row r through the expert the block names, in the plain numbers of `Cert.Spec`. -/
module

public import proofs.«01_k».proof.Proof.Gen.ReferenceIdeal.Run
public import proofs.«01_k».proof.Proof.Spec
public import Idealize.ShloMosaic.Lib.Tactic

@[expose] public section

set_option maxRecDepth 16384

noncomputable section

namespace Cert.ReferenceIdeal.Hand

open Cert.ReferenceIdeal Cert.ReferenceIdeal.Gen Cert.Spec
open Idealize.ShloMosaic Idealize.ShloMosaic.TcCoe

section Rows
variable {α : Type}

/-- The dimension numbers of whole matrices taken from a stack, one per entry of a column of positions. -/
abbrev dims3 (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- … of whole rows taken from a matrix. -/
abbrev dims2 (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Matrix b of the result is the stack's matrix at b's position, read signed and held to the stack. -/
theorem gather3 {N R C B w : Nat} (hN : 0 < N)
    (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ w) (b : Fin B) (k : Fin R) (n : Fin C) :
    Host.gather (dims3 N R C B wf) x idx (ix3 b k n)
      = x (ix3 ⟨min (idx (ix2 b 0)).toInt.toNat (N - 1), by omega⟩ k n) := by
  unfold Host.gather
  congr 1
  funext a
  refine Fin.ext ?_
  show (dims3 N R C B wf).start (ix3 b k n) idx a + (dims3 N R C B wf).batchCoord (ix3 b k n) a
      + (dims3 N R C B wf).offCoord (ix3 b k n) a = _
  rw [GatherDims.batchCoord_eq_zero _ _ _ List.not_mem_nil, Nat.add_zero]
  have h01 : a = 0 ∨ a = 1 ∨ a = 2 := by
    match a with
    | ⟨0, _⟩ => exact .inl rfl
    | ⟨1, _⟩ => exact .inr (.inl rfl)
    | ⟨2, _⟩ => exact .inr (.inr rfl)
  rcases h01 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (dims3 N R C B wf).startIndexMap from List.mem_singleton.mpr rfl)]
    have hsi : (dims3 N R C B wf).siIdx (ix3 b k n) ⟨List.idxOf (0 : Fin 3) (dims3 N R C B wf).startIndexMap,
        List.idxOf_lt_length_iff.2 (List.mem_singleton.mpr rfl)⟩ = ix2 b 0 := by
      funext b; refine Fin.ext ?_
      match b with
      | ⟨0, _⟩ => rfl
      | ⟨1, _⟩ => rfl
    exact congrArg (fun i => min (idx i).toInt.toNat (N - 1)) hsi
  · unfold GatherDims.start
    rw [dif_neg (show (1 : Fin 3) ∉ (dims3 N R C B wf).startIndexMap from fun h => absurd (List.mem_singleton.mp h) (show (1 : Fin 3) ≠ 0 by decide)), Nat.zero_add]
    rfl
  · unfold GatherDims.start
    rw [dif_neg (show (2 : Fin 3) ∉ (dims3 N R C B wf).startIndexMap from fun h => absurd (List.mem_singleton.mp h) (show (2 : Fin 3) ≠ 0 by decide)), Nat.zero_add]
    rfl

/-- Row b of the result is the matrix's row at b's position, read signed and held to the matrix. -/
theorem gather2 {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (n : Fin C) :
    Host.gather (dims2 N C B wf) x idx (ix2 b n)
      = x (ix2 ⟨min (idx (ix2 b 0)).toInt.toNat (N - 1), by omega⟩ n) := by
  unfold Host.gather
  congr 1
  funext a
  refine Fin.ext ?_
  show (dims2 N C B wf).start (ix2 b n) idx a + (dims2 N C B wf).batchCoord (ix2 b n) a
      + (dims2 N C B wf).offCoord (ix2 b n) a = _
  rw [GatherDims.batchCoord_eq_zero _ _ _ List.not_mem_nil, Nat.add_zero]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (dims2 N C B wf).startIndexMap from List.mem_singleton.mpr rfl)]
    have hsi : (dims2 N C B wf).siIdx (ix2 b n) ⟨List.idxOf (0 : Fin 2) (dims2 N C B wf).startIndexMap,
        List.idxOf_lt_length_iff.2 (List.mem_singleton.mpr rfl)⟩ = ix2 b 0 := by
      funext b; refine Fin.ext ?_
      match b with
      | ⟨0, _⟩ => rfl
      | ⟨1, _⟩ => rfl
    exact congrArg (fun i => min (idx i).toInt.toNat (N - 1)) hsi
  · unfold GatherDims.start
    rw [dif_neg (show (1 : Fin 2) ∉ (dims2 N C B wf).startIndexMap from fun h => absurd (List.mem_singleton.mp h) (show (1 : Fin 2) ≠ 0 by decide)), Nat.zero_add]
    rfl

end Rows

/-- The expert of block b: its position read signed and held to the 32 experts. -/
def eAt (a0 : IVec S288 32) (b : Fin 288) : Fin 32 := ⟨min (a0 (ix1 b)).toInt.toNat (32 - 1), by omega⟩

/-- The positions as a column. -/
def col (a0 : IVec S288 32) : IVec S288x1 32 := broadcastInDim S288x1 ![0] bcast_S288_S288x1_0 a0

theorem col_apply (a0 : IVec S288 32) (b : Fin 288) : col a0 (ix2 b 0) = a0 (ix1 b) := by
  unfold col
  pointwise

/-- The first product with its bias. -/
def r6 (a0 : IVec S288 32) (a2 : FVec Ideal S589824x128 .f32) (a3 : FVec Ideal S32x1024x2048 .f32) (a4 : FVec Ideal S32x2048 .f32) : FVec Ideal S288x256x2048 .f32 :=
  addf (Host.dotGeneral dot_S288x256x1024_S288x1024x2048_S288x256x2048_2_1_1_2_0_0 none (shapeCast _ a2 shapeCasts_S589824x128_S288x256x1024) (Host.gather gather_S32x1024x2048_S288x1_S288x1024x2048_12_0_n_n_0_1_110242048 a3 (col a0))) (broadcastInDim S288x256x2048 ![0, 1, 2] bcast_S288x1x2048_S288x256x2048_0_1_2 (broadcastInDim S288x1x2048 ![0, 2] bcast_S288x2048_S288x1x2048_0_2 (Host.gather gather_S32x2048_S288x1_S288x2048_1_0_n_n_0_1_12048 a4 (col a0))))

/-- The activation. -/
def r23 (v6 : FVec Ideal S288x256x2048 .f32) : FVec Ideal S288x256x1024 .f32 :=
  mulf (mulf (minimumf (extractStridedSlice S288x256x1024 ![0, 0, 0] v6 slices_S288x256x2048_S288x256x1024_0_0_0) (broadcastInDim S288x256x1024 ![] bcast_S_S288x256x1024 (constant S_ .f32 0x40E00000#32))) (Host.divf (broadcastInDim S288x256x1024 ![] bcast_S_S288x256x1024 (constant S_ .f32 0x3F800000#32)) (addf (broadcastInDim S288x256x1024 ![] bcast_S_S288x256x1024 (constant S_ .f32 0x3F800000#32)) (Host.exp (Host.negf (mulf (broadcastInDim S288x256x1024 ![] bcast_S_S288x256x1024 (constant S_ .f32 0x3FD9DB23#32)) (minimumf (extractStridedSlice S288x256x1024 ![0, 0, 0] v6 slices_S288x256x2048_S288x256x1024_0_0_0) (broadcastInDim S288x256x1024 ![] bcast_S_S288x256x1024 (constant S_ .f32 0x40E00000#32))))))))) (addf (minimumf (broadcastInDim S288x256x1024 ![] bcast_S_S288x256x1024 (constant S_ .f32 0x40E00000#32)) (maximumf (broadcastInDim S288x256x1024 ![] bcast_S_S288x256x1024 (constant S_ .f32 0xC0E00000#32)) (extractStridedSlice S288x256x1024 ![0, 0, 1024] v6 slices_S288x256x2048_S288x256x1024_0_0_1024))) (broadcastInDim S288x256x1024 ![] bcast_S_S288x256x1024 (constant S_ .f32 0x3F800000#32)))

/-- The second product with its bias. -/
def r29 (a0 : IVec S288 32) (v23 : FVec Ideal S288x256x1024 .f32) (a5 : FVec Ideal S32x1024x1024 .f32) (a6 : FVec Ideal S32x1024 .f32) : FVec Ideal S288x256x1024 .f32 :=
  addf (Host.dotGeneral dot_S288x256x1024_S288x1024x1024_S288x256x1024_2_1_1_2_0_0 none v23 (Host.gather gather_S32x1024x1024_S288x1_S288x1024x1024_12_0_n_n_0_1_110241024 a5 (col a0))) (broadcastInDim S288x256x1024 ![0, 1, 2] bcast_S288x1x1024_S288x256x1024_0_1_2 (broadcastInDim S288x1x1024 ![0, 2] bcast_S288x1024_S288x1x1024_0_2 (Host.gather gather_S32x1024_S288x1_S288x1024_1_0_n_n_0_1_11024 a6 (col a0))))

/-- Zero from the used blocks on. -/
def r35 (a1 : IVec S1 32) (v29 : FVec Ideal S288x256x1024 .f32) : FVec Ideal S288x256x1024 .f32 :=
  select (broadcastInDim S288x256x1024 ![0, 1, 2] bcast_S288x1x1_S288x256x1024_0_1_2 (broadcastInDim S288x1x1 ![0] bcast_S288_S288x1x1_0 (cmpi .slt (iotaInDim S288 32 0) (broadcastInDim S288 ![] bcast_S_S288 (shapeCast S_ a1 shapeCasts_S1_S_))))) v29 (broadcastInDim S288x256x1024 ![] bcast_S_S288x256x1024 (constant S_ .f32 0x00000000#32))

theorem res_eq (m : (ℓ : Loc nD τ sig) → Buf (Elt Ideal) ℓ) (c : Dev nD) :
    Value.res_main_v36 (F := Ideal) m c
      = shapeCast S589824x128 (r35 (m ((c.tc : Thread nD τ).loc main_arg1)) (r29 (m ((c.tc : Thread nD τ).loc main_arg0))
          (r23 (r6 (m ((c.tc : Thread nD τ).loc main_arg0)) (m ((c.tc : Thread nD τ).loc main_arg2)) (m ((c.tc : Thread nD τ).loc main_arg3)) (m ((c.tc : Thread nD τ).loc main_arg4))))
          (m ((c.tc : Thread nD τ).loc main_arg5)) (m ((c.tc : Thread nD τ).loc main_arg6)))) shapeCasts_S288x256x1024_S589824x128 := rfl

/-- Row r of block b, as the reference cuts it from the dispatched rows. -/
def xRow (a2 : FVec Ideal S589824x128 .f32) (b : Fin 288) (r : Fin 256) (k : Fin 1024) : EReal :=
  a2 (ix2 ⟨b.val * 2048 + r.val * 8 + k.val / 128, by omega⟩ ⟨k.val % 128, by omega⟩)

theorem cut_apply (a2 : FVec Ideal S589824x128 .f32) (b : Fin 288) (r : Fin 256) (k : Fin 1024) :
    shapeCast S288x256x1024 a2 shapeCasts_S589824x128_S288x256x1024 (ix3 b r k) = xRow a2 b r k := by
  unfold xRow
  pointwise

theorem r6_apply (a0 a2 a3 a4) (b : Fin 288) (r : Fin 256) (n : Fin 2048) :
    r6 a0 a2 a3 a4 (ix3 b r n) = pre (xRow a2 b r) (fun k n => a3 (ix3 (eAt a0 b) k n)) (fun n => a4 (ix2 (eAt a0 b) n)) n := by
  have g3 : ∀ k : Fin 1024, Host.gather gather_S32x1024x2048_S288x1_S288x1024x2048_12_0_n_n_0_1_110242048 a3 (col a0) (ix3 b k n)
      = a3 (ix3 (eAt a0 b) k n) := fun k => by
    refine (gather3 (by decide) gather_S32x1024x2048_S288x1_S288x1024x2048_12_0_n_n_0_1_110242048_wf a3 (col a0) b k n).trans ?_
    simp only [col_apply]; rfl
  have g4 : Host.gather gather_S32x2048_S288x1_S288x2048_1_0_n_n_0_1_12048 a4 (col a0) (ix2 b n) = a4 (ix2 (eAt a0 b) n) := by
    refine (gather2 (by decide) gather_S32x2048_S288x1_S288x2048_1_0_n_n_0_1_12048_wf a4 (col a0) b n).trans ?_
    simp only [col_apply]; rfl
  unfold r6 pre
  generalize hG3 : Host.gather gather_S32x1024x2048_S288x1_S288x1024x2048_12_0_n_n_0_1_110242048 a3 (col a0) = G3 at g3 ⊢
  generalize hG4 : Host.gather gather_S32x2048_S288x1_S288x2048_1_0_n_n_0_1_12048 a4 (col a0) = G4 at g4 ⊢
  generalize hX : shapeCast S288x256x1024 a2 shapeCasts_S589824x128_S288x256x1024 = X
  have hx : ∀ k, X (ix3 b r k) = xRow a2 b r k := fun k => by rw [← hX]; exact cut_apply a2 b r k
  pointwise
  simp only [hx, g3, g4]

theorem r23_apply (v6) (b : Fin 288) (r : Fin 256) (j : Fin 1024) :
    r23 v6 (ix3 b r j) = gate (v6 (ix3 b r ⟨j.val, by omega⟩))
      * Ideal.logistic (Ideal.ofBits .f32 0x3FD9DB23#32 * gate (v6 (ix3 b r ⟨j.val, by omega⟩)))
      * (lin (v6 (ix3 b r ⟨1024 + j.val, by omega⟩)) + 1) := by
  unfold r23 gate lin Ideal.logistic
  pointwise

theorem r29_apply (a0 v23 a5 a6) (b : Fin 288) (r : Fin 256) (n : Fin 1024) :
    r29 a0 v23 a5 a6 (ix3 b r n) = (∑ j : Fin 1024, v23 (ix3 b r j) * a5 (ix3 (eAt a0 b) j n)) + a6 (ix2 (eAt a0 b) n) := by
  have g3 : ∀ k : Fin 1024, Host.gather gather_S32x1024x1024_S288x1_S288x1024x1024_12_0_n_n_0_1_110241024 a5 (col a0) (ix3 b k n)
      = a5 (ix3 (eAt a0 b) k n) := fun k => by
    refine (gather3 (by decide) gather_S32x1024x1024_S288x1_S288x1024x1024_12_0_n_n_0_1_110241024_wf a5 (col a0) b k n).trans ?_
    simp only [col_apply]; rfl
  have g4 : Host.gather gather_S32x1024_S288x1_S288x1024_1_0_n_n_0_1_11024 a6 (col a0) (ix2 b n) = a6 (ix2 (eAt a0 b) n) := by
    refine (gather2 (by decide) gather_S32x1024_S288x1_S288x1024_1_0_n_n_0_1_11024_wf a6 (col a0) b n).trans ?_
    simp only [col_apply]; rfl
  unfold r29
  generalize hG3 : Host.gather gather_S32x1024x1024_S288x1_S288x1024x1024_12_0_n_n_0_1_110241024 a5 (col a0) = G3 at g3 ⊢
  generalize hG4 : Host.gather gather_S32x1024_S288x1_S288x1024_1_0_n_n_0_1_11024 a6 (col a0) = G4 at g4 ⊢
  pointwise
  simp only [g3, g4]

theorem r35_apply (a1 : IVec S1 32) (v29) (b : Fin 288) (r : Fin 256) (n : Fin 1024) :
    r35 a1 v29 (ix3 b r n) = if (IntOp.cmpi .slt (BitVec.ofNat 32 b.val) (a1 (ix1 0))) = 1#1 then v29 (ix3 b r n) else 0 := by
  unfold r35
  pointwise
  rfl

/-- The result at block b, row r, column n: the row through the block's expert, or zero past the used blocks. -/
def atS (a0 : IVec S288 32) (a1 : IVec S1 32) (a2 : FVec Ideal S589824x128 .f32) (a3 : FVec Ideal S32x1024x2048 .f32) (a4 : FVec Ideal S32x2048 .f32)
    (a5 : FVec Ideal S32x1024x1024 .f32) (a6 : FVec Ideal S32x1024 .f32) (b : Fin 288) (r : Fin 256) (n : Fin 1024) : EReal :=
  if (IntOp.cmpi .slt (BitVec.ofNat 32 b.val) (a1 (ix1 0))) = 1#1 then
    ffn (xRow a2 b r) (fun k n => a3 (ix3 (eAt a0 b) k n)) (fun n => a4 (ix2 (eAt a0 b) n)) (fun j n => a5 (ix3 (eAt a0 b) j n)) (fun n => a6 (ix2 (eAt a0 b) n)) n
  else 0

/-- The whole result, eight pieces of 128 columns to a row. -/
def flatS (a0 : IVec S288 32) (a1 : IVec S1 32) (a2 : FVec Ideal S589824x128 .f32) (a3 : FVec Ideal S32x1024x2048 .f32) (a4 : FVec Ideal S32x2048 .f32)
    (a5 : FVec Ideal S32x1024x1024 .f32) (a6 : FVec Ideal S32x1024 .f32) (P : Fin 589824) (q : Fin 128) : EReal :=
  atS a0 a1 a2 a3 a4 a5 a6 ⟨P.val / 2048, by omega⟩ ⟨P.val % 2048 / 8, by omega⟩ ⟨P.val % 8 * 128 + q.val, by omega⟩

theorem r35_all (a0 a1 a2 a3 a4 a5 a6) (b : Fin 288) (r : Fin 256) (n : Fin 1024) :
    r35 a1 (r29 a0 (r23 (r6 a0 a2 a3 a4)) a5 a6) (ix3 b r n) = atS a0 a1 a2 a3 a4 a5 a6 b r n := by
  rw [r35_apply, r29_apply]
  simp only [r23_apply, r6_apply]
  rfl

theorem flat_apply (v : FVec Ideal S288x256x1024 .f32) (P : Fin 589824) (q : Fin 128) :
    shapeCast S589824x128 v shapeCasts_S288x256x1024_S589824x128 (ix2 P q)
      = v (ix3 ⟨P.val / 2048, by omega⟩ ⟨P.val % 2048 / 8, by omega⟩ ⟨P.val % 8 * 128 + q.val, by omega⟩) := by
  pointwise
  exact congrArg (fun z => v (ix3 _ z _)) (Fin.ext (by show P.val / 8 % 256 = P.val % 2048 / 8; omega))

theorem res_apply (m : (ℓ : Loc nD τ sig) → Buf (Elt Ideal) ℓ) (c : Dev nD) (P : Fin 589824) (q : Fin 128) :
    Value.res_main_v36 (F := Ideal) m c (ix2 P q)
      = flatS (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) P q := by
  refine (congrFun (res_eq m c) (ix2 P q)).trans ?_
  exact (flat_apply _ P q).trans (r35_all ..)

end Cert.ReferenceIdeal.Hand

end
-- ==== Proof.Ideal.Value.lean ====
/- What the run leaves in the output array, element by element, and the claim that it is the reference's. -/
module

public import proofs.«01_k».proof.Proof.Ideal.Tables
public import proofs.«01_k».proof.Proof.Ideal.Out
public import proofs.«01_k».proof.Proof.Ref
public import Idealize.ShloMosaic.Lib.Pipeline.ValueKit.Geometry
public import Idealize.ShloMosaic.Lib.Pipeline.Covers

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic
open Idealize.ShloMosaic.Pipeline

variable (m : (ℓ : Loc nD τ sig) → Buf (Elt Ideal) ℓ)

theorem V_v18 (c : Dev nD) : V m c main_v18 = shapeCast S32x1x2048 (m (c, main_arg4)) shapeCasts_S32x2048_S32x1x2048 := by
  unfold V opss; after_reads_simp; try rfl
theorem V_v19 (c : Dev nD) : V m c main_v19 = shapeCast S32x1x1024 (m (c, main_arg6)) shapeCasts_S32x1024_S32x1x1024 := by
  unfold V opss; after_reads_simp; try rfl

variable {m}

/-- The arguments, as arrays. -/
abbrev a0 (m : (ℓ : Loc nD τ sig) → Buf (Elt Ideal) ℓ) (c : Dev nD) : IVec S288 32 := m (c, main_arg0)
abbrev a1 (m : (ℓ : Loc nD τ sig) → Buf (Elt Ideal) ℓ) (c : Dev nD) : IVec S1 32 := m (c, main_arg1)
abbrev a2 (m : (ℓ : Loc nD τ sig) → Buf (Elt Ideal) ℓ) (c : Dev nD) : FVec Ideal S589824x128 .f32 := m (c, main_arg2)
abbrev a3 (m : (ℓ : Loc nD τ sig) → Buf (Elt Ideal) ℓ) (c : Dev nD) : FVec Ideal S32x1024x2048 .f32 := m (c, main_arg3)
abbrev a4 (m : (ℓ : Loc nD τ sig) → Buf (Elt Ideal) ℓ) (c : Dev nD) : FVec Ideal S32x2048 .f32 := m (c, main_arg4)
abbrev a5 (m : (ℓ : Loc nD τ sig) → Buf (Elt Ideal) ℓ) (c : Dev nD) : FVec Ideal S32x1024x1024 .f32 := m (c, main_arg5)
abbrev a6 (m : (ℓ : Loc nD τ sig) → Buf (Elt Ideal) ℓ) (c : Dev nD) : FVec Ideal S32x1024 .f32 := m (c, main_arg6)

theorem tlt {hO : Ok m} (t : Fin (cfgM m hO).N) : t.val < 288 := lt_of_lt_of_eq t.isLt N_0

theorem x4_apply (h : PreHolds m) (c : Dev nD) (t : Fin (cfgM m (ok_of h)).N) (ht : t.val < (uT m 0).toNat) (p : Fin 2048) (q : Fin 128) :
    X4 m (ok_of h) c t (ix2 p q) = a2 m c (ix2 ⟨t.val * 2048 + p.val, by have := tlt t; omega⟩ q) := by
  have hix : ((cfgM m (ok_of h)).win 0).index t = ![t.val, 0] := by
    refine (show _ = cc0_transform_0 inb_S1_S1_0 numel1_S1 (tbl m) (grid0.coords t) from rfl).trans ?_
    rw [ix0_0 h, coords_val]
    congr 1; omega
  show V m c main_arg2 ((((cfgM m (ok_of h)).win 0).rect t).emb (ix2 p q)) = _
  rw [V_arg2]
  refine congrArg (a2 m c) (funext fun a => Fin.ext ?_)
  refine (Window.rect_emb_val _ t _ a rfl).trans ?_
  rw [hix]
  fin_cases a
  · rfl
  · show 0 * 128 + q.val = q.val; omega

theorem x6_apply (h : PreHolds m) (c : Dev nD) (t : Fin (cfgM m (ok_of h)).N) (n : Fin 2048) :
    X6 m (ok_of h) c t (ix3 0 0 n) = a4 m c (ix2 ⟨(bT m 0 ⟨t.val, tlt t⟩).toNat, (sorted_of m h 0).lt _⟩ n) := by
  have hix : ((cfgM m (ok_of h)).win 1).index t = ![(bT m 0 ⟨t.val, tlt t⟩).toNat, 0, 0] := by
    refine (show _ = cc0_transform_2 k0_off1_inb numel1_S1 (tbl m) (grid0.coords t) from rfl).trans ?_
    rw [ix0_1]
    have : (⟨(grid0.coords t 0).val, (grid0.coords t 0).isLt⟩ : Fin 288) = ⟨t.val, tlt t⟩ := Fin.ext (coords_val t)
    rw [this]
  show V m c main_v18 ((((cfgM m (ok_of h)).win 1).rect t).emb (ix3 0 0 n)) = _
  rw [V_v18]
  have e : (((cfgM m (ok_of h)).win 1).rect t).emb (ix3 0 0 n) = (ix3 ⟨(bT m 0 ⟨t.val, tlt t⟩).toNat, (sorted_of m h 0).lt _⟩ 0 n : S32x1x2048.Idx) := by
    funext a
    apply Fin.ext
    refine (Window.rect_emb_val _ t _ a rfl).trans ?_
    rw [hix]
    fin_cases a
    · show (bT m 0 ⟨t.val, tlt t⟩).toNat * 1 + 0 = (bT m 0 ⟨t.val, tlt t⟩).toNat; omega
    · rfl
    · show 0 * 2048 + n.val = n.val; omega
  refine (congrArg (shapeCast S32x1x2048 (m (c, main_arg4)) shapeCasts_S32x2048_S32x1x2048) e).trans ?_
  change shapeCast S32x1x2048 (a4 m c) shapeCasts_S32x2048_S32x1x2048 (ix3 _ 0 n) = a4 m c _
  generalize a4 m c = A
  pointwise

theorem x8_apply (h : PreHolds m) (c : Dev nD) (t : Fin (cfgM m (ok_of h)).N) (n : Fin 1024) :
    X8 m (ok_of h) c t (ix3 0 0 n) = a6 m c (ix2 ⟨(bT m 0 ⟨t.val, tlt t⟩).toNat, (sorted_of m h 0).lt _⟩ n) := by
  have hix : ((cfgM m (ok_of h)).win 2).index t = ![(bT m 0 ⟨t.val, tlt t⟩).toNat, 0, 0] := by
    refine (show _ = cc0_transform_4 k0_off1_inb numel1_S1 (tbl m) (grid0.coords t) from rfl).trans ?_
    rw [ix0_2]
    have : (⟨(grid0.coords t 0).val, (grid0.coords t 0).isLt⟩ : Fin 288) = ⟨t.val, tlt t⟩ := Fin.ext (coords_val t)
    rw [this]
  show V m c main_v19 ((((cfgM m (ok_of h)).win 2).rect t).emb (ix3 0 0 n)) = _
  rw [V_v19]
  have e : (((cfgM m (ok_of h)).win 2).rect t).emb (ix3 0 0 n) = (ix3 ⟨(bT m 0 ⟨t.val, tlt t⟩).toNat, (sorted_of m h 0).lt _⟩ 0 n : S32x1x1024.Idx) := by
    funext a
    apply Fin.ext
    refine (Window.rect_emb_val _ t _ a rfl).trans ?_
    rw [hix]
    fin_cases a
    · show (bT m 0 ⟨t.val, tlt t⟩).toNat * 1 + 0 = (bT m 0 ⟨t.val, tlt t⟩).toNat; omega
    · rfl
    · show 0 * 1024 + n.val = n.val; omega
  refine (congrArg (shapeCast S32x1x1024 (m (c, main_arg6)) shapeCasts_S32x1024_S32x1x1024) e).trans ?_
  change shapeCast S32x1x1024 (a6 m c) shapeCasts_S32x1024_S32x1x1024 (ix3 _ 0 n) = a6 m c _
  generalize a6 m c = A
  pointwise

/-- Matrix w of a stack, cut out and flattened, at an index. -/
theorem cut3 {N R C w : ℕ} (A : (⟨3, ![N, R, C]⟩ : Shape).Idx → EReal) (inb : ∀ a, (![w, 0, 0] : Fin 3 → ℕ) a + (![1, R, C] : Fin 3 → ℕ) a ≤ (![N, R, C] : Fin 3 → ℕ) a)
    (k : Fin R) (n : Fin C) (hw : w < N) :
    A ((Rect.unit (s := ⟨3, ![N, R, C]⟩) ![w, 0, 0] ![1, R, C] inb).toLoadRect.idx (ix3 0 k n : (⟨3, ![1, R, C]⟩ : Shape).Idx)) = A (ix3 ⟨w, hw⟩ k n) := by
  refine congrArg A (funext fun a => Fin.ext ?_)
  fin_cases a
  · show w + 1 * 0 = w; omega
  · show 0 + 1 * k.val = k.val; omega
  · show 0 + 1 * n.val = n.val; omega

theorem sq1 (Y : FVec Ideal S1x1024x2048 .f32) (k : Fin 1024) (n : Fin 2048) :
    shapeCast S1024x2048 Y shapeCasts_S1x1024x2048_S1024x2048 (ix2 k n) = Y (ix3 0 k n) := by pointwise
theorem sq2 (Y : FVec Ideal S1x1024x1024 .f32) (k : Fin 1024) (n : Fin 1024) :
    shapeCast S1024x1024 Y shapeCasts_S1x1024x1024_S1024x1024 (ix2 k n) = Y (ix3 0 k n) := by pointwise

theorem gw_apply (c : Dev nD) (w : BitVec 32) (hw : w.toNat < 32) (k : Fin 1024) (n : Fin 2048) :
    castG (F := Ideal) (GW c (XG m c) w hw) (ix2 k n) = a3 m c (ix3 ⟨w.toNat, hw⟩ k n) := by
  show (gblk w hw).view.read (Elt Ideal) (V m c main_arg3) (ix2 k n) = _
  rw [V_arg3]
  refine (congrFun (Memref.read_squeeze_slice wgM (Rect.unit (s := S32x1024x2048) ![w.toNat, 0, 0] S1x1024x2048.size (gin w hw)) (fun _ => rfl) squeezes_S1x1024x2048_S1024x2048 shapeCasts_S1x1024x2048_S1024x2048 (m (c, main_arg3))) (ix2 k n)).trans ?_
  refine (sq1 _ k n).trans ?_
  exact cut3 (a3 m c) (gin w hw) k n hw

theorem dw_apply (c : Dev nD) (w : BitVec 32) (hw : w.toNat < 32) (k : Fin 1024) (n : Fin 1024) :
    castD (F := Ideal) (DW c (XD m c) w hw) (ix2 k n) = a5 m c (ix3 ⟨w.toNat, hw⟩ k n) := by
  show (dblk w hw).view.read (Elt Ideal) (V m c main_arg5) (ix2 k n) = _
  rw [V_arg5]
  refine (congrFun (Memref.read_squeeze_slice wdM (Rect.unit (s := S32x1024x1024) ![w.toNat, 0, 0] S1x1024x1024.size (din w hw)) (fun _ => rfl) squeezes_S1x1024x1024_S1024x1024 shapeCasts_S1x1024x1024_S1024x1024 (m (c, main_arg5))) (ix2 k n)).trans ?_
  refine (sq2 _ k n).trans ?_
  exact cut3 (a5 m c) (din w hw) k n hw

/-- A block in use is below the number of blocks in use, as the reference compares the two words. -/
theorem slt_iff (h : PreHolds m) (b : Fin 288) :
    IntOp.cmpi .slt (BitVec.ofNat 32 b.val) (uT m 0) = 1#1 ↔ b.val < (uT m 0).toNat := by
  have hs := sorted_of m h 0
  have h1 := hs.upos
  have hu := Cert.Words.toNat_of (w := uT m 0) (by omega)
  have hb : ((BitVec.ofNat 32 b.val).toInt) = b.val := by
    rw [BitVec.toInt_eq_toNat_cond, BitVec.toNat_ofNat]
    have := b.isLt
    rw [Nat.mod_eq_of_lt (by omega), if_pos (by omega)]
  rw [IntOp.cmpi_slt, hb]
  omega

theorem eAt_eq (h : PreHolds m) (b : Fin 288) :
    Cert.ReferenceIdeal.Hand.eAt (a0 m 0) b = ⟨(bT m 0 b).toNat, (sorted_of m h 0).lt _⟩ := by
  have hs := sorted_of m h 0
  have h1 := hs.lo b
  have hl := hs.lt b
  have hu := Cert.Words.toNat_of h1
  apply Fin.ext
  show min (bT m 0 b).toInt.toNat (32 - 1) = (bT m 0 b).toNat
  omega

/-- The whole output: every block at the reference's value. -/
def outG (m : (ℓ : Loc nD τ sig) → Buf (Elt Ideal) ℓ) : FVec Ideal S589824x128 .f32 := fun i =>
  Cert.ReferenceIdeal.Hand.flatS (a0 m 0) (a1 m 0) (a2 m 0) (a3 m 0) (a4 m 0) (a5 m 0) (a6 m 0) ⟨(i 0).val, (i 0).isLt⟩ ⟨(i 1).val, (i 1).isLt⟩

theorem outAt_apply (h : PreHolds m) (t : Fin (cfgM m (ok_of h)).N) (p : Fin 2048) (q : Fin 128) :
    outAt m (ok_of h) 0 t (ix2 p q)
      = Cert.ReferenceIdeal.Hand.flatS (a0 m 0) (a1 m 0) (a2 m 0) (a3 m 0) (a4 m 0) (a5 m 0) (a6 m 0) ⟨t.val * 2048 + p.val, by have := tlt t; omega⟩ q := by
  have ht := tlt t
  have hB := (sorted_of m h 0).lt ⟨t.val, ht⟩
  have e1 : (⟨(t.val * 2048 + p.val) / 2048, by omega⟩ : Fin 288) = ⟨t.val, ht⟩ := Fin.ext (by show (t.val * 2048 + p.val) / 2048 = t.val; omega)
  have e2 : (⟨(t.val * 2048 + p.val) % 2048 / 8, by omega⟩ : Fin 256) = ⟨p.val / 8, by omega⟩ := Fin.ext (by show (t.val * 2048 + p.val) % 2048 / 8 = p.val / 8; omega)
  have e3 : (⟨(t.val * 2048 + p.val) % 8 * 128 + q.val, by omega⟩ : Fin 1024) = ⟨p.val % 8 * 128 + q.val, by omega⟩ := Fin.ext (by show (t.val * 2048 + p.val) % 8 * 128 + q.val = p.val % 8 * 128 + q.val; omega)
  unfold Cert.ReferenceIdeal.Hand.flatS
  dsimp only
  rw [e1, e2, e3]
  unfold Cert.ReferenceIdeal.Hand.atS
  have hU : Un m 0 = (uT m 0).toNat := by rw [Un, Uw_eq]
  by_cases hu : t.val < (uT m 0).toNat
  · have hif : IntOp.cmpi .slt (BitVec.ofNat 32 (⟨t.val, ht⟩ : Fin 288).val) (a1 m 0 (ix1 0)) = 1#1 := (slt_iff h ⟨t.val, ht⟩).2 hu
    rw [if_pos hif]
    unfold outAt
    rw [dif_pos ⟨by rw [hU]; exact hu, by rw [Bw_eq m 0 t.val ht]; exact hB⟩]
    refine (outV_apply _ _ _ _ _ p q).trans ?_
    have hb := Bw_eq m 0 t.val ht
    rw [eAt_eq h]
    congr 1
    · funext k
      refine (x4_apply h 0 t hu _ _).trans ?_
      unfold Cert.ReferenceIdeal.Hand.xRow
      refine congrArg (a2 m 0) ?_
      congr 1
      exact Fin.ext (by show t.val * 2048 + (p.val / 8 * 8 + k.val / 128) = t.val * 2048 + p.val / 8 * 8 + k.val / 128; omega)
    · funext k n
      refine (gw_apply 0 _ _ k n).trans ?_
      simp only [hb]
    · funext n
      exact x6_apply h 0 t n
    · funext j n
      refine (dw_apply 0 _ _ j n).trans ?_
      simp only [hb]
    · funext n
      exact x8_apply h 0 t n
  · have hif : ¬ IntOp.cmpi .slt (BitVec.ofNat 32 (⟨t.val, ht⟩ : Fin 288).val) (a1 m 0 (ix1 0)) = 1#1 := fun e => hu ((slt_iff h ⟨t.val, ht⟩).1 e)
    rw [if_neg hif]
    unfold outAt
    rw [dif_neg (fun e => hu (by rw [← hU]; exact e.1))]
    exact Ideal.ofBits_zero_f32

theorem out_ix (h : PreHolds m) (t : Fin (cfgM m (ok_of h)).N) : ((cfgM m (ok_of h)).win 3).index t = ![t.val, 0] := by
  have ht := tlt t
  have hc : ((cfgM m (ok_of h)).grid.coords t 0).val = t.val := coords_val t
  show (![(BitVec.ofNat 32 ((cfgM m (ok_of h)).grid.coords t 0).val).toNat, (0#32).toNat] : Fin 2 → Nat) = ![t.val, 0]
  rw [hc, BitVec.toNat_ofNat, Nat.mod_eq_of_lt (by omega)]
  rfl

/-- Where an element of a point's output block stands in the output array. -/
theorem outEmb (h : PreHolds m) (t : Fin (cfgM m (ok_of h)).N) (p : Fin 2048) (q : Fin 128) :
    (((cfgM m (ok_of h)).win 3).rect t).emb (ix2 p q) = (ix2 ⟨t.val * 2048 + p.val, by have := tlt t; omega⟩ q : S589824x128.Idx) := by
  have hix := out_ix h t
  funext a
  apply Fin.ext
  refine (Window.rect_emb_val _ t _ a rfl).trans ?_
  rw [hix]
  fin_cases a
  · rfl
  · show 0 * 128 + q.val = q.val; omega

theorem outAt_emb (h : PreHolds m) (t : Fin (cfgM m (ok_of h)).N) (y : S2048x128.Idx) :
    outAt m (ok_of h) 0 t y = outG m ((((cfgM m (ok_of h)).win 3).rect t).emb y) := by
  obtain ⟨p, q, rfl⟩ : ∃ (p : Fin 2048) (q : Fin 128), y = ix2 p q := ⟨y 0, y 1, by
    funext a
    match a with
    | 0 => rfl
    | 1 => rfl⟩
  refine (outAt_apply h t p q).trans ?_
  refine Eq.trans ?_ (congrArg (outG m) (outEmb h t p q)).symm
  unfold outG
  rfl

theorem out_cover (h : PreHolds m) (i : S589824x128.Idx) :
    ∃ t : Fin (cfgM m (ok_of h)).N, ((cfgM m (ok_of h)).win 3).flush t = true ∧ i ∈ (((cfgM m (ok_of h)).win 3).blk t).view.set := by
  have hi0 : (i 0).val < 589824 := (i 0).isLt
  have hi1 : (i 1).val < 128 := (i 1).isLt
  obtain ⟨t, _, hf, hti⟩ := Window.exists_flush_same_index ((cfgM m (ok_of h)).win 3) rfl ⟨(i 0).val / 2048, by show (i 0).val / 2048 < 288; omega⟩
  refine ⟨t, hf, (Window.emb_mem_blk_iff ((cfgM m (ok_of h)).win 3) t i rfl).mpr ?_⟩
  have hx : ((cfgM m (ok_of h)).win 3).index t = ![(i 0).val / 2048, 0] := hti.trans (out_ix h _)
  rw [hx]
  intro a
  fin_cases a
  · show (i 0).val / 2048 * 2048 ≤ (i 0).val ∧ (i 0).val < (i 0).val / 2048 * 2048 + 2048
    omega
  · show 0 * 128 ≤ (i 1).val ∧ (i 1).val < 0 * 128 + 128
    omega

theorem arr_eq (h : PreHolds m) : (dats m (ok_of h) 0 0).arrAt 3 grid0.N = outG m := by
  have key := outAt_emb h
  have hcov := out_cover h
  generalize outG m = G at key ⊢
  refine (dats m (ok_of h) 0 0).arrAt_eq_of_emb 3 G (fun t hf y => ?_) hcov
  have ha := after3 m (ok_of h) 0 t
  have kt := key t
  generalize outAt m (ok_of h) 0 t = O at ha kt
  generalize (dats m (ok_of h) 0 0).after 3 t = A at ha ⊢
  subst ha
  exact kt y

/-- The kernel's run, with the reference's value in the output array. -/
theorem run_val (ρ : Dev nD → PrngReg) (h : PreHolds m) :
    θ_run (defs (F := Ideal)) (onTc (τ := τ) (main (F := Ideal))) ⟨m, fun _ => 0, ρ⟩ (fun r => ∀ c : Dev nD,
      r.2.mem ((c.tc : Thread nD τ).loc main_v20) = outG m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have key := arr_eq h
  generalize outG m = G at key ⊢
  refine (θ_run _ _ _).mono (fun r hr c => ?_) (run_args (m := m) ρ h)
  obtain rfl : c = 0 := Subsingleton.elim _ _
  exact ⟨(hr.1 0).1.trans key, (hr.1 0).2⟩

/-- The reference's result, from arguments equal to the kernel's, is the same array. -/
theorem ref_val (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = a0 m 0)
    (h1 : m' ((c.tc : Thread Cert.ReferenceIdeal.nD Cert.ReferenceIdeal.τ).loc Cert.ReferenceIdeal.main_arg1) = a1 m 0)
    (h2 : m' ((c.tc : Thread Cert.ReferenceIdeal.nD Cert.ReferenceIdeal.τ).loc Cert.ReferenceIdeal.main_arg2) = a2 m 0)
    (h3 : m' ((c.tc : Thread Cert.ReferenceIdeal.nD Cert.ReferenceIdeal.τ).loc Cert.ReferenceIdeal.main_arg3) = a3 m 0)
    (h4 : m' ((c.tc : Thread Cert.ReferenceIdeal.nD Cert.ReferenceIdeal.τ).loc Cert.ReferenceIdeal.main_arg4) = a4 m 0)
    (h5 : m' ((c.tc : Thread Cert.ReferenceIdeal.nD Cert.ReferenceIdeal.τ).loc Cert.ReferenceIdeal.main_arg5) = a5 m 0)
    (h6 : m' ((c.tc : Thread Cert.ReferenceIdeal.nD Cert.ReferenceIdeal.τ).loc Cert.ReferenceIdeal.main_arg6) = a6 m 0) :
    Cert.ReferenceIdeal.Value.res_main_v36 (F := Ideal) m' c = outG m := by
  funext i
  obtain ⟨p, q, rfl⟩ : ∃ (p : Fin 589824) (q : Fin 128), i = ix2 p q := ⟨i 0, i 1, by
    funext a
    match a with
    | 0 => rfl
    | 1 => rfl⟩
  refine (Cert.ReferenceIdeal.Hand.res_apply m' c p q).trans ?_
  rw [h0, h1, h2, h3, h4, h5, h6]
  unfold outG
  rfl

end Cert.KernelIdeal.Hand

end
-- ==== Proof.Inproj.Spec.lean ====
/- The in-projection of one row, in plain numbers: what both programs compute. -/
module

public import Idealize.ShloMosaic.PureOps.Ideal
public import Idealize.ShloMosaic.Lib.Pointwise
public import Idealize.ShloMosaic.Lib.IdealHost
public import Idealize.ShloMosaic.Lib.ValueIdx

@[expose] public section

noncomputable section

namespace Cert.Inproj

open Idealize.ShloMosaic

/-- The row over the root of its mean square, scaled, then modulated. -/
def rowH (x g sc sh : Fin 1024 → EReal) (k : Fin 1024) : EReal :=
  x k * Ideal.rsqrt (Ideal.div (∑ i : Fin 1024, x i * x i) (Ideal.ofBits .f32 0x44800000#32) + Ideal.ofBits .f32 0x358637BD#32)
    * g k * (1 + sc k) + sh k

/-- The row times a matrix. -/
def prod {C : ℕ} (h : Fin 1024 → EReal) (W : Fin 1024 → Fin C → EReal) (n : Fin C) : EReal :=
  ∑ k : Fin 1024, h k * W k n

end Cert.Inproj

end
-- ==== Proof.Inproj.Pay.lean ====
/- What the body's arithmetic leaves at one element of its block, in the plain numbers of `Cert.Inproj`. -/
module

public import proofs.«01_k».proof.Proof.Gen.Kernel2Ideal.Skeleton
public import proofs.«01_k».proof.Proof.Inproj.Spec
public import Idealize.ShloMosaic.Lib.Tactic

@[expose] public section

set_option maxRecDepth 16384

noncomputable section

namespace Cert.Kernel2Ideal.Hand

open Cert.Kernel2Ideal Cert.Kernel2Ideal.Gen Cert.Inproj
open Idealize.ShloMosaic Idealize.ShloMosaic.TcCoe

theorem pay1_apply (v0 : FVec Ideal S1x512x1024 .f32) (v2 : FVec Ideal S1x1024 .f32) (v3 v5 : FVec Ideal S1x1x1024 .f32)
    (r : Fin 512) (k : Fin 1024) :
    k0_pay1 (F := Ideal) v0 v2 v3 v5 (ix2 r k)
      = rowH (fun k => v0 (ix3 0 r k)) (fun k => v2 (ix2 0 k)) (fun k => v3 (ix3 0 0 k)) (fun k => v5 (ix3 0 0 k)) k := by
  unfold k0_pay1 rowH
  pointwise

theorem pay2_apply (v0 : FVec Ideal S1x512x1024 .f32) (v2 : FVec Ideal S1x1024 .f32) (v3 v5 : FVec Ideal S1x1x1024 .f32)
    (v26 : FVec Ideal S1024x1536 .bf16) (r : Fin 512) (n : Fin 1536) :
    k0_pay2 (F := Ideal) v0 v2 v3 v5 v26 (ix2 r n)
      = prod (fun k => k0_pay1 (F := Ideal) v0 v2 v3 v5 (ix2 r k)) (fun k n => v26 (ix2 k n)) n := by
  unfold k0_pay2 prod
  generalize k0_pay1 (F := Ideal) v0 v2 v3 v5 = H
  pointwise

theorem pay3_apply (v0 : FVec Ideal S1x512x1024 .f32) (v2 : FVec Ideal S1x1024 .f32) (v3 v5 : FVec Ideal S1x1x1024 .f32)
    (v26 : FVec Ideal S1024x1536 .bf16) (r : Fin 512) (n : Fin 512) :
    k0_pay3 (F := Ideal) v0 v2 v3 v5 v26 (ix2 r n)
      = k0_pay2 (F := Ideal) v0 v2 v3 v5 v26 (ix2 r ⟨512 + n.val, by omega⟩) := by
  unfold k0_pay3
  generalize k0_pay2 (F := Ideal) v0 v2 v3 v5 v26 = Z
  pointwise

theorem pay4_apply (v0 : FVec Ideal S1x512x1024 .f32) (v2 : FVec Ideal S1x1024 .f32) (v3 v5 : FVec Ideal S1x1x1024 .f32)
    (v26 : FVec Ideal S1024x1536 .bf16) (r : Fin 512) (n : Fin 512) :
    k0_pay4 (F := Ideal) v0 v2 v3 v5 v26 (ix2 r n)
      = k0_pay2 (F := Ideal) v0 v2 v3 v5 v26 (ix2 r ⟨1024 + n.val, by omega⟩)
        * k0_pay2 (F := Ideal) v0 v2 v3 v5 v26 (ix2 r ⟨n.val, by omega⟩) := by
  unfold k0_pay4
  generalize k0_pay2 (F := Ideal) v0 v2 v3 v5 v26 = Z
  pointwise

theorem pay5_apply (r : Fin 8) (n : Fin 512) : k0_pay5 (F := Ideal) (ix2 r n) = 0 := by
  unfold k0_pay5
  pointwise

theorem pay6_eq (v : FVec Ideal S512x512 .f32) : k0_pay6 (F := Ideal) v = v := by
  funext i
  unfold k0_pay6
  pointwise

theorem pay8_eq (v : FVec Ideal S8x512 .f32) : k0_pay8 (F := Ideal) v = v := by
  funext i
  unfold k0_pay8
  pointwise

theorem pay7_apply (v29 v31 v38 v39 : FVec Ideal S512x512 .f32) (v40 v43 v47 : FVec Ideal S1x512 .f32) (r n : Fin 512) :
    k0_pay7 (F := Ideal) v29 v31 v38 v39 v40 v43 v47 (ix3 0 r n)
      = v29 (ix2 r n) * (v40 (ix2 0 n) * v39 (ix2 r n) + v43 (ix2 0 n) * v38 (ix2 r n) + v47 (ix2 0 n) * v31 (ix2 r n)) := by
  unfold k0_pay7
  pointwise

theorem pay15_apply (h : FVec Ideal S512x1024 .bf16) (W : FVec Ideal S1024x1024 .bf16) (b : FVec Ideal S1x1024 .f32) (r : Fin 512) (n : Fin 1024) :
    k0_pay15 (F := Ideal) h W b (ix3 0 r n) = prod (fun k => h (ix2 r k)) (fun k n => W (ix2 k n)) n + b (ix2 0 n) := by
  unfold k0_pay15 prod
  pointwise

theorem pay16_apply (h : FVec Ideal S512x1024 .bf16) (W : FVec Ideal S1024x512 .bf16) (r : Fin 512) (n : Fin 512) :
    k0_pay16 (F := Ideal) h W (ix3 0 r n) = prod (fun k => h (ix2 r k)) (fun k n => W (ix2 k n)) n := by
  unfold k0_pay16 prod
  pointwise

theorem pay17_apply (h : FVec Ideal S512x1024 .bf16) (W : FVec Ideal S1024x128 .bf16) (r : Fin 512) (n : Fin 128) :
    k0_pay17 (F := Ideal) h W (ix3 0 r n) = prod (fun k => h (ix2 r k)) (fun k n => W (ix2 k n)) n := by
  unfold k0_pay17 prod
  pointwise

theorem pay18_apply (h : FVec Ideal S512x1024 .bf16) (W : FVec Ideal S1024x128 .bf16) (n : Fin 8) (r : Fin 512) :
    k0_pay18 (F := Ideal) h W (ix3 0 n r)
      = prod (fun k => h (ix2 r k)) (fun k n => W (ix2 k n)) ⟨n.val, by omega⟩ * Ideal.ofBits .f32 0x3D800000#32 := by
  unfold k0_pay18 prod
  pointwise

end Cert.Kernel2Ideal.Hand

end
-- ==== Proof.Inproj.Out.lean ====
/- What one grid point leaves in each of its blocks, by the body's arithmetic. -/
module

public import proofs.«01_k».proof.Proof.Gen.Kernel2Ideal.Frame
public import proofs.«01_k».proof.Proof.Inproj.Pay
public import Idealize.ShloMosaic.Lib.WritesUnit
public import Idealize.ShloMosaic.Lib.Pipeline.ValueKit
public import Idealize.ShloMosaic.Lib.Pipeline.ReadBack
public import Idealize.ShloMosaic.Lib.Tactic

@[expose] public section

set_option maxRecDepth 16384

noncomputable section

namespace Cert.Kernel2Ideal.Hand

open Cert.Kernel2Ideal Cert.Kernel2Ideal.Gen Cert.Inproj
open Idealize.ShloMosaic Idealize.ShloMosaic.TcCoe

/-! ## The scratch: eight rows, then the block's 512 -/

section Scratch

abbrev R8 : Rect S520x512 := Rect.unit (s := S520x512) ![8, 0] ![512, 512] inb_S520x512_S512x512_8_0
abbrev R7 : Rect S520x512 := Rect.unit (s := S520x512) ![7, 0] ![512, 512] inb_S520x512_S512x512_7_0
abbrev R6 : Rect S520x512 := Rect.unit (s := S520x512) ![6, 0] ![512, 512] inb_S520x512_S512x512_6_0
abbrev R512 : Rect S520x512 := Rect.unit (s := S520x512) ![512, 0] ![8, 512] inb_S520x512_S8x512_512_0
abbrev R0 : Rect S520x512 := Rect.unit (s := S520x512) ![0, 0] ![8, 512] inb_S520x512_S8x512_0_0

abbrev sc0 : View sig .tc .vmem S520x512 .f32 := View.whole cc0_scratch0

theorem scr_hi (f : sc0.ty.Contents (Elt Ideal)) (u : FVec Ideal S512x512 .f32) (L : List (View.Piece (Elt Ideal) S520x512 .f32))
    (r : Fin 512) (n : Fin 512) (y : S520x512.Idx) (h0 : (y 0).val = 8 + r.val) (h1 : (y 1).val = n.val) :
    sc0.read (Elt Ideal) (sc0.writes (Elt Ideal) f (⟨R8, u⟩ :: L)) y = u (ix2 r n) :=
  View.read_writes_cons_rows_of_mem sc0 f inb_S520x512_S512x512_8_0 u L y (ix2 r n) rfl h0 h1

theorem scr_lo (f : sc0.ty.Contents (Elt Ideal)) (u : FVec Ideal S512x512 .f32) (L : List (View.Piece (Elt Ideal) S520x512 .f32))
    (y : S520x512.Idx) (h0 : (y 0).val < 8) :
    sc0.read (Elt Ideal) (sc0.writes (Elt Ideal) f (⟨R8, u⟩ :: L)) y
      = sc0.read (Elt Ideal) (sc0.writes (Elt Ideal) f L) y :=
  View.read_writes_cons_rows_of_not_mem (W := 512) sc0 f inb_S520x512_S512x512_8_0 u L y rfl rfl (.inl h0)

theorem scr_front (f : sc0.ty.Contents (Elt Ideal)) (z : FVec Ideal S8x512 .f32) (L : List (View.Piece (Elt Ideal) S520x512 .f32))
    (q : Fin 8) (n : Fin 512) (y : S520x512.Idx) (h0 : (y 0).val = q.val) (h1 : (y 1).val = n.val) :
    sc0.read (Elt Ideal) (sc0.writes (Elt Ideal) f (⟨R0, z⟩ :: L)) y = z (ix2 q n) :=
  View.read_writes_cons_rows_of_mem sc0 f inb_S520x512_S8x512_0_0 z L y (ix2 q n) rfl (by rw [h0]; exact (Nat.zero_add _).symm) h1

theorem idx7 (r n : Fin 512) (a : Fin 2) : (R7.toLoadRect.idx (ix2 r n : S512x512.Idx) a).val
    = (![7 + r.val, n.val] : Fin 2 → ℕ) a := by
  match a with
  | 0 => show 7 + 1 * r.val = 7 + r.val; omega
  | 1 => show 0 + 1 * n.val = n.val; omega

theorem idx6 (r n : Fin 512) (a : Fin 2) : (R6.toLoadRect.idx (ix2 r n : S512x512.Idx) a).val
    = (![6 + r.val, n.val] : Fin 2 → ℕ) a := by
  match a with
  | 0 => show 6 + 1 * r.val = 6 + r.val; omega
  | 1 => show 0 + 1 * n.val = n.val; omega

theorem idx512 (q : Fin 8) (n : Fin 512) (a : Fin 2) : (R512.toLoadRect.idx (ix2 q n : S8x512.Idx) a).val
    = (![512 + q.val, n.val] : Fin 2 → ℕ) a := by
  match a with
  | 0 => show 512 + 1 * q.val = 512 + q.val; omega
  | 1 => show 0 + 1 * n.val = n.val; omega

/-- Row r, p rows back: the block's own, or from the eight rows kept in front. -/
def back (u : FVec Ideal S512x512 .f32) (z : Fin 8 → Fin 512 → EReal) (p : ℕ) (hp : p ≤ 8) (r n : Fin 512) : EReal :=
  if h : p ≤ r.val then u (ix2 ⟨r.val - p, by omega⟩ n) else z ⟨8 - p + r.val, by omega⟩ n

theorem ldA7 (u : FVec Ideal S512x512 .f32) (z : FVec Ideal S8x512 .f32) (r n : Fin 512) :
    sc0.readCov (Val := Elt Ideal) [⟨R8, u⟩, ⟨R0, z⟩]
        R7.toLoadRect (ix2 r n)
      = back u (fun q n => z (ix2 q n)) 1 (by omega) r n := by
  show sc0.read (Elt Ideal) (sc0.writes (Elt Ideal) sc0.junk [⟨R8, u⟩, ⟨R0, z⟩])
    (R7.toLoadRect.idx (ix2 r n : S512x512.Idx)) = _
  have e0 := idx7 r n 0
  have e1 := idx7 r n 1
  generalize R7.toLoadRect.idx (ix2 r n : S512x512.Idx) = y at e0 e1 ⊢
  have e0' : (y 0).val = 7 + r.val := e0
  have e1' : (y 1).val = n.val := e1
  unfold back
  by_cases h : 1 ≤ r.val
  · rw [dif_pos h]
    exact scr_hi _ u _ ⟨r.val - 1, by omega⟩ n y (by rw [e0']; show _ = 8 + (r.val - 1); omega) e1'
  · rw [dif_neg h, scr_lo _ u _ y (by rw [e0']; omega)]
    exact scr_front _ z _ ⟨8 - 1 + r.val, by omega⟩ n y (by rw [e0']) e1'

theorem ldB7 (u : FVec Ideal S512x512 .f32) (f : sc0.ty.Contents (Elt Ideal)) (S : FVec Ideal S520x512 .f32) (hS : sc0.read (Elt Ideal) f = S) (r n : Fin 512) :
    View.ld (sc0.read (Elt Ideal) (sc0.writes (Elt Ideal) f [⟨R8, u⟩]))
        R7 (ix2 r n)
      = back u (fun q n => S (ix2 ⟨q.val, by omega⟩ n)) 1 (by omega) r n := by
  show sc0.read (Elt Ideal) (sc0.writes (Elt Ideal) f [⟨R8, u⟩])
    (R7.toLoadRect.idx (ix2 r n : S512x512.Idx)) = _
  have e0 := idx7 r n 0
  have e1 := idx7 r n 1
  generalize R7.toLoadRect.idx (ix2 r n : S512x512.Idx) = y at e0 e1 ⊢
  have e0' : (y 0).val = 7 + r.val := e0
  have e1' : (y 1).val = n.val := e1
  unfold back
  by_cases h : 1 ≤ r.val
  · rw [dif_pos h]
    exact scr_hi _ u _ ⟨r.val - 1, by omega⟩ n y (by rw [e0']; show _ = 8 + (r.val - 1); omega) e1'
  · rw [dif_neg h, scr_lo _ u _ y (by rw [e0']; omega)]
    show sc0.read (Elt Ideal) f y = _
    rw [hS]
    refine congrArg S (funext fun a => Fin.ext ?_)
    match a with
    | 0 => exact e0'.trans (by show 7 + r.val = 8 - 1 + r.val; omega)
    | 1 => exact e1'

theorem ldA6 (u : FVec Ideal S512x512 .f32) (z : FVec Ideal S8x512 .f32) (r n : Fin 512) :
    sc0.readCov (Val := Elt Ideal) [⟨R8, u⟩, ⟨R0, z⟩]
        R6.toLoadRect (ix2 r n)
      = back u (fun q n => z (ix2 q n)) 2 (by omega) r n := by
  show sc0.read (Elt Ideal) (sc0.writes (Elt Ideal) sc0.junk [⟨R8, u⟩, ⟨R0, z⟩])
    (R6.toLoadRect.idx (ix2 r n : S512x512.Idx)) = _
  have e0 := idx6 r n 0
  have e1 := idx6 r n 1
  generalize R6.toLoadRect.idx (ix2 r n : S512x512.Idx) = y at e0 e1 ⊢
  have e0' : (y 0).val = 6 + r.val := e0
  have e1' : (y 1).val = n.val := e1
  unfold back
  by_cases h : 2 ≤ r.val
  · rw [dif_pos h]
    exact scr_hi _ u _ ⟨r.val - 2, by omega⟩ n y (by rw [e0']; show _ = 8 + (r.val - 2); omega) e1'
  · rw [dif_neg h, scr_lo _ u _ y (by rw [e0']; omega)]
    exact scr_front _ z _ ⟨8 - 2 + r.val, by omega⟩ n y (by rw [e0']) e1'

theorem ldB6 (u : FVec Ideal S512x512 .f32) (f : sc0.ty.Contents (Elt Ideal)) (S : FVec Ideal S520x512 .f32) (hS : sc0.read (Elt Ideal) f = S) (r n : Fin 512) :
    View.ld (sc0.read (Elt Ideal) (sc0.writes (Elt Ideal) f [⟨R8, u⟩]))
        R6 (ix2 r n)
      = back u (fun q n => S (ix2 ⟨q.val, by omega⟩ n)) 2 (by omega) r n := by
  show sc0.read (Elt Ideal) (sc0.writes (Elt Ideal) f [⟨R8, u⟩])
    (R6.toLoadRect.idx (ix2 r n : S512x512.Idx)) = _
  have e0 := idx6 r n 0
  have e1 := idx6 r n 1
  generalize R6.toLoadRect.idx (ix2 r n : S512x512.Idx) = y at e0 e1 ⊢
  have e0' : (y 0).val = 6 + r.val := e0
  have e1' : (y 1).val = n.val := e1
  unfold back
  by_cases h : 2 ≤ r.val
  · rw [dif_pos h]
    exact scr_hi _ u _ ⟨r.val - 2, by omega⟩ n y (by rw [e0']; show _ = 8 + (r.val - 2); omega) e1'
  · rw [dif_neg h, scr_lo _ u _ y (by rw [e0']; omega)]
    show sc0.read (Elt Ideal) f y = _
    rw [hS]
    refine congrArg S (funext fun a => Fin.ext ?_)
    match a with
    | 0 => exact e0'.trans (by show 6 + r.val = 8 - 2 + r.val; omega)
    | 1 => exact e1'

theorem keep_last (u : FVec Ideal S512x512 .f32) (L : List (View.Piece (Elt Ideal) S520x512 .f32)) (L' : List (View.Piece (Elt Ideal) S520x512 .f32)) (q : Fin 8) (n : Fin 512) :
    View.canon (Val := Elt Ideal) (⟨R0, k0_pay8 (F := Ideal)
        (sc0.readCov (Val := Elt Ideal) (⟨R8, u⟩ :: L) R512.toLoadRect)⟩ :: L')
      (ix2 ⟨q.val, by omega⟩ n : S520x512.Idx) = u (ix2 ⟨504 + q.val, by omega⟩ n) := by
  rw [← View.read_writes_junk_apply_eq_canon sc0]
  refine (scr_front _ _ L' q n _ rfl rfl).trans ?_
  rw [pay8_eq]
  show sc0.read (Elt Ideal) (sc0.writes (Elt Ideal) sc0.junk (⟨R8, u⟩ :: L))
    (R512.toLoadRect.idx (ix2 q n : S8x512.Idx)) = _
  have e0 := idx512 q n 0
  have e1 := idx512 q n 1
  generalize R512.toLoadRect.idx (ix2 q n : S8x512.Idx) = y at e0 e1 ⊢
  exact scr_hi _ u _ ⟨504 + q.val, by omega⟩ n y (by rw [show (y 0).val = 512 + q.val from e0]; show _ = 8 + (504 + q.val); omega) e1

end Scratch

/-! ## The blocks -/

variable (m : (ℓ : Loc nD τ sig) → Buf (Elt Ideal) ℓ)

/-- The block's normed and modulated rows. -/
def hB (c : Dev nD) (t : Fin cfg0.N) : FVec Ideal S512x1024 .bf16 :=
  k0_pay1 (F := Ideal) (iblk m c 0 t) (iblk m c 3 t) (iblk m c 2 t) (iblk m c 1 t)

/-- The block's gated rows. -/
def uB (c : Dev nD) (t : Fin cfg0.N) : FVec Ideal S512x512 .f32 :=
  k0_pay4 (F := Ideal) (iblk m c 0 t) (iblk m c 3 t) (iblk m c 2 t) (iblk m c 1 t)
    (View.ld (iblk m c 4 t) (Rect.unit ![0, 0] ![1024, 1536] inb_S1024x4352_S1024x1536_0_0))

/-- The block's outer gate. -/
def gB (c : Dev nD) (t : Fin cfg0.N) : FVec Ideal S512x512 .f32 :=
  k0_pay3 (F := Ideal) (iblk m c 0 t) (iblk m c 3 t) (iblk m c 2 t) (iblk m c 1 t)
    (View.ld (iblk m c 4 t) (Rect.unit ![0, 0] ![1024, 1536] inb_S1024x4352_S1024x1536_0_0))

/-- The convolution's weights for the row two back. -/
def cB0 (c : Dev nD) (t : Fin cfg0.N) : FVec Ideal S1x512 .f32 :=
  View.ld (iblk m c 5 t) (Rect.unit ![0, 0] ![1, 512] inb_S3x512_S1x512_0_0)

/-- The convolution's weights for the row one back. -/
def cB1 (c : Dev nD) (t : Fin cfg0.N) : FVec Ideal S1x512 .f32 :=
  View.ld (iblk m c 5 t) (Rect.unit ![1, 0] ![1, 512] inb_S3x512_S1x512_1_0)

/-- The convolution's weights for the row itself. -/
def cB2 (c : Dev nD) (t : Fin cfg0.N) : FVec Ideal S1x512 .f32 :=
  View.ld (iblk m c 5 t) (Rect.unit ![2, 0] ![1, 512] inb_S3x512_S1x512_2_0)

theorem atS (c : Dev nD) (t : Fin cfg0.N) (q : Fin 8) (n : Fin 512) :
    (outsAt0 (F := Ideal) m c t.val t.isLt).2.2.2.2.2.2.2 (ix2 ⟨q.val, by omega⟩ n) = uB m c t (ix2 ⟨504 + q.val, by omega⟩ n) := by
  unfold uB
  by_cases h : t.val % 8 = 0
  · rw [outsAt0_A m c t h]
    frame_out
    generalize k0_pay4 (F := Ideal) _ _ _ _ _ = u
    simp only [pay6_eq]
    exact keep_last u _ _ q n
  · rw [outsAt0_B m c t h]
    frame_out
    generalize k0_pay4 (F := Ideal) _ _ _ _ _ = u
    simp only [pay6_eq]
    exact keep_last u _ _ q n

/-- The eight rows in front: zeros at a batch's first block, else the block before's last eight. -/
def front (c : Dev nD) (t : Fin cfg0.N) (q : Fin 8) (n : Fin 512) : EReal :=
  if t.val % 8 = 0 then 0 else uB m c ⟨t.val - 1, Nat.lt_of_le_of_lt (Nat.sub_le _ _) t.isLt⟩ (ix2 ⟨504 + q.val, by omega⟩ n)

theorem at10 (c : Dev nD) (t : Fin cfg0.N) (r : Fin 512) (n : Fin 512) :
    (outsAt0 (F := Ideal) m c t.val t.isLt).1 (ix3 0 r n)
      = gB m c t (ix2 r n)
        * (cB0 m c t (ix2 0 n) * back (uB m c t) (front m c t) 2 (by omega) r n
          + cB1 m c t (ix2 0 n) * back (uB m c t) (front m c t) 1 (by omega) r n
          + cB2 m c t (ix2 0 n) * uB m c t (ix2 r n)) := by
  by_cases h : t.val % 8 = 0
  · have hf : front m c t = fun q n => k0_pay5 (F := Ideal) (ix2 q n) := by
      funext q n
      unfold front
      rw [if_pos h, pay5_apply]
    rw [outsAt0_A m c t h, hf]
    frame_out
    unfold gB uB cB0 cB1 cB2
    generalize k0_pay4 (F := Ideal) _ _ _ _ _ = u
    generalize k0_pay3 (F := Ideal) _ _ _ _ _ = g
    simp only [pay6_eq]
    refine (pay7_apply ..).trans ?_
    rw [← ldA7 u k0_pay5 r n, ← ldA6 u k0_pay5 r n]
  · have hf : front m c t = fun q n => (outsAt0 (F := Ideal) m c (t.val - 1) (Nat.lt_of_le_of_lt (Nat.sub_le _ _) t.isLt)).2.2.2.2.2.2.2 (ix2 ⟨q.val, by omega⟩ n) := by
      funext q n
      unfold front
      rw [if_neg h]
      exact (atS m c ⟨t.val - 1, Nat.lt_of_le_of_lt (Nat.sub_le _ _) t.isLt⟩ q n).symm
    rw [outsAt0_B m c t h, hf]
    frame_out
    generalize (outsAt0 (F := Ideal) m c (t.val - 1) (Nat.lt_of_le_of_lt (Nat.sub_le _ _) t.isLt)).2.2.2.2.2.2.2 = S
    unfold gB uB cB0 cB1 cB2
    generalize k0_pay4 (F := Ideal) _ _ _ _ _ = u
    generalize k0_pay3 (F := Ideal) _ _ _ _ _ = g
    simp only [pay6_eq]
    refine (pay7_apply ..).trans ?_
    rw [← ldB7 u _ S (read_unread_whole _ (Memref.isWhole_whole _) _) r n, ← ldB6 u _ S (read_unread_whole _ (Memref.isWhole_whole _) _) r n]

theorem at13 (c : Dev nD) (t : Fin cfg0.N) (y : S1x512x1024.Idx) :
    (outsAt0 (F := Ideal) m c t.val t.isLt).2.2.2.1 y = k0_pay15 (F := Ideal) (hB m c t) (View.ld (iblk m c 4 t) (Rect.unit ![0, 2560] ![1024, 1024] inb_S1024x4352_S1024x1024_0_2560)) (iblk m c 9 t) y := by
  unfold hB
  by_cases h : t.val % 8 = 0
  · rw [outsAt0_A m c t h]
    frame_out
    rfl
  · rw [outsAt0_B m c t h]
    frame_out
    rfl

theorem at14 (c : Dev nD) (t : Fin cfg0.N) (y : S1x512x512.Idx) :
    (outsAt0 (F := Ideal) m c t.val t.isLt).2.2.2.2.1 y = k0_pay16 (F := Ideal) (hB m c t) (View.ld (iblk m c 4 t) (Rect.unit ![0, 3584] ![1024, 512] inb_S1024x4352_S1024x512_0_3584)) y := by
  unfold hB
  by_cases h : t.val % 8 = 0
  · rw [outsAt0_A m c t h]
    frame_out
    rfl
  · rw [outsAt0_B m c t h]
    frame_out
    rfl

theorem at15 (c : Dev nD) (t : Fin cfg0.N) (y : S1x512x128.Idx) :
    (outsAt0 (F := Ideal) m c t.val t.isLt).2.2.2.2.2.1 y = k0_pay17 (F := Ideal) (hB m c t) (View.ld (iblk m c 4 t) (Rect.unit ![0, 4096] ![1024, 128] inb_S1024x4352_S1024x128_0_4096)) y := by
  unfold hB
  by_cases h : t.val % 8 = 0
  · rw [outsAt0_A m c t h]
    frame_out
    rfl
  · rw [outsAt0_B m c t h]
    frame_out
    rfl

theorem at16 (c : Dev nD) (t : Fin cfg0.N) (y : S1x8x512.Idx) :
    (outsAt0 (F := Ideal) m c t.val t.isLt).2.2.2.2.2.2.1 y = k0_pay18 (F := Ideal) (hB m c t) (View.ld (iblk m c 4 t) (Rect.unit ![0, 4224] ![1024, 128] inb_S1024x4352_S1024x128_0_4224)) y := by
  unfold hB
  by_cases h : t.val % 8 = 0
  · rw [outsAt0_A m c t h]
    frame_out
    rfl
  · rw [outsAt0_B m c t h]
    frame_out
    rfl

end Cert.Kernel2Ideal.Hand

end
-- ==== Proof.Inproj.Ref.lean ====
/- The in-projection's reference, read at an index, in the plain numbers of `Cert.Inproj`. -/
module

public import proofs.«01_k».proof.Proof.Gen.Reference2Ideal.Run
public import proofs.«01_k».proof.Proof.Inproj.Spec
public import Idealize.ShloMosaic.Lib.Tactic

@[expose] public section

set_option maxRecDepth 16384

noncomputable section

namespace Cert.Reference2Ideal.Hand

open Cert.Reference2Ideal Cert.Reference2Ideal.Gen Cert.Inproj
open Idealize.ShloMosaic Idealize.ShloMosaic.TcCoe

/-- The normed and modulated rows. -/
def rH (a0 : FVec Ideal S4x4096x1024 .f32) (a1 a2 : FVec Ideal S4x1x1024 .f32) (a3 : FVec Ideal S1x1024 .f32) : FVec Ideal S4x4096x1024 .f32 :=
  addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![1, 2] bcast_S1x1024_S1x1x1024_1_2 a3))) (broadcastInDim S4x4096x1024 ![0, 1, 2] bcast_S4x1x1024_S4x4096x1024_0_1_2 (addf (broadcastInDim S4x1x1024 ![] bcast_S_S4x1x1024 (constant S_ .f32 0x3F800000#32)) a2))) (broadcastInDim S4x4096x1024 ![0, 1, 2] bcast_S4x1x1024_S4x4096x1024_0_1_2 a1)

/-- Their product with the weights. -/
def rZ (h : FVec Ideal S4x4096x1024 .f32) (a4 : FVec Ideal S1024x4352 .bf16) : FVec Ideal S4x4096x4352 .f32 :=
  Host.dotGeneral dot_S4x4096x1024_S1024x4352_S4x4096x4352_2_0_01_1_n_n none h (extf .f32 a4 bitsLt_bf16_f32)

/-- The gated rows, under two rows of zeros. -/
def rP (Z : FVec Ideal S4x4096x4352 .f32) : FVec Ideal S4x4098x512 .f32 :=
  pad S4x4098x512 ![0, 2, 0] ![0, 0, 0] ![0, 0, 0] (mulf (extractStridedSlice S4x4096x512 ![0, 0, 1024] Z slices_S4x4096x4352_S4x4096x512_0_0_1024) (extractStridedSlice S4x4096x512 ![0, 0, 0] Z slices_S4x4096x4352_S4x4096x512_0_0_0)) (sitofp .f32 (constantI S_ 32 0#32)) pads_S4x4096x512_S4x4098x512_000_200_000 h_S_

/-- The convolution's result. -/
def rYa (Z : FVec Ideal S4x4096x4352 .f32) (P : FVec Ideal S4x4098x512 .f32) (a5 : FVec Ideal S3x512 .f32) : FVec Ideal S4x4096x512 .bf16 :=
  truncf .bf16 (mulf (extractStridedSlice S4x4096x512 ![0, 0, 512] Z slices_S4x4096x4352_S4x4096x512_0_0_512) (addf (addf (mulf (broadcastInDim S4x4096x512 ![0, 1, 2] bcast_S1x1x512_S4x4096x512_0_1_2 (broadcastInDim S1x1x512 ![2] bcast_S512_S1x1x512_2 (shapeCast _ (extractStridedSlice S1x512 ![0, 0] a5 slices_S3x512_S1x512_0_0) shapeCasts_S1x512_S512))) (extractStridedSlice S4x4096x512 ![0, 0, 0] P slices_S4x4098x512_S4x4096x512_0_0_0)) (mulf (broadcastInDim S4x4096x512 ![0, 1, 2] bcast_S1x1x512_S4x4096x512_0_1_2 (broadcastInDim S1x1x512 ![2] bcast_S512_S1x1x512_2 (shapeCast _ (extractStridedSlice S1x512 ![1, 0] a5 slices_S3x512_S1x512_1_0) shapeCasts_S1x512_S512))) (extractStridedSlice S4x4096x512 ![0, 1, 0] P slices_S4x4098x512_S4x4096x512_0_1_0))) (mulf (broadcastInDim S4x4096x512 ![0, 1, 2] bcast_S1x1x512_S4x4096x512_0_1_2 (broadcastInDim S1x1x512 ![2] bcast_S512_S1x1x512_2 (shapeCast _ (extractStridedSlice S1x512 ![2, 0] a5 slices_S3x512_S1x512_2_0) shapeCasts_S1x512_S512))) (extractStridedSlice S4x4096x512 ![0, 2, 0] P slices_S4x4098x512_S4x4096x512_0_2_0)))) bitsLt_bf16_f32

/-- A further result. -/
def rV (Z : FVec Ideal S4x4096x4352 .f32) (a9 : FVec Ideal S1x1024 .f32) : FVec Ideal S4x4096x1024 .bf16 :=
  truncf .bf16 (addf (extractStridedSlice S4x4096x1024 ![0, 0, 2560] Z slices_S4x4096x4352_S4x4096x1024_0_0_2560) (broadcastInDim S4x4096x1024 ![0, 1, 2] bcast_S1x1x1024_S4x4096x1024_0_1_2 (broadcastInDim S1x1x1024 ![1, 2] bcast_S1x1024_S1x1x1024_1_2 a9))) bitsLt_bf16_f32

/-- A further result. -/
def rQi (Z : FVec Ideal S4x4096x4352 .f32) : FVec Ideal S4x4096x512 .bf16 :=
  truncf .bf16 (extractStridedSlice S4x4096x512 ![0, 0, 3584] Z slices_S4x4096x4352_S4x4096x512_0_0_3584) bitsLt_bf16_f32

/-- A further result. -/
def rKi (Z : FVec Ideal S4x4096x4352 .f32) : FVec Ideal S4x4096x128 .bf16 :=
  truncf .bf16 (extractStridedSlice S4x4096x128 ![0, 0, 4096] Z slices_S4x4096x4352_S4x4096x128_0_0_4096) bitsLt_bf16_f32

/-- A further result. -/
def rWi (Z : FVec Ideal S4x4096x4352 .f32) : FVec Ideal S4x8x4096 .f32 :=
  transpose S4x8x4096 [0, 2, 1] (mulf (extractStridedSlice S4x4096x8 ![0, 0, 4224] Z slices_S4x4096x4352_S4x4096x8_0_0_4224) (broadcastInDim S4x4096x8 ![] bcast_S_S4x4096x8 (constant S_ .f32 0x3D800000#32))) transposes_S4x4096x8_S4x8x4096_0_2_1

/-- The product, from the arguments. -/
def Zof (m : (ℓ : Loc nD τ sig) → Buf (Elt Ideal) ℓ) (c : Dev nD) : FVec Ideal S4x4096x4352 .f32 :=
  rZ (rH (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = rYa (Zof m c) (rP (Zof m c)) (m ((c.tc : Thread nD τ).loc main_arg5))
      ∧ r.2.mem ((c.tc : Thread nD τ).loc main_v55) = rV (Zof m c) (m ((c.tc : Thread nD τ).loc main_arg9))
      ∧ r.2.mem ((c.tc : Thread nD τ).loc main_v57) = rQi (Zof m c)
      ∧ r.2.mem ((c.tc : Thread nD τ).loc main_v59) = rKi (Zof m c)
      ∧ r.2.mem ((c.tc : Thread nD τ).loc main_v60) = rWi (Zof m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨(h c).1.trans rfl, (h c).2.1.trans rfl, (h c).2.2.1.trans rfl, (h c).2.2.2.1.trans rfl, (h c).2.2.2.2.1.trans rfl, (h c).2.2.2.2.2⟩) (Value.run (F := Ideal) m ρ)

/-- The product at an index. -/
def zAt (a0 : FVec Ideal S4x4096x1024 .f32) (a1 a2 : FVec Ideal S4x1x1024 .f32) (a3 : FVec Ideal S1x1024 .f32) (a4 : FVec Ideal S1024x4352 .bf16)
    (b : Fin 4) (r : Fin 4096) (n : Fin 4352) : EReal :=
  prod (rowH (fun k => a0 (ix3 b r k)) (fun k => a3 (ix2 0 k)) (fun k => a2 (ix3 b 0 k)) (fun k => a1 (ix3 b 0 k))) (fun k n => a4 (ix2 k n)) n

theorem rH_apply (a0 a1 a2 a3) (b : Fin 4) (r : Fin 4096) (k : Fin 1024) :
    rH a0 a1 a2 a3 (ix3 b r k) = rowH (fun k => a0 (ix3 b r k)) (fun k => a3 (ix2 0 k)) (fun k => a2 (ix3 b 0 k)) (fun k => a1 (ix3 b 0 k)) k := by
  unfold rH rowH
  pointwise

theorem rZ_apply (a0 a1 a2 a3 a4) (b : Fin 4) (r : Fin 4096) (n : Fin 4352) :
    rZ (rH a0 a1 a2 a3) a4 (ix3 b r n) = zAt a0 a1 a2 a3 a4 b r n := by
  unfold rZ zAt prod
  simp only [← rH_apply]
  generalize rH a0 a1 a2 a3 = H
  pointwise

/-- The gated row at an index. -/
def uAt (Z : Fin 4 → Fin 4096 → Fin 4352 → EReal) (b : Fin 4) (r : Fin 4096) (n : Fin 512) : EReal :=
  Z b r ⟨1024 + n.val, by omega⟩ * Z b r ⟨n.val, by omega⟩

/-- The gated row p rows above, zero above the first. -/
def uBack (Z : Fin 4 → Fin 4096 → Fin 4352 → EReal) (p : ℕ) (b : Fin 4) (r : Fin 4096) (n : Fin 512) : EReal :=
  if h : p ≤ r.val then uAt Z b ⟨r.val - p, by omega⟩ n else 0

/-- The convolution's result at an index. -/
def yaAt (Z : Fin 4 → Fin 4096 → Fin 4352 → EReal) (a5 : FVec Ideal S3x512 .f32) (b : Fin 4) (r : Fin 4096) (n : Fin 512) : EReal :=
  Z b r ⟨512 + n.val, by omega⟩ * (a5 (ix2 0 n) * uBack Z 2 b r n + a5 (ix2 1 n) * uBack Z 1 b r n + a5 (ix2 2 n) * uAt Z b r n)

theorem rP_apply (Z) (b : Fin 4) (r : Fin 4098) (n : Fin 512) :
    rP Z (ix3 b r n) = if h : 2 ≤ r.val then uAt (fun b r n => Z (ix3 b r n)) b ⟨r.val - 2, by omega⟩ n else 0 := by
  have h0 : (FloatOps.sitofp (F := Ideal) FTy.f32 (0#32) : EReal) = 0 := by
    show (((0#32 : BitVec 32).toInt : ℝ) : EReal) = 0
    simp
  unfold rP uAt
  pointwise
  rw [h0]
  by_cases h : 2 ≤ r.val
  · rw [dif_pos h, dif_pos ⟨h, by omega⟩]
  · rw [dif_neg h, dif_neg (fun hh => h hh.1)]

theorem rYa_apply (Z P a5) (b : Fin 4) (r : Fin 4096) (n : Fin 512) :
    rYa Z P a5 (ix3 b r n) = Z (ix3 b r ⟨512 + n.val, by omega⟩) * (a5 (ix2 0 n) * P (ix3 b ⟨r.val, by omega⟩ n)
      + a5 (ix2 1 n) * P (ix3 b ⟨1 + r.val, by omega⟩ n) + a5 (ix2 2 n) * P (ix3 b ⟨2 + r.val, by omega⟩ n)) := by
  unfold rYa
  pointwise

theorem ya_apply (Z a5) (b : Fin 4) (r : Fin 4096) (n : Fin 512) :
    rYa Z (rP Z) a5 (ix3 b r n) = yaAt (fun b r n => Z (ix3 b r n)) a5 b r n := by
  rw [rYa_apply]
  unfold yaAt uBack
  have e2 : rP Z (ix3 b ⟨2 + r.val, by omega⟩ n) = uAt (fun b r n => Z (ix3 b r n)) b r n := by
    rw [rP_apply, dif_pos (by show 2 ≤ 2 + r.val; omega)]
    exact congrArg (fun q => uAt (fun b r n => Z (ix3 b r n)) b q n) (Fin.ext (by show 2 + r.val - 2 = r.val; omega))
  have e1 : rP Z (ix3 b ⟨1 + r.val, by omega⟩ n) = if h : 1 ≤ r.val then uAt (fun b r n => Z (ix3 b r n)) b ⟨r.val - 1, by omega⟩ n else 0 := by
    rw [rP_apply]
    by_cases h : 1 ≤ r.val
    · rw [dif_pos h, dif_pos (by show 2 ≤ 1 + r.val; omega)]
      exact congrArg (fun q => uAt (fun b r n => Z (ix3 b r n)) b q n) (Fin.ext (by show 1 + r.val - 2 = r.val - 1; omega))
    · rw [dif_neg h, dif_neg (by show ¬2 ≤ 1 + r.val; omega)]
  rw [e2, e1, rP_apply]

theorem rV_apply (Z a9) (b : Fin 4) (r : Fin 4096) (n : Fin 1024) :
    rV Z a9 (ix3 b r n) = Z (ix3 b r ⟨2560 + n.val, by omega⟩) + a9 (ix2 0 n) := by
  unfold rV
  pointwise

theorem rQi_apply (Z) (b : Fin 4) (r : Fin 4096) (n : Fin 512) :
    rQi Z (ix3 b r n) = Z (ix3 b r ⟨3584 + n.val, by omega⟩) := by
  unfold rQi
  pointwise

theorem rKi_apply (Z) (b : Fin 4) (r : Fin 4096) (n : Fin 128) :
    rKi Z (ix3 b r n) = Z (ix3 b r ⟨4096 + n.val, by omega⟩) := by
  unfold rKi
  pointwise

theorem rWi_apply (Z) (b : Fin 4) (n : Fin 8) (r : Fin 4096) :
    rWi Z (ix3 b n r) = Z (ix3 b r ⟨4224 + n.val, by omega⟩) * Ideal.ofBits .f32 0x3D800000#32 := by
  unfold rWi
  pointwise

end Cert.Reference2Ideal.Hand

end
-- ==== Proof.Inproj.Value.lean ====
/- The in-projection's output arrays after the run, at an index, and the reference's equal to them. -/
module

public import proofs.«01_k».proof.Proof.Gen.Kernel2Ideal.Value
public import proofs.«01_k».proof.Proof.Inproj.Out
public import proofs.«01_k».proof.Proof.Inproj.Ref
public import Idealize.ShloMosaic.Lib.Pipeline.Covers
public import Idealize.ShloMosaic.Lib.Pipeline.ValueKit
public import Idealize.ShloMosaic.Lib.Tactic

@[expose] public section

set_option maxRecDepth 16384

noncomputable section

namespace Cert.Kernel2Ideal.Hand

open Cert.Kernel2Ideal Cert.Kernel2Ideal.Gen Cert.Inproj
open Cert.Reference2Ideal.Hand (zAt uAt uBack yaAt)
open Idealize.ShloMosaic Idealize.ShloMosaic.TcCoe

variable (m : (ℓ : Loc nD τ sig) → Buf (Elt Ideal) ℓ)

abbrev a0 (c : Dev nD) : FVec Ideal S4x4096x1024 .f32 := m ((c.tc : Thread nD τ).loc main_arg0)
abbrev a1 (c : Dev nD) : FVec Ideal S4x1x1024 .f32 := m ((c.tc : Thread nD τ).loc main_arg1)
abbrev a2 (c : Dev nD) : FVec Ideal S4x1x1024 .f32 := m ((c.tc : Thread nD τ).loc main_arg2)
abbrev a3 (c : Dev nD) : FVec Ideal S1x1024 .f32 := m ((c.tc : Thread nD τ).loc main_arg3)
abbrev a4 (c : Dev nD) : FVec Ideal S1024x4352 .bf16 := m ((c.tc : Thread nD τ).loc main_arg4)
abbrev a5 (c : Dev nD) : FVec Ideal S3x512 .f32 := m ((c.tc : Thread nD τ).loc main_arg5)
abbrev a9 (c : Dev nD) : FVec Ideal S1x1024 .f32 := m ((c.tc : Thread nD τ).loc main_arg9)

theorem N32 : cfg0.N = 32 := N_0

theorem ix0 : ∀ t : Fin cfg0.N, win0_0.index t = ![t.val / 8, t.val % 8, 0] := (by decide +kernel : ∀ t : Fin grid0.N, win0_0.index t = ![t.val / 8, t.val % 8, 0])
theorem jx1 : ∀ t : Fin cfg0.N, win0_1.index t = ![t.val / 8, 0, 0] := (by decide +kernel : ∀ t : Fin grid0.N, win0_1.index t = ![t.val / 8, 0, 0])
theorem jx2 : ∀ t : Fin cfg0.N, win0_2.index t = ![t.val / 8, 0, 0] := (by decide +kernel : ∀ t : Fin grid0.N, win0_2.index t = ![t.val / 8, 0, 0])
theorem jx3 : ∀ t : Fin cfg0.N, win0_3.index t = ![0, 0] := (by decide +kernel : ∀ t : Fin grid0.N, win0_3.index t = ![0, 0])
theorem jx4 : ∀ t : Fin cfg0.N, win0_4.index t = ![0, 0] := (by decide +kernel : ∀ t : Fin grid0.N, win0_4.index t = ![0, 0])
theorem jx5 : ∀ t : Fin cfg0.N, win0_5.index t = ![0, 0] := (by decide +kernel : ∀ t : Fin grid0.N, win0_5.index t = ![0, 0])
theorem jx9 : ∀ t : Fin cfg0.N, win0_9.index t = ![0, 0] := (by decide +kernel : ∀ t : Fin grid0.N, win0_9.index t = ![0, 0])
theorem jx10 : ∀ t : Fin cfg0.N, win0_10.index t = ![t.val / 8, t.val % 8, 0] := (by decide +kernel : ∀ t : Fin grid0.N, win0_10.index t = ![t.val / 8, t.val % 8, 0])
theorem jx13 : ∀ t : Fin cfg0.N, win0_13.index t = ![t.val / 8, t.val % 8, 0] := (by decide +kernel : ∀ t : Fin grid0.N, win0_13.index t = ![t.val / 8, t.val % 8, 0])
theorem jx14 : ∀ t : Fin cfg0.N, win0_14.index t = ![t.val / 8, t.val % 8, 0] := (by decide +kernel : ∀ t : Fin grid0.N, win0_14.index t = ![t.val / 8, t.val % 8, 0])
theorem jx15 : ∀ t : Fin cfg0.N, win0_15.index t = ![t.val / 8, t.val % 8, 0] := (by decide +kernel : ∀ t : Fin grid0.N, win0_15.index t = ![t.val / 8, t.val % 8, 0])
theorem jx16 : ∀ t : Fin cfg0.N, win0_16.index t = ![t.val / 8, 0, t.val % 8] := (by decide +kernel : ∀ t : Fin grid0.N, win0_16.index t = ![t.val / 8, 0, t.val % 8])

/-- The point's batch and the row's place in it. -/
abbrev bt (t : Fin cfg0.N) : Fin 4 := ⟨t.val / 8, by have := t.isLt; have := N32; omega⟩
abbrev rt (t : Fin cfg0.N) (r : Fin 512) : Fin 4096 := ⟨512 * (t.val % 8) + r.val, by omega⟩

theorem ib0 (c : Dev nD) (t : Fin cfg0.N) (r : Fin 512) (k : Fin 1024) :
    (iblk m c 0 t : FVec Ideal S1x512x1024 .f32) (ix3 0 r k) = a0 m c (ix3 (bt t) (rt t r) k) := by
  show V m c main_arg0 (((cfg0.win 0).blk t).view.emb (ix3 0 r k)) = _
  refine congrArg (a0 m c) (funext fun a => Fin.ext ?_)
  blk_simp [ix0]
  match a with
  | 0 => show t.val / 8 * 1 + 0 = t.val / 8; omega
  | 1 => show t.val % 8 * 512 + r.val = 512 * (t.val % 8) + r.val; omega
  | 2 => show 0 * 1024 + k.val = k.val; omega

theorem ib1 (c : Dev nD) (t : Fin cfg0.N) (k : Fin 1024) :
    (iblk m c 1 t : FVec Ideal S1x1x1024 .f32) (ix3 0 0 k) = a1 m c (ix3 (bt t) 0 k) := by
  show V m c main_arg1 (((cfg0.win 1).blk t).view.emb (ix3 0 0 k)) = _
  refine congrArg (a1 m c) (funext fun a => Fin.ext ?_)
  blk_simp [jx1]
  match a with
  | 0 => show t.val / 8 * 1 + 0 = t.val / 8; omega
  | 1 => show 0 * 1 + 0 = 0; omega
  | 2 => show 0 * 1024 + k.val = k.val; omega

theorem ib2 (c : Dev nD) (t : Fin cfg0.N) (k : Fin 1024) :
    (iblk m c 2 t : FVec Ideal S1x1x1024 .f32) (ix3 0 0 k) = a2 m c (ix3 (bt t) 0 k) := by
  show V m c main_arg2 (((cfg0.win 2).blk t).view.emb (ix3 0 0 k)) = _
  refine congrArg (a2 m c) (funext fun a => Fin.ext ?_)
  blk_simp [jx2]
  match a with
  | 0 => show t.val / 8 * 1 + 0 = t.val / 8; omega
  | 1 => show 0 * 1 + 0 = 0; omega
  | 2 => show 0 * 1024 + k.val = k.val; omega

theorem ib3 (c : Dev nD) (t : Fin cfg0.N) : (iblk m c 3 t : FVec Ideal S1x1024 .f32) = a3 m c := by
  funext i
  show V m c main_arg3 (((cfg0.win 3).blk t).view.emb i) = _
  refine congrArg (a3 m c) (funext fun a => Fin.ext ?_)
  blk_simp [jx3]
  match a with
  | 0 => show 0 * 1 + (i 0).val = (i 0).val; omega
  | 1 => show 0 * 1024 + (i 1).val = (i 1).val; omega

theorem ib4 (c : Dev nD) (t : Fin cfg0.N) : (iblk m c 4 t : FVec Ideal S1024x4352 .bf16) = a4 m c := by
  funext i
  show V m c main_arg4 (((cfg0.win 4).blk t).view.emb i) = _
  refine congrArg (a4 m c) (funext fun a => Fin.ext ?_)
  blk_simp [jx4]
  match a with
  | 0 => show 0 * 1024 + (i 0).val = (i 0).val; omega
  | 1 => show 0 * 4352 + (i 1).val = (i 1).val; omega

theorem ib5 (c : Dev nD) (t : Fin cfg0.N) : (iblk m c 5 t : FVec Ideal S3x512 .f32) = a5 m c := by
  funext i
  show V m c main_arg5 (((cfg0.win 5).blk t).view.emb i) = _
  refine congrArg (a5 m c) (funext fun a => Fin.ext ?_)
  blk_simp [jx5]
  match a with
  | 0 => show 0 * 3 + (i 0).val = (i 0).val; omega
  | 1 => show 0 * 512 + (i 1).val = (i 1).val; omega

theorem ib9 (c : Dev nD) (t : Fin cfg0.N) : (iblk m c 9 t : FVec Ideal S1x1024 .f32) = a9 m c := by
  funext i
  show V m c main_arg9 (((cfg0.win 9).blk t).view.emb i) = _
  refine congrArg (a9 m c) (funext fun a => Fin.ext ?_)
  blk_simp [jx9]
  match a with
  | 0 => show 0 * 1 + (i 0).val = (i 0).val; omega
  | 1 => show 0 * 1024 + (i 1).val = (i 1).val; omega

/-- The product at an index, from the kernel's arguments. -/
abbrev Zc (c : Dev nD) : Fin 4 → Fin 4096 → Fin 4352 → EReal := zAt (a0 m c) (a1 m c) (a2 m c) (a3 m c) (a4 m c)

theorem hB_apply (c : Dev nD) (t : Fin cfg0.N) (r : Fin 512) (k : Fin 1024) :
    hB m c t (ix2 r k) = rowH (fun k => a0 m c (ix3 (bt t) (rt t r) k)) (fun k => a3 m c (ix2 0 k)) (fun k => a2 m c (ix3 (bt t) 0 k)) (fun k => a1 m c (ix3 (bt t) 0 k)) k := by
  unfold hB
  refine (pay1_apply (iblk m c 0 t) (iblk m c 3 t) (iblk m c 2 t) (iblk m c 1 t) r k).trans ?_
  simp only [ib0, ib1, ib2, ib3]

theorem w0 (X : FVec Ideal S1024x4352 .bf16) (k : Fin 1024) (n : Fin 1536) :
    (View.ld (Val := Elt Ideal) (e' := .bf16) X (Rect.unit (s := S1024x4352) ![0, 0] ![1024, 1536] inb_S1024x4352_S1024x1536_0_0) : FVec Ideal S1024x1536 .bf16) (ix2 k n) = X (ix2 k ⟨0 + n.val, by omega⟩) := by
  show X ((Rect.unit (s := S1024x4352) ![0, 0] ![1024, 1536] inb_S1024x4352_S1024x1536_0_0).toLoadRect.idx (ix2 k n : S1024x1536.Idx)) = _
  refine congrArg X (funext fun a => Fin.ext ?_)
  match a with
  | 0 => show 0 + 1 * k.val = k.val; omega
  | 1 => show 0 + 1 * n.val = 0 + n.val; omega

/-- The block's rows times these columns. -/
theorem p0 (c : Dev nD) (t : Fin cfg0.N) (r : Fin 512) (n : Fin 1536) :
    prod (fun k => hB m c t (ix2 r k)) (fun k (n : Fin 1536) => (View.ld (iblk m c 4 t) (Rect.unit ![0, 0] ![1024, 1536] inb_S1024x4352_S1024x1536_0_0) : FVec Ideal S1024x1536 .bf16) (ix2 k n)) n
      = Zc m c (bt t) (rt t r) ⟨0 + n.val, by omega⟩ := by
  unfold Zc zAt prod
  simp only [hB_apply]
  refine Finset.sum_congr rfl fun k _ => ?_
  refine congrArg _ ((w0 (iblk m c 4 t) k n).trans ?_)
  rw [ib4]

theorem w2560 (X : FVec Ideal S1024x4352 .bf16) (k : Fin 1024) (n : Fin 1024) :
    (View.ld (Val := Elt Ideal) (e' := .bf16) X (Rect.unit (s := S1024x4352) ![0, 2560] ![1024, 1024] inb_S1024x4352_S1024x1024_0_2560) : FVec Ideal S1024x1024 .bf16) (ix2 k n) = X (ix2 k ⟨2560 + n.val, by omega⟩) := by
  show X ((Rect.unit (s := S1024x4352) ![0, 2560] ![1024, 1024] inb_S1024x4352_S1024x1024_0_2560).toLoadRect.idx (ix2 k n : S1024x1024.Idx)) = _
  refine congrArg X (funext fun a => Fin.ext ?_)
  match a with
  | 0 => show 0 + 1 * k.val = k.val; omega
  | 1 => show 2560 + 1 * n.val = 2560 + n.val; omega

/-- The block's rows times these columns. -/
theorem p2560 (c : Dev nD) (t : Fin cfg0.N) (r : Fin 512) (n : Fin 1024) :
    prod (fun k => hB m c t (ix2 r k)) (fun k (n : Fin 1024) => (View.ld (iblk m c 4 t) (Rect.unit ![0, 2560] ![1024, 1024] inb_S1024x4352_S1024x1024_0_2560) : FVec Ideal S1024x1024 .bf16) (ix2 k n)) n
      = Zc m c (bt t) (rt t r) ⟨2560 + n.val, by omega⟩ := by
  unfold Zc zAt prod
  simp only [hB_apply]
  refine Finset.sum_congr rfl fun k _ => ?_
  refine congrArg _ ((w2560 (iblk m c 4 t) k n).trans ?_)
  rw [ib4]

theorem w3584 (X : FVec Ideal S1024x4352 .bf16) (k : Fin 1024) (n : Fin 512) :
    (View.ld (Val := Elt Ideal) (e' := .bf16) X (Rect.unit (s := S1024x4352) ![0, 3584] ![1024, 512] inb_S1024x4352_S1024x512_0_3584) : FVec Ideal S1024x512 .bf16) (ix2 k n) = X (ix2 k ⟨3584 + n.val, by omega⟩) := by
  show X ((Rect.unit (s := S1024x4352) ![0, 3584] ![1024, 512] inb_S1024x4352_S1024x512_0_3584).toLoadRect.idx (ix2 k n : S1024x512.Idx)) = _
  refine congrArg X (funext fun a => Fin.ext ?_)
  match a with
  | 0 => show 0 + 1 * k.val = k.val; omega
  | 1 => show 3584 + 1 * n.val = 3584 + n.val; omega

/-- The block's rows times these columns. -/
theorem p3584 (c : Dev nD) (t : Fin cfg0.N) (r : Fin 512) (n : Fin 512) :
    prod (fun k => hB m c t (ix2 r k)) (fun k (n : Fin 512) => (View.ld (iblk m c 4 t) (Rect.unit ![0, 3584] ![1024, 512] inb_S1024x4352_S1024x512_0_3584) : FVec Ideal S1024x512 .bf16) (ix2 k n)) n
      = Zc m c (bt t) (rt t r) ⟨3584 + n.val, by omega⟩ := by
  unfold Zc zAt prod
  simp only [hB_apply]
  refine Finset.sum_congr rfl fun k _ => ?_
  refine congrArg _ ((w3584 (iblk m c 4 t) k n).trans ?_)
  rw [ib4]

theorem w4096 (X : FVec Ideal S1024x4352 .bf16) (k : Fin 1024) (n : Fin 128) :
    (View.ld (Val := Elt Ideal) (e' := .bf16) X (Rect.unit (s := S1024x4352) ![0, 4096] ![1024, 128] inb_S1024x4352_S1024x128_0_4096) : FVec Ideal S1024x128 .bf16) (ix2 k n) = X (ix2 k ⟨4096 + n.val, by omega⟩) := by
  show X ((Rect.unit (s := S1024x4352) ![0, 4096] ![1024, 128] inb_S1024x4352_S1024x128_0_4096).toLoadRect.idx (ix2 k n : S1024x128.Idx)) = _
  refine congrArg X (funext fun a => Fin.ext ?_)
  match a with
  | 0 => show 0 + 1 * k.val = k.val; omega
  | 1 => show 4096 + 1 * n.val = 4096 + n.val; omega

/-- The block's rows times these columns. -/
theorem p4096 (c : Dev nD) (t : Fin cfg0.N) (r : Fin 512) (n : Fin 128) :
    prod (fun k => hB m c t (ix2 r k)) (fun k (n : Fin 128) => (View.ld (iblk m c 4 t) (Rect.unit ![0, 4096] ![1024, 128] inb_S1024x4352_S1024x128_0_4096) : FVec Ideal S1024x128 .bf16) (ix2 k n)) n
      = Zc m c (bt t) (rt t r) ⟨4096 + n.val, by omega⟩ := by
  unfold Zc zAt prod
  simp only [hB_apply]
  refine Finset.sum_congr rfl fun k _ => ?_
  refine congrArg _ ((w4096 (iblk m c 4 t) k n).trans ?_)
  rw [ib4]

theorem w4224 (X : FVec Ideal S1024x4352 .bf16) (k : Fin 1024) (n : Fin 128) :
    (View.ld (Val := Elt Ideal) (e' := .bf16) X (Rect.unit (s := S1024x4352) ![0, 4224] ![1024, 128] inb_S1024x4352_S1024x128_0_4224) : FVec Ideal S1024x128 .bf16) (ix2 k n) = X (ix2 k ⟨4224 + n.val, by omega⟩) := by
  show X ((Rect.unit (s := S1024x4352) ![0, 4224] ![1024, 128] inb_S1024x4352_S1024x128_0_4224).toLoadRect.idx (ix2 k n : S1024x128.Idx)) = _
  refine congrArg X (funext fun a => Fin.ext ?_)
  match a with
  | 0 => show 0 + 1 * k.val = k.val; omega
  | 1 => show 4224 + 1 * n.val = 4224 + n.val; omega

/-- The block's rows times these columns. -/
theorem p4224 (c : Dev nD) (t : Fin cfg0.N) (r : Fin 512) (n : Fin 128) :
    prod (fun k => hB m c t (ix2 r k)) (fun k (n : Fin 128) => (View.ld (iblk m c 4 t) (Rect.unit ![0, 4224] ![1024, 128] inb_S1024x4352_S1024x128_0_4224) : FVec Ideal S1024x128 .bf16) (ix2 k n)) n
      = Zc m c (bt t) (rt t r) ⟨4224 + n.val, by omega⟩ := by
  unfold Zc zAt prod
  simp only [hB_apply]
  refine Finset.sum_congr rfl fun k _ => ?_
  refine congrArg _ ((w4224 (iblk m c 4 t) k n).trans ?_)
  rw [ib4]

theorem z0 (c : Dev nD) (t : Fin cfg0.N) (r : Fin 512) (n : Fin 1536) :
    k0_pay2 (F := Ideal) (iblk m c 0 t) (iblk m c 3 t) (iblk m c 2 t) (iblk m c 1 t)
      (View.ld (iblk m c 4 t) (Rect.unit ![0, 0] ![1024, 1536] inb_S1024x4352_S1024x1536_0_0)) (ix2 r n) = Zc m c (bt t) (rt t r) ⟨n.val, by omega⟩ := by
  refine (pay2_apply (iblk m c 0 t) (iblk m c 3 t) (iblk m c 2 t) (iblk m c 1 t) _ r n).trans ?_
  refine (p0 m c t r n).trans ?_
  exact congrArg (Zc m c (bt t) (rt t r)) (Fin.ext (Nat.zero_add _))

theorem gB_apply (c : Dev nD) (t : Fin cfg0.N) (r n : Fin 512) :
    gB m c t (ix2 r n) = Zc m c (bt t) (rt t r) ⟨512 + n.val, by omega⟩ := by
  unfold gB
  exact (pay3_apply (iblk m c 0 t) (iblk m c 3 t) (iblk m c 2 t) (iblk m c 1 t) _ r n).trans (z0 m c t r _)

theorem uB_apply (c : Dev nD) (t : Fin cfg0.N) (r n : Fin 512) :
    uB m c t (ix2 r n) = uAt (Zc m c) (bt t) (rt t r) n := by
  unfold uB uAt
  refine (pay4_apply (iblk m c 0 t) (iblk m c 3 t) (iblk m c 2 t) (iblk m c 1 t) _ r n).trans ?_
  exact congrArg₂ (· * ·) (z0 m c t r _) (z0 m c t r _)

theorem uAt_congr (Z : Fin 4 → Fin 4096 → Fin 4352 → EReal) {b b' : Fin 4} {r r' : Fin 4096} (n : Fin 512) (hb : b.val = b'.val) (hr : r.val = r'.val) :
    uAt Z b r n = uAt Z b' r' n := by rw [Fin.ext hb, Fin.ext hr]

theorem back_apply (c : Dev nD) (t : Fin cfg0.N) (p : ℕ) (hp : p ≤ 8) (r n : Fin 512) :
    back (uB m c t) (front m c t) p hp r n = uBack (Zc m c) p (bt t) (rt t r) n := by
  unfold back uBack
  have hN := N32
  have ht := t.isLt
  by_cases h : p ≤ r.val
  · rw [dif_pos h, dif_pos (by show p ≤ 512 * (t.val % 8) + r.val; omega), uB_apply]
    exact uAt_congr _ n rfl (by show 512 * (t.val % 8) + (r.val - p) = 512 * (t.val % 8) + r.val - p; omega)
  · rw [dif_neg h]
    unfold front
    by_cases h0 : t.val % 8 = 0
    · rw [if_pos h0, dif_neg (by show ¬p ≤ 512 * (t.val % 8) + r.val; omega)]
    · rw [if_neg h0, dif_pos (by show p ≤ 512 * (t.val % 8) + r.val; omega), uB_apply]
      exact uAt_congr _ n (by show (t.val - 1) / 8 = t.val / 8; omega)
        (by show 512 * ((t.val - 1) % 8) + (504 + (8 - p + r.val)) = 512 * (t.val % 8) + r.val - p; omega)

theorem cB0_apply (c : Dev nD) (t : Fin cfg0.N) (n : Fin 512) : cB0 m c t (ix2 0 n) = a5 m c (ix2 0 n) := by
  unfold cB0
  refine (show _ = (iblk m c 5 t : FVec Ideal S3x512 .f32) ((Rect.unit (s := S3x512) ![0, 0] ![1, 512] inb_S3x512_S1x512_0_0).toLoadRect.idx (ix2 0 n : S1x512.Idx)) from rfl).trans ?_
  rw [ib5]
  refine congrArg (a5 m c) (funext fun a => Fin.ext ?_)
  match a with
  | 0 => rfl
  | 1 => show 0 + 1 * n.val = n.val; omega

theorem cB1_apply (c : Dev nD) (t : Fin cfg0.N) (n : Fin 512) : cB1 m c t (ix2 0 n) = a5 m c (ix2 1 n) := by
  unfold cB1
  refine (show _ = (iblk m c 5 t : FVec Ideal S3x512 .f32) ((Rect.unit (s := S3x512) ![1, 0] ![1, 512] inb_S3x512_S1x512_1_0).toLoadRect.idx (ix2 0 n : S1x512.Idx)) from rfl).trans ?_
  rw [ib5]
  refine congrArg (a5 m c) (funext fun a => Fin.ext ?_)
  match a with
  | 0 => rfl
  | 1 => show 0 + 1 * n.val = n.val; omega

theorem cB2_apply (c : Dev nD) (t : Fin cfg0.N) (n : Fin 512) : cB2 m c t (ix2 0 n) = a5 m c (ix2 2 n) := by
  unfold cB2
  refine (show _ = (iblk m c 5 t : FVec Ideal S3x512 .f32) ((Rect.unit (s := S3x512) ![2, 0] ![1, 512] inb_S3x512_S1x512_2_0).toLoadRect.idx (ix2 0 n : S1x512.Idx)) from rfl).trans ?_
  rw [ib5]
  refine congrArg (a5 m c) (funext fun a => Fin.ext ?_)
  match a with
  | 0 => rfl
  | 1 => show 0 + 1 * n.val = n.val; omega

/-! ## The arrays after the run: the reference's, of the kernel's arguments -/

/-- The product's array. -/
def Zarr (c : Dev nD) : FVec Ideal Cert.Reference2Ideal.S4x4096x4352 .f32 :=
  Cert.Reference2Ideal.Hand.rZ (Cert.Reference2Ideal.Hand.rH (a0 m c) (a1 m c) (a2 m c) (a3 m c)) (a4 m c)

theorem Zarr_apply (c : Dev nD) (b : Fin 4) (r : Fin 4096) (n : Fin 4352) : Zarr m c (ix3 b r n) = Zc m c b r n :=
  Cert.Reference2Ideal.Hand.rZ_apply ..

def oYa (c : Dev nD) : FVec Ideal S4x4096x512 .bf16 := Cert.Reference2Ideal.Hand.rYa (Zarr m c) (Cert.Reference2Ideal.Hand.rP (Zarr m c)) (a5 m c)
def oV (c : Dev nD) : FVec Ideal S4x4096x1024 .bf16 := Cert.Reference2Ideal.Hand.rV (Zarr m c) (a9 m c)
def oQi (c : Dev nD) : FVec Ideal S4x4096x512 .bf16 := Cert.Reference2Ideal.Hand.rQi (Zarr m c)
def oKi (c : Dev nD) : FVec Ideal S4x4096x128 .bf16 := Cert.Reference2Ideal.Hand.rKi (Zarr m c)
def oWi (c : Dev nD) : FVec Ideal S4x8x4096 .f32 := Cert.Reference2Ideal.Hand.rWi (Zarr m c)

theorem val10 (c : Dev nD) (t : Fin cfg0.N) (r : Fin 512) (n : Fin 512) :
    (outsAt0 (F := Ideal) m c t.val t.isLt).1 (ix3 0 r n) = oYa m c (ix3 (bt t) (rt t r) n) := by
  refine (at10 m c t r n).trans ?_
  unfold oYa
  rw [gB_apply, cB0_apply, cB1_apply, cB2_apply, back_apply, back_apply, uB_apply]
  refine Eq.trans ?_ (Cert.Reference2Ideal.Hand.ya_apply (Zarr m c) (a5 m c) (bt t) (rt t r) n).symm
  rw [show (fun b r n => Zarr m c (ix3 b r n)) = Zc m c from funext fun b => funext fun r => funext fun n => Zarr_apply m c b r n]
  rfl

theorem val13 (c : Dev nD) (t : Fin cfg0.N) (r : Fin 512) (n : Fin 1024) :
    (outsAt0 (F := Ideal) m c t.val t.isLt).2.2.2.1 (ix3 0 r n) = oV m c (ix3 (bt t) (rt t r) n) := by
  refine (at13 m c t (ix3 0 r n)).trans ?_
  refine (pay15_apply ..).trans ?_
  refine Eq.trans ?_ (Cert.Reference2Ideal.Hand.rV_apply (Zarr m c) (a9 m c) (bt t) (rt t r) n).symm
  rw [Zarr_apply, p2560, ib9]

theorem val14 (c : Dev nD) (t : Fin cfg0.N) (r : Fin 512) (n : Fin 512) :
    (outsAt0 (F := Ideal) m c t.val t.isLt).2.2.2.2.1 (ix3 0 r n) = oQi m c (ix3 (bt t) (rt t r) n) := by
  refine (at14 m c t (ix3 0 r n)).trans ?_
  refine (pay16_apply ..).trans ?_
  refine Eq.trans ?_ (Cert.Reference2Ideal.Hand.rQi_apply (Zarr m c) (bt t) (rt t r) n).symm
  rw [Zarr_apply, p3584]

theorem val15 (c : Dev nD) (t : Fin cfg0.N) (r : Fin 512) (n : Fin 128) :
    (outsAt0 (F := Ideal) m c t.val t.isLt).2.2.2.2.2.1 (ix3 0 r n) = oKi m c (ix3 (bt t) (rt t r) n) := by
  refine (at15 m c t (ix3 0 r n)).trans ?_
  refine (pay17_apply ..).trans ?_
  refine Eq.trans ?_ (Cert.Reference2Ideal.Hand.rKi_apply (Zarr m c) (bt t) (rt t r) n).symm
  rw [Zarr_apply, p4096]

theorem val16 (c : Dev nD) (t : Fin cfg0.N) (n : Fin 8) (r : Fin 512) :
    (outsAt0 (F := Ideal) m c t.val t.isLt).2.2.2.2.2.2.1 (ix3 0 n r) = oWi m c (ix3 (bt t) n (rt t r)) := by
  refine (at16 m c t (ix3 0 n r)).trans ?_
  refine (pay18_apply ..).trans ?_
  refine Eq.trans ?_ (Cert.Reference2Ideal.Hand.rWi_apply (Zarr m c) (bt t) n (rt t r)).symm
  rw [Zarr_apply, p4224]

theorem eta3 {A B C : ℕ} (y : (⟨3, ![A, B, C]⟩ : Shape).Idx) : y = ix3 (y 0) (y 1) (y 2) := by
  funext a
  match a with
  | 0 => rfl
  | 1 => rfl
  | 2 => rfl

theorem emb10 (t : Fin cfg0.N) (y : S1x512x512.Idx) :
    (((cfg0.win 10).blk t).view.emb y : S4x4096x512.Idx) = ix3 (bt t) (rt t (y 1)) (y 2) := by
  have hy : (y 0).val = 0 := by have : (y 0).val < 1 := (y 0).isLt; omega
  refine funext fun a => Fin.ext ?_
  blk_simp [jx10]
  match a with
  | 0 => show t.val / 8 * 1 + (y 0).val = t.val / 8; omega
  | 1 => show t.val % 8 * 512 + (y 1).val = 512 * (t.val % 8) + (y 1).val; omega
  | 2 => show 0 * 512 + (y 2).val = (y 2).val; omega

theorem arr10 (c : Dev nD) : (dats m 0 c).arrAt 10 cfg0.N = oYa m c := by
  have key : ∀ (t : Fin cfg0.N) (y : S1x512x512.Idx), (dats m 0 c).after 10 t y = oYa m c (((cfg0.win 10).blk t).view.emb y) := by
    intro t y
    have hy : y 0 = (0 : Fin 1) := Fin.ext (by have : (y 0).val < 1 := (y 0).isLt; show (y 0).val = 0; omega)
    rw [after0_10]
    refine Eq.trans ?_ ((val10 m c t (y 1) (y 2)).trans (congrArg (oYa m c) (emb10 t y)).symm)
    refine congrArg _ ((eta3 y).trans ?_)
    rw [hy]
    rfl
  generalize oYa m c = G at key ⊢
  exact (dats m 0 c).arrAt_eq_of_covers 10 G (by decide +kernel) fun t hf y => key t y

theorem emb13 (t : Fin cfg0.N) (y : S1x512x1024.Idx) :
    (((cfg0.win 13).blk t).view.emb y : S4x4096x1024.Idx) = ix3 (bt t) (rt t (y 1)) (y 2) := by
  have hy : (y 0).val = 0 := by have : (y 0).val < 1 := (y 0).isLt; omega
  refine funext fun a => Fin.ext ?_
  blk_simp [jx13]
  match a with
  | 0 => show t.val / 8 * 1 + (y 0).val = t.val / 8; omega
  | 1 => show t.val % 8 * 512 + (y 1).val = 512 * (t.val % 8) + (y 1).val; omega
  | 2 => show 0 * 1024 + (y 2).val = (y 2).val; omega

theorem arr13 (c : Dev nD) : (dats m 0 c).arrAt 13 cfg0.N = oV m c := by
  have key : ∀ (t : Fin cfg0.N) (y : S1x512x1024.Idx), (dats m 0 c).after 13 t y = oV m c (((cfg0.win 13).blk t).view.emb y) := by
    intro t y
    have hy : y 0 = (0 : Fin 1) := Fin.ext (by have : (y 0).val < 1 := (y 0).isLt; show (y 0).val = 0; omega)
    rw [after0_13]
    refine Eq.trans ?_ ((val13 m c t (y 1) (y 2)).trans (congrArg (oV m c) (emb13 t y)).symm)
    refine congrArg _ ((eta3 y).trans ?_)
    rw [hy]
    rfl
  generalize oV m c = G at key ⊢
  exact (dats m 0 c).arrAt_eq_of_covers 13 G (by decide +kernel) fun t hf y => key t y

theorem emb14 (t : Fin cfg0.N) (y : S1x512x512.Idx) :
    (((cfg0.win 14).blk t).view.emb y : S4x4096x512.Idx) = ix3 (bt t) (rt t (y 1)) (y 2) := by
  have hy : (y 0).val = 0 := by have : (y 0).val < 1 := (y 0).isLt; omega
  refine funext fun a => Fin.ext ?_
  blk_simp [jx14]
  match a with
  | 0 => show t.val / 8 * 1 + (y 0).val = t.val / 8; omega
  | 1 => show t.val % 8 * 512 + (y 1).val = 512 * (t.val % 8) + (y 1).val; omega
  | 2 => show 0 * 512 + (y 2).val = (y 2).val; omega

theorem arr14 (c : Dev nD) : (dats m 0 c).arrAt 14 cfg0.N = oQi m c := by
  have key : ∀ (t : Fin cfg0.N) (y : S1x512x512.Idx), (dats m 0 c).after 14 t y = oQi m c (((cfg0.win 14).blk t).view.emb y) := by
    intro t y
    have hy : y 0 = (0 : Fin 1) := Fin.ext (by have : (y 0).val < 1 := (y 0).isLt; show (y 0).val = 0; omega)
    rw [after0_14]
    refine Eq.trans ?_ ((val14 m c t (y 1) (y 2)).trans (congrArg (oQi m c) (emb14 t y)).symm)
    refine congrArg _ ((eta3 y).trans ?_)
    rw [hy]
    rfl
  generalize oQi m c = G at key ⊢
  exact (dats m 0 c).arrAt_eq_of_covers 14 G (by decide +kernel) fun t hf y => key t y

theorem emb15 (t : Fin cfg0.N) (y : S1x512x128.Idx) :
    (((cfg0.win 15).blk t).view.emb y : S4x4096x128.Idx) = ix3 (bt t) (rt t (y 1)) (y 2) := by
  have hy : (y 0).val = 0 := by have : (y 0).val < 1 := (y 0).isLt; omega
  refine funext fun a => Fin.ext ?_
  blk_simp [jx15]
  match a with
  | 0 => show t.val / 8 * 1 + (y 0).val = t.val / 8; omega
  | 1 => show t.val % 8 * 512 + (y 1).val = 512 * (t.val % 8) + (y 1).val; omega
  | 2 => show 0 * 128 + (y 2).val = (y 2).val; omega

theorem arr15 (c : Dev nD) : (dats m 0 c).arrAt 15 cfg0.N = oKi m c := by
  have key : ∀ (t : Fin cfg0.N) (y : S1x512x128.Idx), (dats m 0 c).after 15 t y = oKi m c (((cfg0.win 15).blk t).view.emb y) := by
    intro t y
    have hy : y 0 = (0 : Fin 1) := Fin.ext (by have : (y 0).val < 1 := (y 0).isLt; show (y 0).val = 0; omega)
    rw [after0_15]
    refine Eq.trans ?_ ((val15 m c t (y 1) (y 2)).trans (congrArg (oKi m c) (emb15 t y)).symm)
    refine congrArg _ ((eta3 y).trans ?_)
    rw [hy]
    rfl
  generalize oKi m c = G at key ⊢
  exact (dats m 0 c).arrAt_eq_of_covers 15 G (by decide +kernel) fun t hf y => key t y

theorem emb16 (t : Fin cfg0.N) (y : S1x8x512.Idx) :
    (((cfg0.win 16).blk t).view.emb y : S4x8x4096.Idx) = ix3 (bt t) (y 1) (rt t (y 2)) := by
  have hy : (y 0).val = 0 := by have : (y 0).val < 1 := (y 0).isLt; omega
  refine funext fun a => Fin.ext ?_
  blk_simp [jx16]
  match a with
  | 0 => show t.val / 8 * 1 + (y 0).val = t.val / 8; omega
  | 1 => show 0 * 8 + (y 1).val = (y 1).val; omega
  | 2 => show t.val % 8 * 512 + (y 2).val = 512 * (t.val % 8) + (y 2).val; omega

theorem arr16 (c : Dev nD) : (dats m 0 c).arrAt 16 cfg0.N = oWi m c := by
  have key : ∀ (t : Fin cfg0.N) (y : S1x8x512.Idx), (dats m 0 c).after 16 t y = oWi m c (((cfg0.win 16).blk t).view.emb y) := by
    intro t y
    have hy : y 0 = (0 : Fin 1) := Fin.ext (by have : (y 0).val < 1 := (y 0).isLt; show (y 0).val = 0; omega)
    rw [after0_16]
    refine Eq.trans ?_ ((val16 m c t (y 1) (y 2)).trans (congrArg (oWi m c) (emb16 t y)).symm)
    refine congrArg _ ((eta3 y).trans ?_)
    rw [hy]
    rfl
  generalize oWi m c = G at key ⊢
  exact (dats m 0 c).arrAt_eq_of_covers 16 G (by decide +kernel) fun t hf y => key t y

/-- The kernel's run, with the reference's values in the output arrays. -/
theorem run_val (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = oYa m c
      ∧ r.2.mem ((c.tc : Thread nD τ).loc main_v0_3) = oV m c
      ∧ r.2.mem ((c.tc : Thread nD τ).loc main_v0_4) = oQi m c
      ∧ r.2.mem ((c.tc : Thread nD τ).loc main_v0_5) = oKi m c
      ∧ r.2.mem ((c.tc : Thread nD τ).loc main_v0_6) = oWi m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run _ _ _).mono (fun r hr c => ?_) (Value.run_blocks (F := Ideal) m ρ)
  have h := hr c
  rw [arr10, arr13, arr14, arr15, arr16] at h
  exact ⟨h.1, h.2.2.2.1, h.2.2.2.2.1, h.2.2.2.2.2.1, h.2.2.2.2.2.2.1, h.2.2.2.2.2.2.2⟩

end Cert.Kernel2Ideal.Hand

end
-- ==== Proof.Merge.Ideal.Body.lean ====
/- The merge call's body at one grid point: what it computes from its blocks and the running counts, and its run. -/
module

public import proofs.«01_k».proof.Proof.Gen.Kernel3Ideal.Launch
public import proofs.«01_k».proof.Proof.Gen.Kernel3Ideal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The seventeen blocks a point reads. -/
structure Blk (F : FTy → Type) where
  /-- the block's rows of x -/
  x0 : Vec F S1x512x1024 .f32
  /-- the first branch's rows -/
  x1 : Vec F S1x512x512 .bf16
  /-- the second branch's rows -/
  x2 : Vec F S1x512x512 .bf16
  /-- the first shift -/
  x3 : Vec F S1x1x1024 .f32
  /-- the first scale -/
  x4 : Vec F S1x1x1024 .f32
  /-- the gate after the first half -/
  x5 : Vec F S1x1x1024 .f32
  /-- the second shift -/
  x6 : Vec F S1x1x1024 .f32
  /-- the second scale -/
  x7 : Vec F S1x1x1024 .f32
  /-- the first norm's weights -/
  x8 : Vec F S1x1024 .f32
  /-- the second norm's weights -/
  x9 : Vec F S1x1024 .f32
  /-- the gates' weights -/
  x10 : Vec F S1024x2048 .bf16
  /-- the first branch's projection -/
  x11 : Vec F S512x1024 .bf16
  /-- the second branch's projection -/
  x12 : Vec F S512x1024 .bf16
  /-- the output projection -/
  x13 : Vec F S1024x1024 .bf16
  /-- the router's weights -/
  x14 : Vec F S1024x128 .bf16
  /-- the router's bias -/
  x15 : Vec F S1x128 .f32
  /-- the triangle of ones -/
  x16 : Vec F S512x512 .bf16

variable (b : Blk F) (s : Vec F S8x128 .f32)

/-- The two halves of the gates' weights. -/
def wgA : Vec F S1024x1024 .bf16 := fun y => b.x10 ((Rect.unit (s := S1024x2048) ![0, 0] S1024x1024.size inb_S1024x2048_S1024x1024_0_0).toLoadRect.idx y)
def wgB : Vec F S1024x1024 .bf16 := fun y => b.x10 ((Rect.unit (s := S1024x2048) ![0, 1024] S1024x1024.size inb_S1024x2048_S1024x1024_0_1024).toLoadRect.idx y)
/-- The first of the running counts' eight rows. -/
def row0 : Vec F S1x128 .f32 := fun y => s ((Rect.unit (s := S8x128) ![0, 0] S1x128.size inb_S8x128_S1x128_0_0).toLoadRect.idx y)

section
variable (wa wb : Vec F S1024x1024 .bf16) (r : Vec F S1x128 .f32)

/-- The rows after the first half. -/
def x1R : Vec F S1x512x1024 .f32 :=
  k0_pay7 (k0_pay3 b.x0) (k0_pay4 b.x0 b.x8 b.x4 b.x3) (k0_pay5 b.x0 b.x8 b.x4 b.x3 wa) wb b.x1 b.x11 b.x2 b.x12 b.x5 b.x13
def y55 : FVec F S512x1024 .f32 :=
  k0_pay6 (k0_pay3 b.x0) (k0_pay4 b.x0 b.x8 b.x4 b.x3) (k0_pay5 b.x0 b.x8 b.x4 b.x3 wa) wb b.x1 b.x11 b.x2 b.x12 b.x5 b.x13
/-- The rows normed again, as the router sees them. -/
def y81 : FVec F S512x1024 .f32 := k0_pay9 (y55 b wa wb) b.x9 (k0_pay8 b.x7) b.x6

def hL (v55 : FVec F S512x1024 .f32) (v59 : Vec F S1x1024 .f32) (v61 : FVec F S1x1024 .f32) (v62 : Vec F S1x1x1024 .f32) : List (View.Piece (Elt F) S4096x128 .f32) :=
  [⟨⟨(⟨![7, 0], S512x128.size, ![8, 1], inb_S4096x128_S512x128_7_0_s_8_1⟩ : LoadRect S4096x128), spos_8_1⟩, k0_pay17 v55 v59 v61 v62⟩,
   ⟨⟨(⟨![6, 0], S512x128.size, ![8, 1], inb_S4096x128_S512x128_6_0_s_8_1⟩ : LoadRect S4096x128), spos_8_1⟩, k0_pay16 v55 v59 v61 v62⟩,
   ⟨⟨(⟨![5, 0], S512x128.size, ![8, 1], inb_S4096x128_S512x128_5_0_s_8_1⟩ : LoadRect S4096x128), spos_8_1⟩, k0_pay15 v55 v59 v61 v62⟩,
   ⟨⟨(⟨![4, 0], S512x128.size, ![8, 1], inb_S4096x128_S512x128_4_0_s_8_1⟩ : LoadRect S4096x128), spos_8_1⟩, k0_pay14 v55 v59 v61 v62⟩,
   ⟨⟨(⟨![3, 0], S512x128.size, ![8, 1], inb_S4096x128_S512x128_3_0_s_8_1⟩ : LoadRect S4096x128), spos_8_1⟩, k0_pay13 v55 v59 v61 v62⟩,
   ⟨⟨(⟨![2, 0], S512x128.size, ![8, 1], inb_S4096x128_S512x128_2_0_s_8_1⟩ : LoadRect S4096x128), spos_8_1⟩, k0_pay12 v55 v59 v61 v62⟩,
   ⟨⟨(⟨![1, 0], S512x128.size, ![8, 1], inb_S4096x128_S512x128_1_0_s_8_1⟩ : LoadRect S4096x128), spos_8_1⟩, k0_pay11 v55 v59 v61 v62⟩,
   ⟨⟨(⟨![0, 0], S512x128.size, ![8, 1], inb_S4096x128_S512x128_0_0_s_8_1⟩ : LoadRect S4096x128), spos_8_1⟩, k0_pay10 v55 v59 v61 v62⟩]

theorem hL_cover (v55 : FVec F S512x1024 .f32) (v59 : Vec F S1x1024 .f32) (v61 : FVec F S1x1024 .f32) (v62 : Vec F S1x1x1024 .f32) (y : S4096x128.Idx) :
    ∃ p ∈ hL v55 v59 v61 v62, y ∈ p.1.set := by
  have h0 : (y 0).val < 4096 := (y 0).isLt
  have h1 : (y 1).val < 128 := (y 1).isLt
  have key : ∀ k : Nat, (y 0).val % 8 = k → ∀ r : Rect S4096x128, r.off = ![k, 0] → r.size = S512x128.size → r.stride = ![8, 1] → y ∈ r.set := by
    intro k hk r ho hs hst
    rw [LoadRect.mem_set]
    intro a
    rw [ho, hs, hst]
    fin_cases a
    · exact ⟨(y 0).val / 8, show (y 0).val / 8 < 512 by omega, show (y 0).val = k + 8 * ((y 0).val / 8) by omega⟩
    · exact ⟨(y 1).val, show (y 1).val < 128 from h1, show (y 1).val = 0 + 1 * (y 1).val by omega⟩
  have hm : (y 0).val % 8 < 8 := Nat.mod_lt _ (by decide)
  unfold hL
  generalize hk : (y 0).val % 8 = k at hm
  rcases (by omega : k = 7 ∨ k = 6 ∨ k = 5 ∨ k = 4 ∨ k = 3 ∨ k = 2 ∨ k = 1 ∨ k = 0) with rfl | rfl | rfl | rfl | rfl | rfl | rfl | rfl
  · exact ⟨_, .head _, key 7 hk _ rfl rfl rfl⟩
  · exact ⟨_, .tail _ (.head _), key 6 hk _ rfl rfl rfl⟩
  · exact ⟨_, .tail _ (.tail _ (.head _)), key 5 hk _ rfl rfl rfl⟩
  · exact ⟨_, .tail _ (.tail _ (.tail _ (.head _))), key 4 hk _ rfl rfl rfl⟩
  · exact ⟨_, .tail _ (.tail _ (.tail _ (.tail _ (.head _)))), key 3 hk _ rfl rfl rfl⟩
  · exact ⟨_, .tail _ (.tail _ (.tail _ (.tail _ (.tail _ (.head _))))), key 2 hk _ rfl rfl rfl⟩
  · exact ⟨_, .tail _ (.tail _ (.tail _ (.tail _ (.tail _ (.tail _ (.head _)))))), key 1 hk _ rfl rfl rfl⟩
  · exact ⟨_, .tail _ (.tail _ (.tail _ (.tail _ (.tail _ (.tail _ (.tail _ (.head _))))))), key 0 hk _ rfl rfl rfl⟩

/-- The normed rows in eight interleaved slices of columns. -/
def hR : Vec F S4096x128 .f32 := View.canon (hL (y55 b wa wb) b.x9 (k0_pay8 b.x7) b.x6)

/-- The routing. -/
abbrev negInf : F .f32 := Scalar.ofBits .f32 0xFF800000#32
def y112 : FVec F S512x1 .f32 := k0_pay20 (y81 b wa wb) b.x14 b.x15
def y118 : FVec F S512x1 .f32 := k0_pay21 (y81 b wa wb) b.x14 b.x15
def y124 : FVec F S512x128 .f32 := k0_pay23 (y81 b wa wb) b.x14 b.x15
def y126 : FVec F S512x1 .f32 := k0_pay24 (y81 b wa wb) b.x14 b.x15
def y132 : FVec F S512x1 .f32 := k0_pay25 (y81 b wa wb) b.x14 b.x15
def y134 : IVec S512x128 1 := k0_pay26 (y81 b wa wb) b.x14 b.x15
def y136 : FVec F S512x128 .f32 := k0_pay27 (y81 b wa wb) b.x14 b.x15
def y146 : FVec F S512x1 .f32 := k0_pay30 (k0_pay18 (F := F)) (y124 b wa wb) (y134 b wa wb) negInf
def y160 : FVec F S512x1 .f32 := k0_pay34 (k0_pay18 (F := F)) (y124 b wa wb) (y134 b wa wb) negInf
def y164 : FVec F S512x128 .f32 := k0_pay35 (k0_pay18 (F := F)) (y124 b wa wb) (y134 b wa wb) (y136 b wa wb) negInf
def y166 : FVec F S512x1 .f32 := k0_pay36 (y112 b wa wb)
def y168 : FVec F S512x1 .f32 := k0_pay37 (y112 b wa wb) (y126 b wa wb)
def y170 : FVec F S512x1 .f32 := k0_pay38 (y112 b wa wb) (y124 b wa wb) (y134 b wa wb) negInf
def y172 : FVec F S512x1 .f32 := k0_pay39 (k0_pay18 (F := F)) (y112 b wa wb) (y124 b wa wb) (y134 b wa wb) negInf
def y175 : FVec F S512x1 .f32 := k0_pay40 (k0_pay18 (F := F)) (y112 b wa wb) (y124 b wa wb) (y126 b wa wb) (y134 b wa wb) negInf
def y181 : FVec F S512x128 .f32 := k0_pay41 (k0_pay18 (F := F)) (y124 b wa wb) (y134 b wa wb) (y136 b wa wb) negInf b.x16 r
def y182 : FVec F S1x128 .f32 := k0_pay42 (k0_pay18 (F := F)) (y124 b wa wb) (y134 b wa wb) (y136 b wa wb) negInf b.x16 r
/-- The running counts after the point. -/
def cntR : Vec F S8x128 .f32 := k0_pay43 (y164 b wa wb) (y182 b wa wb r)
def y220 : FVec F S512x1 .f32 := k0_pay44 (k0_pay18 (F := F)) (y132 b wa wb) (y181 b wa wb r)
def y225 : FVec F S512x128 .f32 := k0_pay45 (k0_pay18 (F := F)) (y118 b wa wb) (y132 b wa wb) (y166 b wa wb) (y175 b wa wb) (y181 b wa wb r)
/-- The routing's numbers, row by row. -/
def metaR : Vec F S512x128 .f32 :=
  k0_pay1 (k0_pay18 (F := F)) (y172 b wa wb) (y175 b wa wb) (k0_pay46 (k0_pay18 (F := F)) (y146 b wa wb) (y160 b wa wb) (y168 b wa wb) (y170 b wa wb) (y175 b wa wb) (y181 b wa wb r) (y220 b wa wb r) (y225 b wa wb r))

end

/-- What a point leaves in its four blocks and the running counts. -/
def x1V : Vec F S1x512x1024 .f32 := x1R b (wgA b) (wgB b)
def hV : Vec F S4096x128 .f32 := hR b (wgA b) (wgB b)
def metaV : Vec F S512x128 .f32 := metaR b (wgA b) (wgB b) (row0 s)
def cntV : Vec F S8x128 .f32 := cntR b (wgA b) (wgB b) (row0 s)

/-! ## Whole loads and stores -/

theorem idx_full {s : Shape} (off : Fin s.rank → ℕ) (inb : ∀ a, off a + s.size a ≤ s.size a) (y : s.Idx) :
    (Rect.unit (s := s) off s.size inb).toLoadRect.idx y = y := by
  funext a; apply Fin.ext
  have := inb a
  show off a + 1 * (y a).val = _
  omega

theorem mem_full {s : Shape} (off : Fin s.rank → ℕ) (inb : ∀ a, off a + s.size a ≤ s.size a) (y : s.Idx) :
    y ∈ (Rect.unit (s := s) off s.size inb).set := by
  rw [Rect.mem_set_unit]
  intro a
  have := inb a
  have := (y a).isLt
  exact ⟨by omega, by omega⟩

theorem readAt_full {sp : Space} {s : Shape} {e : EltTy} {m : Memref sig .tc sp s e} (h : m.IsWhole) (off : Fin s.rank → ℕ) (inb : ∀ a, off a + s.size a ≤ s.size a) (X : s.Idx → Elt F e) :
    m.view.readAt (Elt F) (Rect.unit (s := s) off s.size inb).toLoadRect (h.unread X) = X := by
  funext y
  rw [View.readAt_apply, h.read_unread]
  exact congrArg X (idx_full off inb y)

theorem readAt_part {sp : Space} {s : Shape} {e : EltTy} {m : Memref sig .tc sp s e} (h : m.IsWhole) (r : LoadRect s) (X : s.Idx → Elt F e) :
    m.view.readAt (Elt F) r (h.unread X) = fun y => X (r.idx y) := by
  funext y
  rw [View.readAt_apply, h.read_unread]

/-- A store of a whole buffer leaves what was stored, whatever was stored before it. -/
theorem read_full {sp : Space} {s : Shape} {e : EltTy} (m : Memref sig .tc sp s e) (off : Fin s.rank → ℕ) (inb : ∀ a, off a + s.size a ≤ s.size a)
    (f : m.view.ty.Contents (Elt F)) (w : s.Idx → Elt F e) (L : List (View.Piece (Elt F) s e)) :
    m.view.read (Elt F) (m.view.writes (Elt F) f (⟨Rect.unit (s := s) off s.size inb, w⟩ :: L)) = w := by
  rw [View.read_writes_eq_canon _ _ _ (fun y => ⟨_, .head _, mem_full off inb y⟩)]
  exact View.canon_cons_unit_lit inb w L (fun a => by have := inb a; omega)

theorem reload {sp : Space} {s : Shape} {e : EltTy} (m : Memref sig .tc sp s e) (off : Fin s.rank → ℕ) (inb : ∀ a, off a + s.size a ≤ s.size a)
    (f : m.view.ty.Contents (Elt F)) (w : s.Idx → Elt F e) (L : List (View.Piece (Elt F) s e)) :
    m.view.readAt (Elt F) (Rect.unit (s := s) off s.size inb).toLoadRect (m.view.writes (Elt F) f (⟨Rect.unit (s := s) off s.size inb, w⟩ :: L)) = w := by
  funext y
  rw [View.readAt_apply, read_full]
  exact congrArg w (idx_full off inb y)

theorem whole_full {sp : Space} {s : Shape} {e : EltTy} {m : Memref sig .tc sp s e} (h : m.IsWhole) (off : Fin s.rank → ℕ) (inb : ∀ a, off a + s.size a ≤ s.size a)
    (f : m.view.ty.Contents (Elt F)) (w : s.Idx → Elt F e) (L : List (View.Piece (Elt F) s e)) :
    m.view.writes (Elt F) f (⟨Rect.unit (s := s) off s.size inb, w⟩ :: L) = h.unread w := by
  apply h.read_bijective.1
  rw [read_full, h.read_unread]

/-- The first point's condition. -/
abbrev first (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem raw_eq (b : Blk F) {v0 : Vec F S1x512x1024 .f32} {v1 : Vec F S1x512x512 .bf16} {v2 : Vec F S1x512x512 .bf16} {v3 : Vec F S1x1x1024 .f32} {v4 : Vec F S1x1x1024 .f32} {v5 : Vec F S1x1x1024 .f32} {v6 : Vec F S1x1x1024 .f32} {v7 : Vec F S1x1x1024 .f32} {v8 : Vec F S1x1024 .f32} {v9 : Vec F S1x1024 .f32} {v10 : Vec F S1024x2048 .bf16} {v11 : Vec F S512x1024 .bf16} {v12 : Vec F S512x1024 .bf16} {v13 : Vec F S1024x1024 .bf16} {v14 : Vec F S1024x128 .bf16} {v15 : Vec F S1x128 .f32} {v16 : Vec F S512x512 .bf16} (h0 : v0 = b.x0) (h1 : v1 = b.x1) (h2 : v2 = b.x2) (h3 : v3 = b.x3) (h4 : v4 = b.x4) (h5 : v5 = b.x5) (h6 : v6 = b.x6) (h7 : v7 = b.x7) (h8 : v8 = b.x8) (h9 : v9 = b.x9) (h10 : v10 = b.x10) (h11 : v11 = b.x11) (h12 : v12 = b.x12) (h13 : v13 = b.x13) (h14 : v14 = b.x14) (h15 : v15 = b.x15) (h16 : v16 = b.x16) :
    (⟨v0, v1, v2, v3, v4, v5, v6, v7, v8, v9, v10, v11, v12, v13, v14, v15, v16⟩ : Blk F) = b := by
  subst h0 h1 h2 h3 h4 h5 h6 h7 h8 h9 h10 h11 h12 h13 h14 h15 h16; rfl

theorem first_iff : ∀ t : Fin cfg0.N, first (grid0.coords t) ↔ t.val = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [first, e0, e1]
    generalize t.val = n at ht
    revert n
    decide
   : ∀ t : Fin grid0.N, first (grid0.coords t) ↔ t.val = 0)

end Cert.Kernel3Ideal.Hand

end
-- ==== Proof.Merge.Ideal.Run.lean ====
/- The merge call's body at a grid point. -/
module

public import proofs.«01_k».proof.Proof.Merge.Ideal.Body

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (b : Blk F) (s : Vec F S8x128 .f32)

-- the values stay as they are named while the runs are put together
attribute [local irreducible] View.readAt k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46

/-- A load of a part after a store of the whole. -/
theorem readCov_part {sp : Space} {s : Shape} {e : EltTy} (v : View sig .tc sp s e) (off : Fin s.rank → ℕ) (inb : ∀ a, off a + s.size a ≤ s.size a)
    (w : s.Idx → Elt F e) (L : List (View.Piece (Elt F) s e)) (r : LoadRect s) :
    v.readCov (Val := Elt F) (⟨Rect.unit (s := s) off s.size inb, w⟩ :: L) r = fun y => w (r.idx y) := by
  rw [View.readCov_eq_canon']
  funext y
  exact congrFun (View.canon_cons_unit_lit inb w L (fun a => by have := inb a; omega)) (r.idx y)

variable (c : Dev nD) (i : grid0.Coords)
  (arg2 : Memref sig .tc .vmem S1x512x1024 .f32) (harg2 : arg2.IsWhole)
  (arg3 : Memref sig .tc .vmem S1x512x512 .bf16) (harg3 : arg3.IsWhole)
  (arg4 : Memref sig .tc .vmem S1x512x512 .bf16) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1024x2048 .bf16) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S1024x1024 .bf16) (harg15 : arg15.IsWhole)
  (arg16 : Memref sig .tc .vmem S1024x128 .bf16) (harg16 : arg16.IsWhole)
  (arg17 : Memref sig .tc .vmem S1x128 .f32) (harg17 : arg17.IsWhole)
  (arg18 : Memref sig .tc .vmem S512x512 .bf16) (harg18 : arg18.IsWhole)
  (arg19 : Memref sig .tc .vmem S1x512x1024 .f32) (harg19 : arg19.IsWhole)
  (arg20 : Memref sig .tc .vmem S4096x128 .f32) (harg20 : arg20.IsWhole)
  (arg21 : Memref sig .tc .vmem S512x128 .f32) (harg21 : arg21.IsWhole)
  (arg22 : Memref sig .tc .vmem S8x128 .f32) (harg22 : arg22.IsWhole)
  (arg23 : Memref sig .tc .vmem S8x128 .f32) (harg23 : arg23.IsWhole)

/-- A buffer and what it holds. -/
local notation "𝕆[" a ", " x "]" => owns (c : Thread nD τ) a fullShare x
/-- The blocks as the body loads them, the halves of the gates' weights, and the counts' first row. -/
local notation:max "𝕃[" a ", " h ", " S ", " o ", " i ", " x "]" => View.readAt (Elt F) (Memref.view a) (Rect.toLoadRect (Rect.unit (s := S) o _ i)) (Memref.IsWhole.unread h x)
local notation:max "RAW" => Blk.mk 𝕃[arg2, harg2, S1x512x1024, ![0, 0, 0], inb_S1x512x1024_S1x512x1024_0_0_0, b.x0] 𝕃[arg3, harg3, S1x512x512, ![0, 0, 0], inb_S1x512x512_S1x512x512_0_0_0, b.x1] 𝕃[arg4, harg4, S1x512x512, ![0, 0, 0], inb_S1x512x512_S1x512x512_0_0_0, b.x2] 𝕃[arg5, harg5, S1x1x1024, ![0, 0, 0], inb_S1x1x1024_S1x1x1024_0_0_0, b.x3] 𝕃[arg6, harg6, S1x1x1024, ![0, 0, 0], inb_S1x1x1024_S1x1x1024_0_0_0, b.x4] 𝕃[arg7, harg7, S1x1x1024, ![0, 0, 0], inb_S1x1x1024_S1x1x1024_0_0_0, b.x5] 𝕃[arg8, harg8, S1x1x1024, ![0, 0, 0], inb_S1x1x1024_S1x1x1024_0_0_0, b.x6] 𝕃[arg9, harg9, S1x1x1024, ![0, 0, 0], inb_S1x1x1024_S1x1x1024_0_0_0, b.x7] 𝕃[arg10, harg10, S1x1024, ![0, 0], inb_S1x1024_S1x1024_0_0, b.x8] 𝕃[arg11, harg11, S1x1024, ![0, 0], inb_S1x1024_S1x1024_0_0, b.x9] b.x10 𝕃[arg13, harg13, S512x1024, ![0, 0], inb_S512x1024_S512x1024_0_0, b.x11] 𝕃[arg14, harg14, S512x1024, ![0, 0], inb_S512x1024_S512x1024_0_0, b.x12] 𝕃[arg15, harg15, S1024x1024, ![0, 0], inb_S1024x1024_S1024x1024_0_0, b.x13] 𝕃[arg16, harg16, S1024x128, ![0, 0], inb_S1024x128_S1024x128_0_0, b.x14] 𝕃[arg17, harg17, S1x128, ![0, 0], inb_S1x128_S1x128_0_0, b.x15] 𝕃[arg18, harg18, S512x512, ![0, 0], inb_S512x512_S512x512_0_0, b.x16]
local notation:max "WA" => (View.readAt (Elt F) (Memref.view arg12) (Rect.toLoadRect (Rect.unit (s := S1024x2048) ![0, 0] S1024x1024.size inb_S1024x2048_S1024x1024_0_0)) (Memref.IsWhole.unread harg12 b.x10))
local notation:max "WB" => (View.readAt (Elt F) (Memref.view arg12) (Rect.toLoadRect (Rect.unit (s := S1024x2048) ![0, 1024] S1024x1024.size inb_S1024x2048_S1024x1024_0_1024)) (Memref.IsWhole.unread harg12 b.x10))
local notation:max "ROW₀" => (View.readCov (Val := Elt F) (Memref.view arg23) [Sigma.mk (Rect.unit (s := S8x128) ![0, 0] S8x128.size inb_S8x128_S8x128_0_0) k0_pay2] (Rect.toLoadRect (Rect.unit (s := S8x128) ![0, 0] S1x128.size inb_S8x128_S1x128_0_0)))
local notation:max "ROW₁" => (View.readAt (Elt F) (Memref.view arg23) (Rect.toLoadRect (Rect.unit (s := S8x128) ![0, 0] S1x128.size inb_S8x128_S1x128_0_0)) (Memref.IsWhole.unread harg23 s))

theorem hb : RAW = b := raw_eq b (readAt_full harg2 _ _ _) (readAt_full harg3 _ _ _) (readAt_full harg4 _ _ _) (readAt_full harg5 _ _ _) (readAt_full harg6 _ _ _) (readAt_full harg7 _ _ _) (readAt_full harg8 _ _ _) (readAt_full harg9 _ _ _) (readAt_full harg10 _ _ _) (readAt_full harg11 _ _ _) rfl (readAt_full harg13 _ _ _) (readAt_full harg14 _ _ _) (readAt_full harg15 _ _ _) (readAt_full harg16 _ _ _) (readAt_full harg17 _ _ _) (readAt_full harg18 _ _ _)
theorem ha : WA = wgA b := readAt_part harg12 _ _
theorem hd : WB = wgB b := readAt_part harg12 _ _

set_option maxHeartbeats 2000000 in
/-- At the first point the running counts start from nothing. -/
theorem run_first (hc : first i) (K : PUnit → sProp 𝕄) :
    iprop(𝕆[arg2, b.x0] ∗ 𝕆[arg3, b.x1] ∗ 𝕆[arg4, b.x2] ∗ 𝕆[arg5, b.x3] ∗ 𝕆[arg6, b.x4] ∗ 𝕆[arg7, b.x5] ∗ 𝕆[arg8, b.x6] ∗ 𝕆[arg9, b.x7] ∗ 𝕆[arg10, b.x8] ∗ 𝕆[arg11, b.x9] ∗ 𝕆[arg12, b.x10] ∗ 𝕆[arg13, b.x11] ∗ 𝕆[arg14, b.x12] ∗ 𝕆[arg15, b.x13] ∗ 𝕆[arg16, b.x14] ∗ 𝕆[arg17, b.x15] ∗ 𝕆[arg18, b.x16] ∗ (∃ d, 𝕆[arg19, d]) ∗ (∃ d, 𝕆[arg20, d]) ∗ (∃ d, 𝕆[arg21, d]) ∗ (∃ d, 𝕆[arg22, d]) ∗ (∃ d, 𝕆[arg23, d])
      ∗ (iprop(𝕆[arg2, b.x0] ∗ 𝕆[arg3, b.x1] ∗ 𝕆[arg4, b.x2] ∗ 𝕆[arg5, b.x3] ∗ 𝕆[arg6, b.x4] ∗ 𝕆[arg7, b.x5] ∗ 𝕆[arg8, b.x6] ∗ 𝕆[arg9, b.x7] ∗ 𝕆[arg10, b.x8] ∗ 𝕆[arg11, b.x9] ∗ 𝕆[arg12, b.x10] ∗ 𝕆[arg13, b.x11] ∗ 𝕆[arg14, b.x12] ∗ 𝕆[arg15, b.x13] ∗ 𝕆[arg16, b.x14] ∗ 𝕆[arg17, b.x15] ∗ 𝕆[arg18, b.x16] ∗ 𝕆[arg19, x1V b] ∗ 𝕆[arg20, hV b] ∗ 𝕆[arg21, metaV b k0_pay2] ∗ 𝕆[arg22, cntV b k0_pay2] ∗ 𝕆[arg23, cntV b k0_pay2]) -∗ K ⟨⟩))
      ⊢ wp frame (wpE (defs₀ (F := F)) Variants.none c none) Set.univ (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_merge_eq_skeleton]; unfold cc0_merge_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  have hr : ROW₀ = row0 k0_pay2 := readCov_part _ _ _ _ _ _
  isplitl [H17]
  · iexists _; isplitr
    swap; · iexact H17
    ipureintro
    refine (read_full arg19 _ _ _ _ _).trans ?_
    refine Eq.trans (b := x1R RAW WA WB) rfl ?_
    rw [hb, ha, hd]; rfl
  isplitl [H18]
  · iexists _; isplitr
    swap; · iexact H18
    ipureintro
    refine (View.read_writes_eq_canon _ _ _ (hL_cover _ _ _ _)).trans ?_
    refine Eq.trans (b := hR RAW WA WB) rfl ?_
    rw [hb, ha, hd]; rfl
  isplitl [H19]
  · iexists _; isplitr
    swap; · iexact H19
    ipureintro
    refine (read_full arg21 _ _ _ _ _).trans ?_
    refine Eq.trans (b := metaR RAW WA WB ROW₀) rfl ?_
    rw [hb, ha, hd, hr]; rfl
  isplitl [H20]
  · iexists _; isplitr
    swap; · iexact H20
    ipureintro
    refine ((read_full arg22 _ _ _ _ _).trans (reload arg23 _ _ _ _ _)).trans ?_
    refine Eq.trans (b := cntR RAW WA WB ROW₀) rfl ?_
    rw [hb, ha, hd, hr]; rfl
  iexists _; isplitr
  swap; · iexact HS
  ipureintro
  refine (read_full arg23 _ _ _ _ _).trans ?_
  refine Eq.trans (b := cntR RAW WA WB ROW₀) rfl ?_
  rw [hb, ha, hd, hr]; rfl

set_option maxHeartbeats 2000000 in
/-- At the later points they go on from where they were. -/
theorem run_next (hc : ¬ first i) (K : PUnit → sProp 𝕄) :
    iprop(𝕆[arg2, b.x0] ∗ 𝕆[arg3, b.x1] ∗ 𝕆[arg4, b.x2] ∗ 𝕆[arg5, b.x3] ∗ 𝕆[arg6, b.x4] ∗ 𝕆[arg7, b.x5] ∗ 𝕆[arg8, b.x6] ∗ 𝕆[arg9, b.x7] ∗ 𝕆[arg10, b.x8] ∗ 𝕆[arg11, b.x9] ∗ 𝕆[arg12, b.x10] ∗ 𝕆[arg13, b.x11] ∗ 𝕆[arg14, b.x12] ∗ 𝕆[arg15, b.x13] ∗ 𝕆[arg16, b.x14] ∗ 𝕆[arg17, b.x15] ∗ 𝕆[arg18, b.x16] ∗ (∃ d, 𝕆[arg19, d]) ∗ (∃ d, 𝕆[arg20, d]) ∗ (∃ d, 𝕆[arg21, d]) ∗ (∃ d, 𝕆[arg22, d]) ∗ 𝕆[arg23, s]
      ∗ (iprop(𝕆[arg2, b.x0] ∗ 𝕆[arg3, b.x1] ∗ 𝕆[arg4, b.x2] ∗ 𝕆[arg5, b.x3] ∗ 𝕆[arg6, b.x4] ∗ 𝕆[arg7, b.x5] ∗ 𝕆[arg8, b.x6] ∗ 𝕆[arg9, b.x7] ∗ 𝕆[arg10, b.x8] ∗ 𝕆[arg11, b.x9] ∗ 𝕆[arg12, b.x10] ∗ 𝕆[arg13, b.x11] ∗ 𝕆[arg14, b.x12] ∗ 𝕆[arg15, b.x13] ∗ 𝕆[arg16, b.x14] ∗ 𝕆[arg17, b.x15] ∗ 𝕆[arg18, b.x16] ∗ 𝕆[arg19, x1V b] ∗ 𝕆[arg20, hV b] ∗ 𝕆[arg21, metaV b s] ∗ 𝕆[arg22, cntV b s] ∗ 𝕆[arg23, cntV b s]) -∗ K ⟨⟩))
      ⊢ wp frame (wpE (defs₀ (F := F)) Variants.none c none) Set.univ (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_merge_eq_skeleton]; unfold cc0_merge_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  obtain rfl := harg23.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _; isplitr; · ipureintro; exact harg17.read_unread _
    iexact H15
  isplitl [H16]
  · iexists _; isplitr; · ipureintro; exact harg18.read_unread _
    iexact H16
  have hr : ROW₁ = row0 s := readAt_part harg23 _ _
  isplitl [H17]
  · iexists _; isplitr
    swap; · iexact H17
    ipureintro
    refine (read_full arg19 _ _ _ _ _).trans ?_
    refine Eq.trans (b := x1R RAW WA WB) rfl ?_
    rw [hb, ha, hd]; rfl
  isplitl [H18]
  · iexists _; isplitr
    swap; · iexact H18
    ipureintro
    refine (View.read_writes_eq_canon _ _ _ (hL_cover _ _ _ _)).trans ?_
    refine Eq.trans (b := hR RAW WA WB) rfl ?_
    rw [hb, ha, hd]; rfl
  isplitl [H19]
  · iexists _; isplitr
    swap; · iexact H19
    ipureintro
    refine (read_full arg21 _ _ _ _ _).trans ?_
    refine Eq.trans (b := metaR RAW WA WB ROW₁) rfl ?_
    rw [hb, ha, hd, hr]; rfl
  isplitl [H20]
  · iexists _; isplitr
    swap; · iexact H20
    ipureintro
    refine ((read_full arg22 _ _ _ _ _).trans (reload arg23 _ _ _ _ _)).trans ?_
    refine Eq.trans (b := cntR RAW WA WB ROW₁) rfl ?_
    rw [hb, ha, hd, hr]; rfl
  iexists _; isplitr
  swap; · iexact HS
  ipureintro
  refine (read_full arg23 _ _ _ _ _).trans ?_
  refine Eq.trans (b := cntR RAW WA WB ROW₁) rfl ?_
  rw [hb, ha, hd, hr]; rfl

end Cert.Kernel3Ideal.Hand

end
-- ==== Proof.Merge.Ideal.Frame.lean ====
/- The merge call's run: its pipeline's data, its body at every point, and what its arrays hold at the end. -/
module

public import proofs.«01_k».proof.Proof.Merge.Ideal.Run

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds when the call is reached. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks a point reads. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- The running counts before point `n`. -/
def cnt (c : Dev nD) : ℕ → Vec F S8x128 .f32
  | 0 => k0_pay2
  | n + 1 => if h : n < cfg0.N then cntV (blkAt m c ⟨n, h⟩) (cnt c n) else cnt c n

theorem cnt_succ (c : Dev nD) (t : Fin cfg0.N) : cnt m c (t.val + 1) = cntV (blkAt m c t) (cnt m c t.val) := dif_pos t.isLt

abbrev scM : Memref sig .tc .vmem S8x128 .f32 := Memref.whole cc0_scratch0

theorem PhiA_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; try rfl

/-- The state before point `n`: the running counts, once a point has set them. -/
def Phi (c : Dev nD) (n : ℕ) : sProp 𝕄 :=
  if n = 0 then Pipeline.ΦA spec0 c else iprop(owns (c : Thread nD τ) scM fullShare (cnt m c n) ∗ (∃ r, prngReg c r))
theorem Phi_zero (c : Dev nD) {n : ℕ} (h : n = 0) : Phi m c n = Pipeline.ΦA spec0 c := if_pos h
theorem Phi_pos (c : Dev nD) {n : ℕ} (h : n ≠ 0) : Phi m c n = iprop(owns (c : Thread nD τ) scM fullShare (cnt m c n) ∗ (∃ r, prngReg c r)) := if_neg h

/-- The data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => x1V (blkAt m c t)
    | ⟨18, _⟩ => hV (blkAt m c t)
    | ⟨19, _⟩ => metaV (blkAt m c t) (cnt m c t.val)
    | ⟨20, _⟩ => cntV (blkAt m c t) (cnt m c t.val)
    | ⟨_ + 21, h⟩ => absurd h (Nat.not_lt.2 (Nat.le_add_left _ _))
  Φ t := Phi m c t.val
  q _ := fullShare
  owed _ := 0

variable (c : Dev nD) (t : Fin cfg0.N)

theorem A_eq (w : Fin cfg0.W) : (dats m 0 c).A w = V m c (Pipeline.arrRef spec0 w) := by dsimp only [dats]
theorem Phi_castSucc : (dats m 0 c).Φ t.castSucc = Phi m c t.val := by
  dsimp only [dats]; exact Pipeline.Dat.Φ_castSucc (fun n _ => Phi m c n) t
theorem Phi_succ : (dats m 0 c).Φ t.succ = Phi m c (t.val + 1) := by
  dsimp only [dats]; exact congrArg (Phi m c) (Fin.val_succ t)
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = x1V (blkAt m c t) := by dsimp only [dats]
theorem after18 : (dats m 0 c).after 18 t = hV (blkAt m c t) := by dsimp only [dats]
theorem after19 : (dats m 0 c).after 19 t = metaV (blkAt m c t) (cnt m c t.val) := by dsimp only [dats]
theorem after20 : (dats m 0 c).after 20 t = cntV (blkAt m c t) (cnt m c t.val) := by dsimp only [dats]
theorem blockOf_eq (w : Fin cfg0.W) (t : Fin cfg0.N) : (dats m 0 c).blockOf w t = iblk m c w t := by unfold Dat.blockOf iblk; rw [A_eq]; try rfl
theorem before0 (d) : (dats m 0 c).before 0 t d = iblk m c 0 t :=
  ((dats m 0 c).before_in_eq_fetched 0 rfl (fun _ => rfl) (fun _ _ _ => rfl) (fun t => (after0 m c t).trans (blockOf_eq m c 0 t).symm) t d).trans (blockOf_eq m c 0 t)
theorem before1 (d) : (dats m 0 c).before 1 t d = iblk m c 1 t :=
  ((dats m 0 c).before_in_eq_fetched 1 rfl (fun _ => rfl) (fun _ _ _ => rfl) (fun t => (after1 m c t).trans (blockOf_eq m c 1 t).symm) t d).trans (blockOf_eq m c 1 t)
theorem before2 (d) : (dats m 0 c).before 2 t d = iblk m c 2 t :=
  ((dats m 0 c).before_in_eq_fetched 2 rfl (fun _ => rfl) (fun _ _ _ => rfl) (fun t => (after2 m c t).trans (blockOf_eq m c 2 t).symm) t d).trans (blockOf_eq m c 2 t)
theorem before3 (d) : (dats m 0 c).before 3 t d = iblk m c 3 t :=
  ((dats m 0 c).before_in_eq_fetched 3 rfl (fun _ => rfl) (fun _ _ _ => rfl) (fun t => (after3 m c t).trans (blockOf_eq m c 3 t).symm) t d).trans (blockOf_eq m c 3 t)
theorem before4 (d) : (dats m 0 c).before 4 t d = iblk m c 4 t :=
  ((dats m 0 c).before_in_eq_fetched 4 rfl (fun _ => rfl) (fun _ _ _ => rfl) (fun t => (after4 m c t).trans (blockOf_eq m c 4 t).symm) t d).trans (blockOf_eq m c 4 t)
theorem before5 (d) : (dats m 0 c).before 5 t d = iblk m c 5 t :=
  ((dats m 0 c).before_in_eq_fetched 5 rfl (fun _ => rfl) (fun _ _ _ => rfl) (fun t => (after5 m c t).trans (blockOf_eq m c 5 t).symm) t d).trans (blockOf_eq m c 5 t)
theorem before6 (d) : (dats m 0 c).before 6 t d = iblk m c 6 t :=
  ((dats m 0 c).before_in_eq_fetched 6 rfl (fun _ => rfl) (fun _ _ _ => rfl) (fun t => (after6 m c t).trans (blockOf_eq m c 6 t).symm) t d).trans (blockOf_eq m c 6 t)
theorem before7 (d) : (dats m 0 c).before 7 t d = iblk m c 7 t :=
  ((dats m 0 c).before_in_eq_fetched 7 rfl (fun _ => rfl) (fun _ _ _ => rfl) (fun t => (after7 m c t).trans (blockOf_eq m c 7 t).symm) t d).trans (blockOf_eq m c 7 t)
theorem before8 (d) : (dats m 0 c).before 8 t d = iblk m c 8 t :=
  ((dats m 0 c).before_in_eq_fetched 8 rfl (fun _ => rfl) (fun _ _ _ => rfl) (fun t => (after8 m c t).trans (blockOf_eq m c 8 t).symm) t d).trans (blockOf_eq m c 8 t)
theorem before9 (d) : (dats m 0 c).before 9 t d = iblk m c 9 t :=
  ((dats m 0 c).before_in_eq_fetched 9 rfl (fun _ => rfl) (fun _ _ _ => rfl) (fun t => (after9 m c t).trans (blockOf_eq m c 9 t).symm) t d).trans (blockOf_eq m c 9 t)
theorem before10 (d) : (dats m 0 c).before 10 t d = iblk m c 10 t :=
  ((dats m 0 c).before_in_eq_fetched 10 rfl (fun _ => rfl) (fun _ _ _ => rfl) (fun t => (after10 m c t).trans (blockOf_eq m c 10 t).symm) t d).trans (blockOf_eq m c 10 t)
theorem before11 (d) : (dats m 0 c).before 11 t d = iblk m c 11 t :=
  ((dats m 0 c).before_in_eq_fetched 11 rfl (fun _ => rfl) (fun _ _ _ => rfl) (fun t => (after11 m c t).trans (blockOf_eq m c 11 t).symm) t d).trans (blockOf_eq m c 11 t)
theorem before12 (d) : (dats m 0 c).before 12 t d = iblk m c 12 t :=
  ((dats m 0 c).before_in_eq_fetched 12 rfl (fun _ => rfl) (fun _ _ _ => rfl) (fun t => (after12 m c t).trans (blockOf_eq m c 12 t).symm) t d).trans (blockOf_eq m c 12 t)
theorem before13 (d) : (dats m 0 c).before 13 t d = iblk m c 13 t :=
  ((dats m 0 c).before_in_eq_fetched 13 rfl (fun _ => rfl) (fun _ _ _ => rfl) (fun t => (after13 m c t).trans (blockOf_eq m c 13 t).symm) t d).trans (blockOf_eq m c 13 t)
theorem before14 (d) : (dats m 0 c).before 14 t d = iblk m c 14 t :=
  ((dats m 0 c).before_in_eq_fetched 14 rfl (fun _ => rfl) (fun _ _ _ => rfl) (fun t => (after14 m c t).trans (blockOf_eq m c 14 t).symm) t d).trans (blockOf_eq m c 14 t)
theorem before15 (d) : (dats m 0 c).before 15 t d = iblk m c 15 t :=
  ((dats m 0 c).before_in_eq_fetched 15 rfl (fun _ => rfl) (fun _ _ _ => rfl) (fun t => (after15 m c t).trans (blockOf_eq m c 15 t).symm) t d).trans (blockOf_eq m c 15 t)
theorem before16 (d) : (dats m 0 c).before 16 t d = iblk m c 16 t :=
  ((dats m 0 c).before_in_eq_fetched 16 rfl (fun _ => rfl) (fun _ _ _ => rfl) (fun t => (after16 m c t).trans (blockOf_eq m c 16 t).symm) t d).trans (blockOf_eq m c 16 t)

/-! ## The body at a point -/

/-- A buffer and what it holds. -/
local notation "𝕆[" a ", " x "]" => owns (c : Thread nD τ) a fullShare x
/-- The pipeline's data. -/
local notation "𝔻" => dats m 0 c

abbrev ms0 : Memref sig .tc .vmem S1x512x1024 .f32 := win0_0.stage (cfg0.slots t 0)
abbrev hs0 : (ms0 t).IsWhole := hstage0_0 ((cfg0.slots t 0).cast nbuf0_0)
abbrev ms1 : Memref sig .tc .vmem S1x512x512 .bf16 := win0_1.stage (cfg0.slots t 1)
abbrev hs1 : (ms1 t).IsWhole := hstage0_1 ((cfg0.slots t 1).cast nbuf0_1)
abbrev ms2 : Memref sig .tc .vmem S1x512x512 .bf16 := win0_2.stage (cfg0.slots t 2)
abbrev hs2 : (ms2 t).IsWhole := hstage0_2 ((cfg0.slots t 2).cast nbuf0_2)
abbrev ms3 : Memref sig .tc .vmem S1x1x1024 .f32 := win0_3.stage (cfg0.slots t 3)
abbrev hs3 : (ms3 t).IsWhole := hstage0_3 ((cfg0.slots t 3).cast nbuf0_3)
abbrev ms4 : Memref sig .tc .vmem S1x1x1024 .f32 := win0_4.stage (cfg0.slots t 4)
abbrev hs4 : (ms4 t).IsWhole := hstage0_4 ((cfg0.slots t 4).cast nbuf0_4)
abbrev ms5 : Memref sig .tc .vmem S1x1x1024 .f32 := win0_5.stage (cfg0.slots t 5)
abbrev hs5 : (ms5 t).IsWhole := hstage0_5 ((cfg0.slots t 5).cast nbuf0_5)
abbrev ms6 : Memref sig .tc .vmem S1x1x1024 .f32 := win0_6.stage (cfg0.slots t 6)
abbrev hs6 : (ms6 t).IsWhole := hstage0_6 ((cfg0.slots t 6).cast nbuf0_6)
abbrev ms7 : Memref sig .tc .vmem S1x1x1024 .f32 := win0_7.stage (cfg0.slots t 7)
abbrev hs7 : (ms7 t).IsWhole := hstage0_7 ((cfg0.slots t 7).cast nbuf0_7)
abbrev ms8 : Memref sig .tc .vmem S1x1024 .f32 := win0_8.stage (cfg0.slots t 8)
abbrev hs8 : (ms8 t).IsWhole := hstage0_8 ((cfg0.slots t 8).cast nbuf0_8)
abbrev ms9 : Memref sig .tc .vmem S1x1024 .f32 := win0_9.stage (cfg0.slots t 9)
abbrev hs9 : (ms9 t).IsWhole := hstage0_9 ((cfg0.slots t 9).cast nbuf0_9)
abbrev ms10 : Memref sig .tc .vmem S1024x2048 .bf16 := win0_10.stage (cfg0.slots t 10)
abbrev hs10 : (ms10 t).IsWhole := hstage0_10 ((cfg0.slots t 10).cast nbuf0_10)
abbrev ms11 : Memref sig .tc .vmem S512x1024 .bf16 := win0_11.stage (cfg0.slots t 11)
abbrev hs11 : (ms11 t).IsWhole := hstage0_11 ((cfg0.slots t 11).cast nbuf0_11)
abbrev ms12 : Memref sig .tc .vmem S512x1024 .bf16 := win0_12.stage (cfg0.slots t 12)
abbrev hs12 : (ms12 t).IsWhole := hstage0_12 ((cfg0.slots t 12).cast nbuf0_12)
abbrev ms13 : Memref sig .tc .vmem S1024x1024 .bf16 := win0_13.stage (cfg0.slots t 13)
abbrev hs13 : (ms13 t).IsWhole := hstage0_13 ((cfg0.slots t 13).cast nbuf0_13)
abbrev ms14 : Memref sig .tc .vmem S1024x128 .bf16 := win0_14.stage (cfg0.slots t 14)
abbrev hs14 : (ms14 t).IsWhole := hstage0_14 ((cfg0.slots t 14).cast nbuf0_14)
abbrev ms15 : Memref sig .tc .vmem S1x128 .f32 := win0_15.stage (cfg0.slots t 15)
abbrev hs15 : (ms15 t).IsWhole := hstage0_15 ((cfg0.slots t 15).cast nbuf0_15)
abbrev ms16 : Memref sig .tc .vmem S512x512 .bf16 := win0_16.stage (cfg0.slots t 16)
abbrev hs16 : (ms16 t).IsWhole := hstage0_16 ((cfg0.slots t 16).cast nbuf0_16)
abbrev ms17 : Memref sig .tc .vmem S1x512x1024 .f32 := win0_17.stage (cfg0.slots t 17)
abbrev hs17 : (ms17 t).IsWhole := hstage0_17 ((cfg0.slots t 17).cast nbuf0_17)
abbrev ms18 : Memref sig .tc .vmem S4096x128 .f32 := win0_18.stage (cfg0.slots t 18)
abbrev hs18 : (ms18 t).IsWhole := hstage0_18 ((cfg0.slots t 18).cast nbuf0_18)
abbrev ms19 : Memref sig .tc .vmem S512x128 .f32 := win0_19.stage (cfg0.slots t 19)
abbrev hs19 : (ms19 t).IsWhole := hstage0_19 ((cfg0.slots t 19).cast nbuf0_19)
abbrev ms20 : Memref sig .tc .vmem S8x128 .f32 := win0_20.stage (cfg0.slots t 20)
abbrev hs20 : (ms20 t).IsWhole := hstage0_20 ((cfg0.slots t 20).cast nbuf0_20)

/-- The body at point `t`. -/
abbrev bodyAt :=
  cc0_merge (F := F) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) scM (Memref.isWhole_whole _)

theorem defs₀_row : defs₀ (F := F) .tc cfg0.body (cfg0.bodyArgs t (cfg0.slots t)) = bodyAt t := by
  unfold defs₀; rw [Defs.onTc_tc]

def bodyPre : sProp 𝕄 :=
  iprop((𝔻).Φ t.castSucc ∗ (𝔻).owesAt () t.castSucc
    ∗ (∃ d, 𝕆[ms0 t, (𝔻).before 0 t d])
    ∗ (∃ d, 𝕆[ms1 t, (𝔻).before 1 t d])
    ∗ (∃ d, 𝕆[ms2 t, (𝔻).before 2 t d])
    ∗ (∃ d, 𝕆[ms3 t, (𝔻).before 3 t d])
    ∗ (∃ d, 𝕆[ms4 t, (𝔻).before 4 t d])
    ∗ (∃ d, 𝕆[ms5 t, (𝔻).before 5 t d])
    ∗ (∃ d, 𝕆[ms6 t, (𝔻).before 6 t d])
    ∗ (∃ d, 𝕆[ms7 t, (𝔻).before 7 t d])
    ∗ (∃ d, 𝕆[ms8 t, (𝔻).before 8 t d])
    ∗ (∃ d, 𝕆[ms9 t, (𝔻).before 9 t d])
    ∗ (∃ d, 𝕆[ms10 t, (𝔻).before 10 t d])
    ∗ (∃ d, 𝕆[ms11 t, (𝔻).before 11 t d])
    ∗ (∃ d, 𝕆[ms12 t, (𝔻).before 12 t d])
    ∗ (∃ d, 𝕆[ms13 t, (𝔻).before 13 t d])
    ∗ (∃ d, 𝕆[ms14 t, (𝔻).before 14 t d])
    ∗ (∃ d, 𝕆[ms15 t, (𝔻).before 15 t d])
    ∗ (∃ d, 𝕆[ms16 t, (𝔻).before 16 t d])
    ∗ (∃ d, 𝕆[ms17 t, (𝔻).before 17 t d])
    ∗ (∃ d, 𝕆[ms18 t, (𝔻).before 18 t d])
    ∗ (∃ d, 𝕆[ms19 t, (𝔻).before 19 t d])
    ∗ (∃ d, 𝕆[ms20 t, (𝔻).before 20 t d]))
def bodyPost : sProp 𝕄 :=
  iprop((𝔻).Φ t.succ ∗ (𝔻).owesAt () t.succ
    ∗ 𝕆[ms0 t, (𝔻).after 0 t]
    ∗ 𝕆[ms1 t, (𝔻).after 1 t]
    ∗ 𝕆[ms2 t, (𝔻).after 2 t]
    ∗ 𝕆[ms3 t, (𝔻).after 3 t]
    ∗ 𝕆[ms4 t, (𝔻).after 4 t]
    ∗ 𝕆[ms5 t, (𝔻).after 5 t]
    ∗ 𝕆[ms6 t, (𝔻).after 6 t]
    ∗ 𝕆[ms7 t, (𝔻).after 7 t]
    ∗ 𝕆[ms8 t, (𝔻).after 8 t]
    ∗ 𝕆[ms9 t, (𝔻).after 9 t]
    ∗ 𝕆[ms10 t, (𝔻).after 10 t]
    ∗ 𝕆[ms11 t, (𝔻).after 11 t]
    ∗ 𝕆[ms12 t, (𝔻).after 12 t]
    ∗ 𝕆[ms13 t, (𝔻).after 13 t]
    ∗ 𝕆[ms14 t, (𝔻).after 14 t]
    ∗ 𝕆[ms15 t, (𝔻).after 15 t]
    ∗ 𝕆[ms16 t, (𝔻).after 16 t]
    ∗ 𝕆[ms17 t, (𝔻).after 17 t]
    ∗ 𝕆[ms18 t, (𝔻).after 18 t]
    ∗ 𝕆[ms19 t, (𝔻).after 19 t]
    ∗ 𝕆[ms20 t, (𝔻).after 20 t])

set_option maxHeartbeats 2000000 in
theorem sound_body :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8, before9, before10, before11, before12, before13, before14, before15, before16]
  rw [show (𝔻).owesAt () t.succ = (𝔻).owesAt () t.castSucc from rfl, Phi_castSucc, Phi_succ,
    after0, after1, after2, after3, after4, after5, after6, after7, after8, after9, after10, after11, after12, after13, after14, after15, after16, after17, after18, after19, after20]
  rw [Phi_pos m c (Nat.succ_ne_zero t.val), cnt_succ]
  by_cases hz : t.val = 0
  rw [Phi_zero m c hz, PhiA_eq, show cnt m c t.val = k0_pay2 from by rw [hz]; rfl]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (run_first (blkAt m c t) c (grid0.coords t) _ _ _ _ _ _ _ _ _ _ _ _ _ _ _ _ _ _ _ _ _ _ _ _ _ _ _ _ _ _ _ _ _ _ _ _ _ _ _ _ _ _ _ _ ((first_iff t).mpr hz) _)
  rotate_left
  rw [Phi_pos m c hz]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (run_next (blkAt m c t) (cnt m c t.val) c (grid0.coords t) _ _ _ _ _ _ _ _ _ _ _ _ _ _ _ _ _ _ _ _ _ _ _ _ _ _ _ _ _ _ _ _ _ _ _ _ _ _ _ _ _ _ _ _ (fun h => hz ((first_iff t).mp h)) _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, H15, H16, H17, H18, H19, H20, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = Phi m c 0 from rfl, Phi_zero m c rfl]
  try exact Idealize.SL.BI.Entails.refl _

theorem hout : (dats m 0 c).Φ (Fin.last cfg0.N) ⊢ Pipeline.ΦA spec0 c := by
  rw [show (dats m 0 c).Φ (Fin.last cfg0.N) = Phi m c cfg0.N from rfl, Phi_pos m c (by have : cfg0.N = 32 := N_0; omega), PhiA_eq]
  iintro ⟨HS, Hg⟩
  isplitl [HS]
  · iexists _; iexact HS
  iexact Hg

/-! ## The launch -/

set_option backward.isDefEq.respectTransparency.types false in
/-- From any memory every run ends, with each array as the pipeline's data say and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- An input's array ends as it was. -/
theorem kept {r} (h : Pipeline.FramePost cfgs (dats m) 0 (V m) r) (k : Fin cfg0.W) (hk : (cfg0.win k).isOut = false) :
    r.2.mem ((c.tc : Thread nD τ).loc (Pipeline.arrRef spec0 k)) = V m c (Pipeline.arrRef spec0 k) :=
  ((h c).1 k).trans (((dats m 0 c).arrAt_in k hk _).trans (A_eq m c k))

/-- The buffer ends as it was. -/
local notation "𝕂[" r ", " c ", " b "]" => MemSt.mem (Prod.snd r) (Thread.loc (Dev.tc c) b) = m (Thread.loc (Dev.tc c) b)

/-- The arguments are unchanged, and every semaphore is at zero. -/
theorem frame : θ_run defs (onTc (τ := τ) (main (F := F))) ⟨m, fun _ => 0, ρ⟩ (fun r => (∀ c : Dev nD,
      𝕂[r, c, main_arg0]
      ∧ 𝕂[r, c, main_arg1]
      ∧ 𝕂[r, c, main_arg2]
      ∧ 𝕂[r, c, main_arg3]
      ∧ 𝕂[r, c, main_arg4]
      ∧ 𝕂[r, c, main_arg5]
      ∧ 𝕂[r, c, main_arg6]
      ∧ 𝕂[r, c, main_arg7]
      ∧ 𝕂[r, c, main_arg8]
      ∧ 𝕂[r, c, main_arg9]
      ∧ 𝕂[r, c, main_arg10]
      ∧ 𝕂[r, c, main_arg11]
      ∧ 𝕂[r, c, main_arg12]
      ∧ 𝕂[r, c, main_arg13]
      ∧ 𝕂[r, c, main_arg14]
      ∧ 𝕂[r, c, main_arg15]
      ∧ 𝕂[r, c, main_arg16])
      ∧ r.2.sem = fun _ => 0) :=
  (θ_run defs _ _).mono (fun _ h => ⟨fun c => ⟨kept m c h.1 0 rfl,
    kept m c h.1 1 rfl,
    kept m c h.1 2 rfl,
    kept m c h.1 3 rfl,
    kept m c h.1 4 rfl,
    kept m c h.1 5 rfl,
    kept m c h.1 6 rfl,
    kept m c h.1 7 rfl,
    kept m c h.1 8 rfl,
    kept m c h.1 9 rfl,
    kept m c h.1 10 rfl,
    kept m c h.1 11 rfl,
    kept m c h.1 12 rfl,
    kept m c h.1 13 rfl,
    kept m c h.1 14 rfl,
    kept m c h.1 15 rfl,
    kept m c h.1 16 rfl⟩, h.2⟩) (run_main m ρ)

end Cert.Kernel3Ideal.Hand

end
-- ==== Proof.Merge.Spec.lean ====
/- The merge of one row, in plain numbers: what both programs compute. -/
module

public import proofs.«01_k».proof.Proof.Inproj.Spec

@[expose] public section

set_option maxRecDepth 16384

noncomputable section

namespace Cert.Merge

open Idealize.ShloMosaic Cert.Inproj

/-- A row times a matrix, over any width. -/
def dot {K C : ℕ} (h : Fin K → EReal) (W : Fin K → Fin C → EReal) (n : Fin C) : EReal :=
  ∑ k : Fin K, h k * W k n

/-- The two branches' rows, each times its gate, summed. -/
def mixed (h : Fin 1024 → EReal) (wa wb : Fin 1024 → Fin 1024 → EReal) (ya yb : Fin 512 → EReal) (pa pb : Fin 512 → Fin 1024 → EReal) (n : Fin 1024) : EReal :=
  Ideal.logistic (dot h wa n) * dot ya pa n + Ideal.logistic (dot h wb n) * dot yb pb n

/-- The row after the merge: the mixed row through the output projection, scaled, on top of the row. -/
def rowX (x g sc sh g1 : Fin 1024 → EReal) (wa wb : Fin 1024 → Fin 1024 → EReal) (ya yb : Fin 512 → EReal) (pa pb : Fin 512 → Fin 1024 → EReal)
    (wo : Fin 1024 → Fin 1024 → EReal) (n : Fin 1024) : EReal :=
  x n + g1 n * dot (mixed (rowH x g sc sh) wa wb ya yb pa pb) wo n

end Cert.Merge

end
-- ==== Proof.Merge.Pay.lean ====
/- What the merge's arithmetic leaves at one element of its block, in the plain numbers of `Cert.Merge`. -/
module

public import proofs.«01_k».proof.Proof.Gen.Kernel3Ideal.Skeleton
public import proofs.«01_k».proof.Proof.Merge.Spec
public import Idealize.ShloMosaic.Lib.Tactic

@[expose] public section

set_option maxRecDepth 16384

noncomputable section

namespace Cert.Kernel3Ideal.Hand

open Cert.Kernel3Ideal Cert.Kernel3Ideal.Gen Cert.Inproj Cert.Merge
open Idealize.ShloMosaic Idealize.ShloMosaic.TcCoe

theorem pay3_apply (v5 : FVec Ideal S1x512x1024 .f32) (r : Fin 512) (k : Fin 1024) : k0_pay3 (F := Ideal) v5 (ix2 r k) = v5 (ix3 0 r k) := by
  unfold k0_pay3
  pointwise

theorem pay4_apply (v5 : FVec Ideal S1x512x1024 .f32) (v7 : FVec Ideal S1x1024 .f32) (v8 v10 : FVec Ideal S1x1x1024 .f32)
    (r : Fin 512) (k : Fin 1024) :
    k0_pay4 (F := Ideal) v5 v7 v8 v10 (ix2 r k)
      = rowH (fun k => v5 (ix3 0 r k)) (fun k => v7 (ix2 0 k)) (fun k => v8 (ix3 0 0 k)) (fun k => v10 (ix3 0 0 k)) k := by
  unfold k0_pay4 rowH k0_pay3
  pointwise

theorem pay5_apply (v5 : FVec Ideal S1x512x1024 .f32) (v7 : FVec Ideal S1x1024 .f32) (v8 v10 : FVec Ideal S1x1x1024 .f32)
    (w : FVec Ideal S1024x1024 .bf16) (r : Fin 512) (n : Fin 1024) :
    k0_pay5 (F := Ideal) v5 v7 v8 v10 w (ix2 r n)
      = Ideal.logistic (dot (fun k => k0_pay4 (F := Ideal) v5 v7 v8 v10 (ix2 r k)) (fun k n => w (ix2 k n)) n) := by
  unfold k0_pay5 dot
  generalize k0_pay4 (F := Ideal) v5 v7 v8 v10 = H
  pointwise

/-- The mixed rows of a block. -/
def mixB (h : FVec Ideal S512x1024 .bf16) (sa : FVec Ideal S512x1024 .f32) (wb : FVec Ideal S1024x1024 .bf16) (ya yb : FVec Ideal S1x512x512 .bf16)
    (pa pb : FVec Ideal S512x1024 .bf16) (r : Fin 512) (n : Fin 1024) : EReal :=
  sa (ix2 r n) * dot (fun k => ya (ix3 0 r k)) (fun k n => pa (ix2 k n)) n
    + Ideal.logistic (dot (fun k => h (ix2 r k)) (fun k n => wb (ix2 k n)) n) * dot (fun k => yb (ix3 0 r k)) (fun k n => pb (ix2 k n)) n

theorem pay7_apply (x : FVec Ideal S512x1024 .f32) (h : FVec Ideal S512x1024 .bf16) (sa : FVec Ideal S512x1024 .f32) (wb : FVec Ideal S1024x1024 .bf16)
    (ya : FVec Ideal S1x512x512 .bf16) (pa : FVec Ideal S512x1024 .bf16) (yb : FVec Ideal S1x512x512 .bf16) (pb : FVec Ideal S512x1024 .bf16)
    (g1 : FVec Ideal S1x1x1024 .f32) (wo : FVec Ideal S1024x1024 .bf16) (r : Fin 512) (n : Fin 1024) :
    k0_pay7 (F := Ideal) x h sa wb ya pa yb pb g1 wo (ix3 0 r n)
      = x (ix2 r n) + g1 (ix3 0 0 n) * dot (mixB h sa wb ya yb pa pb r) (fun k n => wo (ix2 k n)) n := by
  unfold k0_pay7 k0_pay6 dot mixB dot
  pointwise

end Cert.Kernel3Ideal.Hand

end
-- ==== Proof.Merge.Ref.lean ====
/- The merge's reference, read at an index, in the plain numbers of `Cert.Merge`. -/
module

public import proofs.«01_k».proof.Proof.Gen.Reference3Ideal.Run
public import proofs.«01_k».proof.Proof.Merge.Spec
public import Idealize.ShloMosaic.Lib.Tactic

@[expose] public section

set_option maxRecDepth 16384

noncomputable section

namespace Cert.Reference3Ideal.Hand

open Cert.Reference3Ideal Cert.Reference3Ideal.Gen Cert.Inproj Cert.Merge
open Idealize.ShloMosaic Idealize.ShloMosaic.TcCoe

/-- The normed and modulated rows. -/
def rH (a0 : FVec Ideal S4x4096x1024 .f32) (a3 a4 : FVec Ideal S4x1x1024 .f32) (a8 : FVec Ideal S1x1024 .f32) : FVec Ideal S4x4096x1024 .f32 :=
  addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![1, 2] bcast_S1x1024_S1x1x1024_1_2 a8))) (broadcastInDim S4x4096x1024 ![0, 1, 2] bcast_S4x1x1024_S4x4096x1024_0_1_2 (addf (broadcastInDim S4x1x1024 ![] bcast_S_S4x1x1024 (constant S_ .f32 0x3F800000#32)) a4))) (broadcastInDim S4x4096x1024 ![0, 1, 2] bcast_S4x1x1024_S4x4096x1024_0_1_2 a3)

/-- Their product with the gates' weights. -/
def rZ (h : FVec Ideal S4x4096x1024 .f32) (a10 : FVec Ideal S1024x2048 .bf16) : FVec Ideal S4x4096x2048 .f32 :=
  Host.dotGeneral dot_S4x4096x1024_S1024x2048_S4x4096x2048_2_0_01_1_n_n none h (extf .f32 a10 bitsLt_bf16_f32)

/-- The mixed rows. -/
def rM (Z : FVec Ideal S4x4096x2048 .f32) (a1 a2 : FVec Ideal S4x4096x512 .bf16) (a11 a12 : FVec Ideal S512x1024 .bf16) : FVec Ideal S4x4096x1024 .f32 :=
  addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 0] Z slices_S4x4096x2048_S4x4096x1024_0_0_0))))) (Host.dotGeneral dot_S4x4096x512_S512x1024_S4x4096x1024_2_0_01_1_n_n none (extf .f32 a1 bitsLt_bf16_f32) (extf .f32 a11 bitsLt_bf16_f32))) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] Z slices_S4x4096x2048_S4x4096x1024_0_0_1024))))) (Host.dotGeneral dot_S4x4096x512_S512x1024_S4x4096x1024_2_0_01_1_n_n none (extf .f32 a2 bitsLt_bf16_f32) (extf .f32 a12 bitsLt_bf16_f32)))

/-- The result. -/
def rX (a0 : FVec Ideal S4x4096x1024 .f32) (a5 : FVec Ideal S4x1x1024 .f32) (M : FVec Ideal S4x4096x1024 .f32) (a13 : FVec Ideal S1024x1024 .bf16) : FVec Ideal S4x4096x1024 .f32 :=
  addf a0 (mulf (broadcastInDim S4x4096x1024 ![0, 1, 2] bcast_S4x1x1024_S4x4096x1024_0_1_2 a5) (Host.dotGeneral dot_S4x4096x1024_S1024x1024_S4x4096x1024_2_0_01_1_n_n none M (extf .f32 a13 bitsLt_bf16_f32)))

/-- The result, from the arguments. -/
def xOf (a0 : FVec Ideal S4x4096x1024 .f32) (a1 a2 : FVec Ideal S4x4096x512 .bf16) (a3 a4 a5 : FVec Ideal S4x1x1024 .f32) (a8 : FVec Ideal S1x1024 .f32)
    (a10 : FVec Ideal S1024x2048 .bf16) (a11 a12 : FVec Ideal S512x1024 .bf16) (a13 : FVec Ideal S1024x1024 .bf16) : FVec Ideal S4x4096x1024 .f32 :=
  rX a0 a5 (rM (rZ (rH a0 a3 a4 a8) a10) a1 a2 a11 a12) a13

/-- The buffer ends as it was. -/
local notation "𝕂[" m ", " r ", " c ", " b "]" => MemSt.mem (Prod.snd r) (Thread.loc (Dev.tc c) b) = m (Thread.loc (Dev.tc c) b)

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = xOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg10)) (m ((c.tc : Thread nD τ).loc main_arg11)) (m ((c.tc : Thread nD τ).loc main_arg12)) (m ((c.tc : Thread nD τ).loc main_arg13))
      ∧ 𝕂[m, r, c, main_arg0]
      ∧ 𝕂[m, r, c, main_arg1]
      ∧ 𝕂[m, r, c, main_arg2]
      ∧ 𝕂[m, r, c, main_arg3]
      ∧ 𝕂[m, r, c, main_arg4]
      ∧ 𝕂[m, r, c, main_arg5]
      ∧ 𝕂[m, r, c, main_arg6]
      ∧ 𝕂[m, r, c, main_arg7]
      ∧ 𝕂[m, r, c, main_arg8]
      ∧ 𝕂[m, r, c, main_arg9]
      ∧ 𝕂[m, r, c, main_arg10]
      ∧ 𝕂[m, r, c, main_arg11]
      ∧ 𝕂[m, r, c, main_arg12]
      ∧ 𝕂[m, r, c, main_arg13]
      ∧ 𝕂[m, r, c, main_arg14]
      ∧ 𝕂[m, r, c, main_arg15]
      ∧ 𝕂[m, r, c, main_arg16] :=
  (θ_run _ _ _).mono (fun r h c => ⟨(h c).1.trans rfl, (h c).2⟩) (Value.run (F := Ideal) m ρ)

theorem rH_apply (a0 a3 a4 a8) (b : Fin 4) (r : Fin 4096) (k : Fin 1024) :
    rH a0 a3 a4 a8 (ix3 b r k) = rowH (fun k => a0 (ix3 b r k)) (fun k => a8 (ix2 0 k)) (fun k => a4 (ix3 b 0 k)) (fun k => a3 (ix3 b 0 k)) k := by
  unfold rH rowH
  pointwise

theorem rZ_apply (h a10) (b : Fin 4) (r : Fin 4096) (n : Fin 2048) :
    rZ h a10 (ix3 b r n) = dot (fun k => h (ix3 b r k)) (fun k n => a10 (ix2 k n)) n := by
  unfold rZ dot
  pointwise

theorem rM_apply (Z a1 a2 a11 a12) (b : Fin 4) (r : Fin 4096) (n : Fin 1024) :
    rM Z a1 a2 a11 a12 (ix3 b r n)
      = Ideal.logistic (Z (ix3 b r ⟨n.val, by omega⟩)) * dot (fun k => a1 (ix3 b r k)) (fun k n => a11 (ix2 k n)) n
        + Ideal.logistic (Z (ix3 b r ⟨1024 + n.val, by omega⟩)) * dot (fun k => a2 (ix3 b r k)) (fun k n => a12 (ix2 k n)) n := by
  unfold rM dot Ideal.logistic
  pointwise

theorem rX_apply (a0 a5 M a13) (b : Fin 4) (r : Fin 4096) (n : Fin 1024) :
    rX a0 a5 M a13 (ix3 b r n) = a0 (ix3 b r n) + a5 (ix3 b 0 n) * dot (fun k => M (ix3 b r k)) (fun k n => a13 (ix2 k n)) n := by
  unfold rX dot
  pointwise

theorem xOf_apply (a0 a1 a2 a3 a4 a5 a8 a10 a11 a12 a13) (b : Fin 4) (r : Fin 4096) (n : Fin 1024) :
    xOf a0 a1 a2 a3 a4 a5 a8 a10 a11 a12 a13 (ix3 b r n)
      = rowX (fun k => a0 (ix3 b r k)) (fun k => a8 (ix2 0 k)) (fun k => a4 (ix3 b 0 k)) (fun k => a3 (ix3 b 0 k)) (fun k => a5 (ix3 b 0 k))
        (fun k n => a10 (ix2 k ⟨n.val, by omega⟩)) (fun k n => a10 (ix2 k ⟨1024 + n.val, by omega⟩))
        (fun k => a1 (ix3 b r k)) (fun k => a2 (ix3 b r k)) (fun k n => a11 (ix2 k n)) (fun k n => a12 (ix2 k n)) (fun k n => a13 (ix2 k n)) n := by
  unfold xOf rowX
  rw [rX_apply]
  simp only [rM_apply, rZ_apply, rH_apply]
  rfl

end Cert.Reference3Ideal.Hand

end
-- ==== Proof.Merge.Value.lean ====
/- The merge's first result after the run, at an index, and the reference's equal to it. -/
module

public import proofs.«01_k».proof.Proof.Merge.Ideal.Frame
public import proofs.«01_k».proof.Proof.Merge.Pay
public import proofs.«01_k».proof.Proof.Merge.Ref
public import Idealize.ShloMosaic.Lib.Pipeline.Covers
public import Idealize.ShloMosaic.Lib.Pipeline.ValueKit
public import Idealize.ShloMosaic.Lib.Tactic

@[expose] public section

set_option maxRecDepth 16384

noncomputable section

namespace Cert.Kernel3Ideal.Hand

open Cert.Kernel3Ideal Cert.Kernel3Ideal.Gen Cert.Inproj Cert.Merge
open Cert.Reference3Ideal.Hand (xOf xOf_apply)
open Idealize.ShloMosaic Idealize.ShloMosaic.TcCoe

variable (m : (ℓ : Loc nD τ sig) → Buf (Elt Ideal) ℓ)

abbrev a0 (c : Dev nD) : FVec Ideal S4x4096x1024 .f32 := m ((c.tc : Thread nD τ).loc main_arg0)
abbrev a1 (c : Dev nD) : FVec Ideal S4x4096x512 .bf16 := m ((c.tc : Thread nD τ).loc main_arg1)
abbrev a2 (c : Dev nD) : FVec Ideal S4x4096x512 .bf16 := m ((c.tc : Thread nD τ).loc main_arg2)
abbrev a3 (c : Dev nD) : FVec Ideal S4x1x1024 .f32 := m ((c.tc : Thread nD τ).loc main_arg3)
abbrev a4 (c : Dev nD) : FVec Ideal S4x1x1024 .f32 := m ((c.tc : Thread nD τ).loc main_arg4)
abbrev a5 (c : Dev nD) : FVec Ideal S4x1x1024 .f32 := m ((c.tc : Thread nD τ).loc main_arg5)
abbrev a8 (c : Dev nD) : FVec Ideal S1x1024 .f32 := m ((c.tc : Thread nD τ).loc main_arg8)
abbrev a10 (c : Dev nD) : FVec Ideal S1024x2048 .bf16 := m ((c.tc : Thread nD τ).loc main_arg10)
abbrev a11 (c : Dev nD) : FVec Ideal S512x1024 .bf16 := m ((c.tc : Thread nD τ).loc main_arg11)
abbrev a12 (c : Dev nD) : FVec Ideal S512x1024 .bf16 := m ((c.tc : Thread nD τ).loc main_arg12)
abbrev a13 (c : Dev nD) : FVec Ideal S1024x1024 .bf16 := m ((c.tc : Thread nD τ).loc main_arg13)

theorem N32 : cfg0.N = 32 := N_0

theorem jx0 : ∀ t : Fin cfg0.N, win0_0.index t = ![t.val / 8, t.val % 8, 0] := (by decide +kernel : ∀ t : Fin grid0.N, win0_0.index t = ![t.val / 8, t.val % 8, 0])
theorem jx1 : ∀ t : Fin cfg0.N, win0_1.index t = ![t.val / 8, t.val % 8, 0] := (by decide +kernel : ∀ t : Fin grid0.N, win0_1.index t = ![t.val / 8, t.val % 8, 0])
theorem jx2 : ∀ t : Fin cfg0.N, win0_2.index t = ![t.val / 8, t.val % 8, 0] := (by decide +kernel : ∀ t : Fin grid0.N, win0_2.index t = ![t.val / 8, t.val % 8, 0])
theorem jx3 : ∀ t : Fin cfg0.N, win0_3.index t = ![t.val / 8, 0, 0] := (by decide +kernel : ∀ t : Fin grid0.N, win0_3.index t = ![t.val / 8, 0, 0])
theorem jx4 : ∀ t : Fin cfg0.N, win0_4.index t = ![t.val / 8, 0, 0] := (by decide +kernel : ∀ t : Fin grid0.N, win0_4.index t = ![t.val / 8, 0, 0])
theorem jx5 : ∀ t : Fin cfg0.N, win0_5.index t = ![t.val / 8, 0, 0] := (by decide +kernel : ∀ t : Fin grid0.N, win0_5.index t = ![t.val / 8, 0, 0])
theorem jx8 : ∀ t : Fin cfg0.N, win0_8.index t = ![0, 0] := (by decide +kernel : ∀ t : Fin grid0.N, win0_8.index t = ![0, 0])
theorem jx10 : ∀ t : Fin cfg0.N, win0_10.index t = ![0, 0] := (by decide +kernel : ∀ t : Fin grid0.N, win0_10.index t = ![0, 0])
theorem jx11 : ∀ t : Fin cfg0.N, win0_11.index t = ![0, 0] := (by decide +kernel : ∀ t : Fin grid0.N, win0_11.index t = ![0, 0])
theorem jx12 : ∀ t : Fin cfg0.N, win0_12.index t = ![0, 0] := (by decide +kernel : ∀ t : Fin grid0.N, win0_12.index t = ![0, 0])
theorem jx13 : ∀ t : Fin cfg0.N, win0_13.index t = ![0, 0] := (by decide +kernel : ∀ t : Fin grid0.N, win0_13.index t = ![0, 0])
theorem jx17 : ∀ t : Fin cfg0.N, win0_17.index t = ![t.val / 8, t.val % 8, 0] := (by decide +kernel : ∀ t : Fin grid0.N, win0_17.index t = ![t.val / 8, t.val % 8, 0])

/-- The point's batch and the row's place in it. -/
abbrev bt (t : Fin cfg0.N) : Fin 4 := ⟨t.val / 8, by have := t.isLt; have := N32; omega⟩
abbrev rt (t : Fin cfg0.N) (r : Fin 512) : Fin 4096 := ⟨512 * (t.val % 8) + r.val, by omega⟩

theorem ib0 (c : Dev nD) (t : Fin cfg0.N) (r : Fin 512) (k : Fin 1024) :
    (iblk m c 0 t : FVec Ideal S1x512x1024 .f32) (ix3 0 r k) = a0 m c (ix3 (bt t) (rt t r) k) := by
  show V m c main_arg0 (((cfg0.win 0).blk t).view.emb (ix3 0 r k)) = _
  refine congrArg (a0 m c) (funext fun a => Fin.ext ?_)
  blk_simp [jx0]
  match a with
  | 0 => show t.val / 8 * 1 + 0 = t.val / 8; omega
  | 1 => show t.val % 8 * 512 + r.val = 512 * (t.val % 8) + r.val; omega
  | 2 => show 0 * 1024 + k.val = k.val; omega

theorem ib1 (c : Dev nD) (t : Fin cfg0.N) (r : Fin 512) (k : Fin 512) :
    (iblk m c 1 t : FVec Ideal S1x512x512 .bf16) (ix3 0 r k) = a1 m c (ix3 (bt t) (rt t r) k) := by
  show V m c main_arg1 (((cfg0.win 1).blk t).view.emb (ix3 0 r k)) = _
  refine congrArg (a1 m c) (funext fun a => Fin.ext ?_)
  blk_simp [jx1]
  match a with
  | 0 => show t.val / 8 * 1 + 0 = t.val / 8; omega
  | 1 => show t.val % 8 * 512 + r.val = 512 * (t.val % 8) + r.val; omega
  | 2 => show 0 * 512 + k.val = k.val; omega

theorem ib2 (c : Dev nD) (t : Fin cfg0.N) (r : Fin 512) (k : Fin 512) :
    (iblk m c 2 t : FVec Ideal S1x512x512 .bf16) (ix3 0 r k) = a2 m c (ix3 (bt t) (rt t r) k) := by
  show V m c main_arg2 (((cfg0.win 2).blk t).view.emb (ix3 0 r k)) = _
  refine congrArg (a2 m c) (funext fun a => Fin.ext ?_)
  blk_simp [jx2]
  match a with
  | 0 => show t.val / 8 * 1 + 0 = t.val / 8; omega
  | 1 => show t.val % 8 * 512 + r.val = 512 * (t.val % 8) + r.val; omega
  | 2 => show 0 * 512 + k.val = k.val; omega

theorem ib3 (c : Dev nD) (t : Fin cfg0.N) (k : Fin 1024) :
    (iblk m c 3 t : FVec Ideal S1x1x1024 .f32) (ix3 0 0 k) = a3 m c (ix3 (bt t) 0 k) := by
  show V m c main_arg3 (((cfg0.win 3).blk t).view.emb (ix3 0 0 k)) = _
  refine congrArg (a3 m c) (funext fun a => Fin.ext ?_)
  blk_simp [jx3]
  match a with
  | 0 => show t.val / 8 * 1 + 0 = t.val / 8; omega
  | 1 => show 0 * 1 + 0 = 0; omega
  | 2 => show 0 * 1024 + k.val = k.val; omega

theorem ib4 (c : Dev nD) (t : Fin cfg0.N) (k : Fin 1024) :
    (iblk m c 4 t : FVec Ideal S1x1x1024 .f32) (ix3 0 0 k) = a4 m c (ix3 (bt t) 0 k) := by
  show V m c main_arg4 (((cfg0.win 4).blk t).view.emb (ix3 0 0 k)) = _
  refine congrArg (a4 m c) (funext fun a => Fin.ext ?_)
  blk_simp [jx4]
  match a with
  | 0 => show t.val / 8 * 1 + 0 = t.val / 8; omega
  | 1 => show 0 * 1 + 0 = 0; omega
  | 2 => show 0 * 1024 + k.val = k.val; omega

theorem ib5 (c : Dev nD) (t : Fin cfg0.N) (k : Fin 1024) :
    (iblk m c 5 t : FVec Ideal S1x1x1024 .f32) (ix3 0 0 k) = a5 m c (ix3 (bt t) 0 k) := by
  show V m c main_arg5 (((cfg0.win 5).blk t).view.emb (ix3 0 0 k)) = _
  refine congrArg (a5 m c) (funext fun a => Fin.ext ?_)
  blk_simp [jx5]
  match a with
  | 0 => show t.val / 8 * 1 + 0 = t.val / 8; omega
  | 1 => show 0 * 1 + 0 = 0; omega
  | 2 => show 0 * 1024 + k.val = k.val; omega

theorem ib8 (c : Dev nD) (t : Fin cfg0.N) (k : Fin 1024) :
    (iblk m c 8 t : FVec Ideal S1x1024 .f32) (ix2 0 k) = a8 m c (ix2 0 k) := by
  show V m c main_arg8 (((cfg0.win 8).blk t).view.emb (ix2 0 k)) = _
  refine congrArg (a8 m c) (funext fun a => Fin.ext ?_)
  blk_simp [jx8]
  match a with
  | 0 => show 0 * 1 + 0 = 0; omega
  | 1 => show 0 * 1024 + k.val = k.val; omega

theorem ib10 (c : Dev nD) (t : Fin cfg0.N) (k : Fin 1024) (n : Fin 2048) :
    (iblk m c 10 t : FVec Ideal S1024x2048 .bf16) (ix2 k n) = a10 m c (ix2 k n) := by
  show V m c main_arg10 (((cfg0.win 10).blk t).view.emb (ix2 k n)) = _
  refine congrArg (a10 m c) (funext fun a => Fin.ext ?_)
  blk_simp [jx10]
  match a with
  | 0 => show 0 * 1024 + k.val = k.val; omega
  | 1 => show 0 * 2048 + n.val = n.val; omega

theorem ib11 (c : Dev nD) (t : Fin cfg0.N) (k : Fin 512) (n : Fin 1024) :
    (iblk m c 11 t : FVec Ideal S512x1024 .bf16) (ix2 k n) = a11 m c (ix2 k n) := by
  show V m c main_arg11 (((cfg0.win 11).blk t).view.emb (ix2 k n)) = _
  refine congrArg (a11 m c) (funext fun a => Fin.ext ?_)
  blk_simp [jx11]
  match a with
  | 0 => show 0 * 512 + k.val = k.val; omega
  | 1 => show 0 * 1024 + n.val = n.val; omega

theorem ib12 (c : Dev nD) (t : Fin cfg0.N) (k : Fin 512) (n : Fin 1024) :
    (iblk m c 12 t : FVec Ideal S512x1024 .bf16) (ix2 k n) = a12 m c (ix2 k n) := by
  show V m c main_arg12 (((cfg0.win 12).blk t).view.emb (ix2 k n)) = _
  refine congrArg (a12 m c) (funext fun a => Fin.ext ?_)
  blk_simp [jx12]
  match a with
  | 0 => show 0 * 512 + k.val = k.val; omega
  | 1 => show 0 * 1024 + n.val = n.val; omega

theorem ib13 (c : Dev nD) (t : Fin cfg0.N) (k : Fin 1024) (n : Fin 1024) :
    (iblk m c 13 t : FVec Ideal S1024x1024 .bf16) (ix2 k n) = a13 m c (ix2 k n) := by
  show V m c main_arg13 (((cfg0.win 13).blk t).view.emb (ix2 k n)) = _
  refine congrArg (a13 m c) (funext fun a => Fin.ext ?_)
  blk_simp [jx13]
  match a with
  | 0 => show 0 * 1024 + k.val = k.val; omega
  | 1 => show 0 * 1024 + n.val = n.val; omega

/-- The halves of the gates' weights. -/
theorem wgA_apply (b : Blk Ideal) (k n : Fin 1024) : wgA b (ix2 k n) = b.x10 (ix2 k ⟨n.val, by omega⟩) := by
  show b.x10 _ = _
  refine congrArg b.x10 (funext fun a => Fin.ext ?_)
  match a with
  | 0 => show 0 + 1 * k.val = k.val; omega
  | 1 => show 0 + 1 * n.val = n.val; omega
theorem wgB_apply (b : Blk Ideal) (k n : Fin 1024) : wgB b (ix2 k n) = b.x10 (ix2 k ⟨1024 + n.val, by omega⟩) := by
  show b.x10 _ = _
  refine congrArg b.x10 (funext fun a => Fin.ext ?_)
  match a with
  | 0 => show 0 + 1 * k.val = k.val; omega
  | 1 => show 1024 + 1 * n.val = 1024 + n.val; omega

/-- A block's result at one element. -/
theorem x1V_apply (b : Blk Ideal) (r : Fin 512) (n : Fin 1024) :
    x1V b (ix3 0 r n) = rowX (fun k => b.x0 (ix3 0 r k)) (fun k => b.x8 (ix2 0 k)) (fun k => b.x4 (ix3 0 0 k)) (fun k => b.x3 (ix3 0 0 k)) (fun k => b.x5 (ix3 0 0 k))
        (fun k n => b.x10 (ix2 k ⟨n.val, by omega⟩)) (fun k n => b.x10 (ix2 k ⟨1024 + n.val, by omega⟩))
        (fun k => b.x1 (ix3 0 r k)) (fun k => b.x2 (ix3 0 r k)) (fun k n => b.x11 (ix2 k n)) (fun k n => b.x12 (ix2 k n)) (fun k n => b.x13 (ix2 k n)) n := by
  unfold x1V x1R rowX
  rw [pay7_apply, pay3_apply]
  refine congrArg (fun M => b.x0 (ix3 0 r n) + b.x5 (ix3 0 0 n) * dot M (fun k n => b.x13 (ix2 k n)) n) (funext fun k => ?_)
  unfold mixB mixed
  simp only [pay5_apply, pay4_apply, wgA_apply, wgB_apply]

/-- The reference's result, from the kernel's arguments. -/
def oX (c : Dev nD) : FVec Ideal S4x4096x1024 .f32 :=
  xOf (a0 m c) (a1 m c) (a2 m c) (a3 m c) (a4 m c) (a5 m c) (a8 m c) (a10 m c) (a11 m c) (a12 m c) (a13 m c)

theorem val17 (c : Dev nD) (t : Fin cfg0.N) (r : Fin 512) (n : Fin 1024) :
    x1V (blkAt m c t) (ix3 0 r n) = oX m c (ix3 (bt t) (rt t r) n) := by
  unfold oX
  rw [x1V_apply, xOf_apply]
  dsimp only [blkAt]
  simp only [ib0, ib1, ib2, ib3, ib4, ib5, ib8, ib10, ib11, ib12, ib13]

theorem emb17 (t : Fin cfg0.N) (y : S1x512x1024.Idx) :
    (((cfg0.win 17).blk t).view.emb y : S4x4096x1024.Idx) = ix3 (bt t) (rt t (y 1)) (y 2) := by
  have hy : (y 0).val = 0 := by have : (y 0).val < 1 := (y 0).isLt; omega
  refine funext fun a => Fin.ext ?_
  blk_simp [jx17]
  match a with
  | 0 => show t.val / 8 * 1 + (y 0).val = t.val / 8; omega
  | 1 => show t.val % 8 * 512 + (y 1).val = 512 * (t.val % 8) + (y 1).val; omega
  | 2 => show 0 * 1024 + (y 2).val = (y 2).val; omega

theorem eta3 {n₀ n₁ n₂ : ℕ} (y : (⟨3, ![n₀, n₁, n₂]⟩ : Shape).Idx) : y = ix3 (y 0) (y 1) (y 2) := by
  funext a
  match a with
  | 0 => rfl
  | 1 => rfl
  | 2 => rfl

theorem arr17 (c : Dev nD) : (dats m 0 c).arrAt 17 cfg0.N = oX m c := by
  have key : ∀ (t : Fin cfg0.N) (y : S1x512x1024.Idx), (dats m 0 c).after 17 t y = oX m c (((cfg0.win 17).blk t).view.emb y) := by
    intro t y
    have hy : y 0 = (0 : Fin 1) := Fin.ext (by have : (y 0).val < 1 := (y 0).isLt; show (y 0).val = 0; omega)
    rw [after17]
    refine Eq.trans ?_ ((val17 m c t (y 1) (y 2)).trans (congrArg (oX m c) (emb17 t y)).symm)
    refine congrArg _ ((eta3 y).trans ?_)
    rw [hy]
    rfl
  generalize oX m c = G at key ⊢
  exact (dats m 0 c).arrAt_eq_of_covers 17 G (by decide +kernel) fun t hf y => key t y

/-- The buffer ends as it was. -/
local notation "𝕂[" r ", " c ", " b "]" => MemSt.mem (Prod.snd r) (Thread.loc (Dev.tc c) b) = m (Thread.loc (Dev.tc c) b)

/-- The kernel's run, with the reference's value in the first output array. -/
theorem run_val (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = oX m c
      ∧ 𝕂[r, c, main_arg0]
      ∧ 𝕂[r, c, main_arg1]
      ∧ 𝕂[r, c, main_arg2]
      ∧ 𝕂[r, c, main_arg3]
      ∧ 𝕂[r, c, main_arg4]
      ∧ 𝕂[r, c, main_arg5]
      ∧ 𝕂[r, c, main_arg6]
      ∧ 𝕂[r, c, main_arg7]
      ∧ 𝕂[r, c, main_arg8]
      ∧ 𝕂[r, c, main_arg9]
      ∧ 𝕂[r, c, main_arg10]
      ∧ 𝕂[r, c, main_arg11]
      ∧ 𝕂[r, c, main_arg12]
      ∧ 𝕂[r, c, main_arg13]
      ∧ 𝕂[r, c, main_arg14]
      ∧ 𝕂[r, c, main_arg15]
      ∧ 𝕂[r, c, main_arg16]) :=
  (θ_run defs _ _).mono (fun _ h c => ⟨((h.1 c).1 17).trans (arr17 m c),
    kept m c h.1 0 rfl,
    kept m c h.1 1 rfl,
    kept m c h.1 2 rfl,
    kept m c h.1 3 rfl,
    kept m c h.1 4 rfl,
    kept m c h.1 5 rfl,
    kept m c h.1 6 rfl,
    kept m c h.1 7 rfl,
    kept m c h.1 8 rfl,
    kept m c h.1 9 rfl,
    kept m c h.1 10 rfl,
    kept m c h.1 11 rfl,
    kept m c h.1 12 rfl,
    kept m c h.1 13 rfl,
    kept m c h.1 14 rfl,
    kept m c h.1 15 rfl,
    kept m c h.1 16 rfl⟩) (run_main m ρ)

end Cert.Kernel3Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Tables
public import proofs.«01_k».proof.Proof.Ideal.Tables
public import proofs.«01_k».proof.Proof.Ideal.Value
public import proofs.«01_k».proof.Proof.Gen.Pre_blocks_sorted
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Inproj.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Merge.Bits.Frame
public import proofs.«01_k».proof.Proof.Merge.Value
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_blocks_sorted.Gen.facts, ?_, ?_, ?_, ?_, ?_, ?_, ?_, ?_, ?_, ?_, ?_, ?_, ?_, ?_, ?_⟩
  · exact fun m g h => (θ_run _ _ _).mono (fun _ hr => ⟨fun c => (hr.1 c).2, hr.2⟩) (Cert.Kernel.Hand.run_args (m := m) g h)
  · exact fun m g h => (θ_run _ _ _).mono (fun _ hr => ⟨fun c => (hr.1 c).2, hr.2⟩) (Cert.KernelIdeal.Hand.run_args (m := m) g h)
  · exact fun m g _ => (θ_run _ _ _).mono (fun r h => ⟨fun c => (h c).2, sem_eq_zero_of_no_sems (by decide) r.2⟩) (Cert.ReferenceIdeal.Value.run (F := Ideal) m g)
  · exact fun m g _ => Cert.Kernel2.Gen.frame (F := Bits) m g
  · exact fun m g _ => Cert.Kernel2Ideal.Gen.frame (F := Ideal) m g
  · exact fun m g _ => (θ_run _ _ _).mono (fun r h => ⟨fun c => (h c).2.2.2.2.2, sem_eq_zero_of_no_sems (by decide) r.2⟩) (Cert.Reference2Ideal.Hand.run_named m g)
  · exact fun m g _ => Cert.Kernel3.Hand.frame (F := Bits) m g
  · exact fun m g _ => Cert.Kernel3Ideal.Hand.frame (F := Ideal) m g
  · exact fun m g _ => (θ_run _ _ _).mono (fun r h => ⟨fun c => (h c).2, sem_eq_zero_of_no_sems (by decide) r.2⟩) (Cert.Reference3Ideal.Hand.run_named m g)
  · trivial
  · intro m g m' g' hp hag
    refine ⟨fun _ => Cert.KernelIdeal.Hand.outG m, Cert.KernelIdeal.Hand.run_val g hp, ?_⟩
    refine (θ_run _ _ _).mono (fun r hr c => ⟨(hr c).1.trans ?_, (hr c).2⟩) (Cert.ReferenceIdeal.Value.run (F := Ideal) m' g')
    obtain rfl : c = 0 := Subsingleton.elim _ _
    obtain ⟨h0, h1, h2, h3, h4, h5, h6⟩ := hag 0
    exact Cert.KernelIdeal.Hand.ref_val m' 0 h0 h1 h2 h3 h4 h5 h6
  · trivial
  · intro m g m' g' _ hag
    refine ⟨Cert.Kernel2Ideal.Hand.oYa m, Cert.Kernel2Ideal.Hand.oV m, Cert.Kernel2Ideal.Hand.oQi m,
      Cert.Kernel2Ideal.Hand.oKi m, Cert.Kernel2Ideal.Hand.oWi m, Cert.Kernel2Ideal.Hand.run_val m g, ?_⟩
    refine (θ_run _ _ _).mono (fun r hr c => ?_) (Cert.Reference2Ideal.Hand.run_named m' g')
    obtain ⟨h0, h1, h2, h3, h4, h5, _, _, _, h9⟩ := hag c
    have hZ : Cert.Reference2Ideal.Hand.Zof m' c = Cert.Kernel2Ideal.Hand.Zarr m c := by
      unfold Cert.Reference2Ideal.Hand.Zof Cert.Kernel2Ideal.Hand.Zarr
      rw [h0, h1, h2, h3, h4]
    have h := hr c
    rw [hZ, h5, h9] at h
    exact ⟨h.1, h.2.1, h.2.2.1, h.2.2.2.1, h.2.2.2.2.1, (hr c).2.2.2.2.2⟩
  · trivial
  · intro m g m' g' _ hag
    refine ⟨Cert.Kernel3Ideal.Hand.oX m, Cert.Kernel3Ideal.Hand.run_val m g, ?_⟩
    refine (θ_run _ _ _).mono (fun r hr c => ?_) (Cert.Reference3Ideal.Hand.run_named m' g')
    obtain ⟨h0, h1, h2, h3, h4, h5, _, _, h8, _, h10, h11, h12, h13, _, _, _⟩ := hag c
    have h := (hr c).1
    rw [h0, h1, h2, h3, h4, h5, h8, h10, h11, h12, h13] at h
    exact ⟨h, (hr c).2⟩

end Cert.Proof

end
